-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "log2e_tau" .f32 0x3DB8AA3B#32 (((Real.log 2)⁻¹ * 16⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)) (v4 : (c : Dev Cert.Kernel4Ideal.nD) → Buf (Elt Ideal) ((c.tc : Thread Cert.Kernel4Ideal.nD Cert.Kernel4Ideal.τ).loc Cert.Kernel4Ideal.main_v28_4)) (v5 : (c : Dev Cert.Kernel4Ideal.nD) → Buf (Elt Ideal) ((c.tc : Thread Cert.Kernel4Ideal.nD Cert.Kernel4Ideal.τ).loc Cert.Kernel4Ideal.main_v28_5)) (v6 : (c : Dev Cert.Kernel4Ideal.nD) → Buf (Elt Ideal) ((c.tc : Thread Cert.Kernel4Ideal.nD Cert.Kernel4Ideal.τ).loc Cert.Kernel4Ideal.main_v28_6)) (v7 : (c : Dev Cert.Kernel4Ideal.nD) → Buf (Elt Ideal) ((c.tc : Thread Cert.Kernel4Ideal.nD Cert.Kernel4Ideal.τ).loc Cert.Kernel4Ideal.main_v28_7)) (v8 : (c : Dev Cert.Kernel4Ideal.nD) → Buf (Elt Ideal) ((c.tc : Thread Cert.Kernel4Ideal.nD Cert.Kernel4Ideal.τ).loc Cert.Kernel4Ideal.main_v28_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_v28_4) = v4 c
          ∧ r.2.mem ((c.tc : Thread Cert.Kernel4Ideal.nD Cert.Kernel4Ideal.τ).loc Cert.Kernel4Ideal.main_v28_5) = v5 c
          ∧ r.2.mem ((c.tc : Thread Cert.Kernel4Ideal.nD Cert.Kernel4Ideal.τ).loc Cert.Kernel4Ideal.main_v28_6) = v6 c
          ∧ r.2.mem ((c.tc : Thread Cert.Kernel4Ideal.nD Cert.Kernel4Ideal.τ).loc Cert.Kernel4Ideal.main_v28_7) = v7 c
          ∧ r.2.mem ((c.tc : Thread Cert.Kernel4Ideal.nD Cert.Kernel4Ideal.τ).loc Cert.Kernel4Ideal.main_v28_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v117) = v0 c
          ∧ r.2.mem ((c.tc : Thread Cert.Reference4Ideal.nD Cert.Reference4Ideal.τ).loc Cert.Reference4Ideal.main_v118) = v1 c
          ∧ r.2.mem ((c.tc : Thread Cert.Reference4Ideal.nD Cert.Reference4Ideal.τ).loc Cert.Reference4Ideal.main_v120) = v2 c
          ∧ r.2.mem ((c.tc : Thread Cert.Reference4Ideal.nD Cert.Reference4Ideal.τ).loc Cert.Reference4Ideal.main_v122) = v3 c
          ∧ r.2.mem ((c.tc : Thread Cert.Reference4Ideal.nD Cert.Reference4Ideal.τ).loc Cert.Reference4Ideal.main_v124) = v4 c
          ∧ r.2.mem ((c.tc : Thread Cert.Reference4Ideal.nD Cert.Reference4Ideal.τ).loc Cert.Reference4Ideal.main_v126) = v5 c
          ∧ r.2.mem ((c.tc : Thread Cert.Reference4Ideal.nD Cert.Reference4Ideal.τ).loc Cert.Reference4Ideal.main_v127) = v6 c
          ∧ r.2.mem ((c.tc : Thread Cert.Reference4Ideal.nD Cert.Reference4Ideal.τ).loc Cert.Reference4Ideal.main_v128) = v7 c
          ∧ r.2.mem ((c.tc : Thread Cert.Reference4Ideal.nD Cert.Reference4Ideal.τ).loc Cert.Reference4Ideal.main_v130) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S65536x512 : Shape := ⟨2, ![65536, 512]⟩
abbrev S1024x512 : Shape := ⟨2, ![1024, 512]⟩
abbrev S65536x1024 : Shape := ⟨2, ![65536, 1024]⟩
abbrev S1x4x256 : Shape := ⟨3, ![1, 4, 256]⟩
abbrev S1x1024x1024 : Shape := ⟨3, ![1, 1024, 1024]⟩
abbrev S_ : Shape := ⟨0, ![]⟩

class Facts : Prop where
  bitsLt_bf16_f32 : FTy.bits .bf16 < FTy.bits .f32
  bcast_S_S65536x512 : S_.BroadcastsInDim S65536x512 (![] : Fin 0 → Fin S65536x512.rank)
  bcast_S_S1024x512 : S_.BroadcastsInDim S1024x512 (![] : Fin 0 → Fin S1024x512.rank)
  bcast_S_S65536x1024 : S_.BroadcastsInDim S65536x1024 (![] : Fin 0 → Fin S65536x1024.rank)

variable [Facts]

def fn {F : FTy → Type} [FloatOps F] (main_arg0 : FVec F S65536x512 .bf16) (main_arg1 : FVec F S65536x512 .bf16) (main_arg2 : FVec F S65536x512 .bf16) (main_arg3 : FVec F S65536x512 .bf16) (main_arg4 : FVec F S1024x512 .f32) (main_arg5 : FVec F S65536x1024 .bf16) (main_arg6 : FVec F S65536x1024 .bf16) (main_arg7 : FVec F S65536x1024 .bf16) (main_arg8 : FVec F S65536x1024 .bf16) (main_arg9 : FVec F S1x4x256 .f32) (main_arg10 : FVec F S1x1024x1024 .f32) (main_arg11 : FVec F S1x1024x1024 .f32) : IVec S65536x512 1 × IVec S65536x512 1 × IVec S1024x512 1 × IVec S65536x1024 1 :=
  let main_v0 : FVec F S65536x512 .f32 := (extf .f32 · bitsLt_bf16_f32) main_arg2
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_v4 : FVec F S65536x512 .f32 := (extf .f32 · bitsLt_bf16_f32) main_arg3
  let main_v5 : FVec F S65536x512 .f32 := Host.absf main_v4
  let main_cst_0 : FVec F S_ .f32 := constant S_ .f32 0x7F800000#32
  let main_v6 : FVec F S65536x512 .f32 := broadcastInDim S65536x512 ![] bcast_S_S65536x512 main_cst_0
  let main_v7 : IVec S65536x512 1 := cmpf .olt main_v5 main_v6
  let main_v8 : FVec F S1024x512 .f32 := Host.absf main_arg4
  let main_cst_1 : FVec F S_ .f32 := constant S_ .f32 0x7F800000#32
  let main_v9 : FVec F S1024x512 .f32 := broadcastInDim S1024x512 ![] bcast_S_S1024x512 main_cst_1
  let main_v10 : IVec S1024x512 1 := cmpf .olt main_v8 main_v9
  let main_v11 : FVec F S65536x1024 .f32 := (extf .f32 · bitsLt_bf16_f32) main_arg5
  let main_v12 : FVec F S65536x1024 .f32 := Host.absf main_v11
  let main_cst_2 : FVec F S_ .f32 := constant S_ .f32 0x7F800000#32
  let main_v13 : FVec F S65536x1024 .f32 := broadcastInDim S65536x1024 ![] bcast_S_S65536x1024 main_cst_2
  let main_v14 : IVec S65536x1024 1 := cmpf .olt main_v12 main_v13
  (main_v3, main_v7, main_v10, main_v14)
-- ==== Kernel.lean ====
abbrev S65536x512 : Shape := ⟨2, ![65536, 512]⟩
abbrev S1024x512 : Shape := ⟨2, ![1024, 512]⟩
abbrev S65536x1024 : Shape := ⟨2, ![65536, 1024]⟩
abbrev S1x4x256 : Shape := ⟨3, ![1, 4, 256]⟩
abbrev S1x1024x1024 : Shape := ⟨3, ![1, 1024, 1024]⟩
abbrev S4x256 : Shape := ⟨2, ![4, 256]⟩
abbrev S1x1024 : Shape := ⟨2, ![1, 1024]⟩
abbrev S1024x1024 : Shape := ⟨2, ![1024, 1024]⟩
abbrev S16x512 : Shape := ⟨2, ![16, 512]⟩
abbrev S4x128x256 : Shape := ⟨3, ![4, 128, 256]⟩
abbrev S112x128 : Shape := ⟨2, ![112, 128]⟩
abbrev S16x128 : Shape := ⟨2, ![16, 128]⟩
abbrev S128x128 : Shape := ⟨2, ![128, 128]⟩
abbrev S64x128 : Shape := ⟨2, ![64, 128]⟩
abbrev S64x256 : Shape := ⟨2, ![64, 256]⟩
abbrev S128x256 : Shape := ⟨2, ![128, 256]⟩
abbrev S1x128 : Shape := ⟨2, ![1, 128]⟩
abbrev S1x128x256 : Shape := ⟨3, ![1, 128, 256]⟩
abbrev S256x256 : Shape := ⟨2, ![256, 256]⟩
abbrev S128x1 : Shape := ⟨2, ![128, 1]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩

abbrev nBuf : Space → Nat
  | .hbm => 19
  | .vmem => 25
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S1024x512, .f32⟩
  | .hbm, ⟨5, _⟩ => ⟨S65536x1024, .bf16⟩
  | .hbm, ⟨6, _⟩ => ⟨S65536x1024, .bf16⟩
  | .hbm, ⟨7, _⟩ => ⟨S65536x1024, .bf16⟩
  | .hbm, ⟨8, _⟩ => ⟨S65536x1024, .bf16⟩
  | .hbm, ⟨9, _⟩ => ⟨S1x4x256, .f32⟩
  | .hbm, ⟨10, _⟩ => ⟨S1x1024x1024, .f32⟩
  | .hbm, ⟨11, _⟩ => ⟨S1x1024x1024, .f32⟩
  | .hbm, ⟨12, _⟩ => ⟨S4x256, .f32⟩
  | .hbm, ⟨13, _⟩ => ⟨S1x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S65536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S16x512, .f32⟩
  | .local _ .vmem, ⟨9, _⟩ => ⟨S16x512, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | .local _ .vmem, ⟨23, _⟩ => ⟨S4x128x256, .f32⟩
  | .local _ .vmem, ⟨24, _⟩ => ⟨S1024x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S65536x512 : Shape := ⟨2, ![65536, 512]⟩
abbrev S1024x512 : Shape := ⟨2, ![1024, 512]⟩
abbrev S65536x1024 : Shape := ⟨2, ![65536, 1024]⟩
abbrev S1x4x256 : Shape := ⟨3, ![1, 4, 256]⟩
abbrev S1x1024x1024 : Shape := ⟨3, ![1, 1024, 1024]⟩
abbrev S_ : Shape := ⟨0, ![]⟩
abbrev S8x4x128x256 : Shape := ⟨4, ![8, 4, 128, 256]⟩
abbrev S8x128x4x128 : Shape := ⟨4, ![8, 128, 4, 128]⟩
abbrev S8x4x128x128 : Shape := ⟨4, ![8, 4, 128, 128]⟩
abbrev S8x128x64x4x128 : Shape := ⟨5, ![8, 128, 64, 4, 128]⟩
abbrev S8x4x128x64x128 : Shape := ⟨5, ![8, 4, 128, 64, 128]⟩
abbrev S128x8x4x64x128 : Shape := ⟨5, ![128, 8, 4, 64, 128]⟩
abbrev S8x128x64x4x256 : Shape := ⟨5, ![8, 128, 64, 4, 256]⟩
abbrev S8x4x128x64x256 : Shape := ⟨5, ![8, 4, 128, 64, 256]⟩
abbrev S128x8x4x64x256 : Shape := ⟨5, ![128, 8, 4, 64, 256]⟩
abbrev S128x8x4x128 : Shape := ⟨4, ![128, 8, 4, 128]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S8x4x128x64x64 : Shape := ⟨5, ![8, 4, 128, 64, 64]⟩
abbrev S64x64 : Shape := ⟨2, ![64, 64]⟩
abbrev S8x8192x4x256 : Shape := ⟨4, ![8, 8192, 4, 256]⟩
abbrev S8x8192x4 : Shape := ⟨3, ![8, 8192, 4]⟩
abbrev S8x8192x4x1 : Shape := ⟨4, ![8, 8192, 4, 1]⟩
abbrev S4x256 : Shape := ⟨2, ![4, 256]⟩
abbrev S1x1x4x256 : Shape := ⟨4, ![1, 1, 4, 256]⟩
abbrev S1024x1024 : Shape := ⟨2, ![1024, 1024]⟩

abbrev nBuf : Space → Nat
  | .hbm => 137
  | .vmem => 0
  | .smem => 0
  | _ => 0

abbrev hbmTy0_0 (i : Nat) : BufTy := match i % 128 with
  | 0 => ⟨S65536x512, .bf16⟩
  | 1 => ⟨S65536x512, .bf16⟩
  | 2 => ⟨S65536x512, .bf16⟩
  | 3 => ⟨S65536x512, .bf16⟩
  | 4 => ⟨S1024x512, .f32⟩
  | 5 => ⟨S65536x1024, .bf16⟩
  | 6 => ⟨S65536x1024, .bf16⟩
  | 7 => ⟨S65536x1024, .bf16⟩
  | 8 => ⟨S65536x1024, .bf16⟩
  | 9 => ⟨S1x4x256, .f32⟩
  | 10 => ⟨S1x1024x1024, .f32⟩
  | 11 => ⟨S1x1024x1024, .f32⟩
  | 12 => ⟨S_, .f32⟩
  | 13 => ⟨S8x4x128x256, .f32⟩
  | 14 => ⟨S8x128x4x128, .f32⟩
  | 15 => ⟨S8x4x128x128, .f32⟩
  | 16 => ⟨S65536x512, .f32⟩
  | 17 => ⟨S8x128x64x4x128, .f32⟩
  | 18 => ⟨S8x4x128x64x128, .f32⟩
  | 19 => ⟨S128x8x4x64x128, .f32⟩
  | 20 => ⟨S65536x512, .f32⟩
  | 21 => ⟨S8x128x64x4x128, .f32⟩
  | 22 => ⟨S8x4x128x64x128, .f32⟩
  | 23 => ⟨S128x8x4x64x128, .f32⟩
  | 24 => ⟨S65536x1024, .f32⟩
  | 25 => ⟨S8x128x64x4x256, .f32⟩
  | 26 => ⟨S8x4x128x64x256, .f32⟩
  | 27 => ⟨S128x8x4x64x256, .f32⟩
  | 28 => ⟨S128x8x4x128, .f32⟩
  | 29 => ⟨S_, .f32⟩
  | 30 => ⟨S128x8x4x64x256, .f32⟩
  | 31 => ⟨S_, .i32⟩
  | 32 => ⟨S128x8x4x64x128, .f32⟩
  | 33 => ⟨S128x8x4x64x128, .f32⟩
  | 34 => ⟨S128x8x4x64x256, .f32⟩
  | 35 => ⟨S128x8x4x128, .f32⟩
  | 36 => ⟨S_, .i32⟩
  | 37 => ⟨S8x4x128x256, .f32⟩
  | 38 => ⟨S128x8x4x64x256, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x8x4x64x128, .f32⟩
  | 46 => ⟨S8x4x64x128, .f32⟩
  | 47 => ⟨S_, .i32⟩
  | 48 => ⟨S_, .i32⟩
  | 49 => ⟨S_, .i32⟩
  | 50 => ⟨S_, .i32⟩
  | 51 => ⟨S1x8x4x64x128, .f32⟩
  | 52 => ⟨S8x4x64x128, .f32⟩
  | 53 => ⟨S_, .i32⟩
  | 54 => ⟨S_, .i32⟩
  | 55 => ⟨S_, .i32⟩
  | 56 => ⟨S_, .i32⟩
  | 57 => ⟨S1x8x4x64x256, .f32⟩
  | 58 => ⟨S8x4x64x256, .f32⟩
  | 59 => ⟨S_, .i32⟩
  | 60 => ⟨S_, .i32⟩
  | 61 => ⟨S_, .i32⟩
  | 62 => ⟨S1x8x4x128, .f32⟩
  | 63 => ⟨S8x4x128, .f32⟩
  | 64 => ⟨S8x4x64x256, .f32⟩
  | 65 => ⟨S8x4x128x1, .f32⟩
  | 66 => ⟨S8x4x128x256, .f32⟩
  | 67 => ⟨S8x4x128x256, .f32⟩
  | 68 => ⟨S8x4x128x256, .f32⟩
  | 69 => ⟨S8x4x128x256, .f32⟩
  | 70 => ⟨S1x8x4x64x256, .f32⟩
  | 71 => ⟨S_, .i32⟩
  | 72 => ⟨S_, .i32⟩
  | 73 => ⟨S_, .i32⟩
  | 74 => ⟨S_, .i32⟩
  | 75 => ⟨S128x8x4x64x256, .f32⟩
  | 76 => ⟨S_, .i32⟩
  | 77 => ⟨S_, .i32⟩
  | 78 => ⟨S65536x512, .f32⟩
  | 79 => ⟨S8x128x64x4x128, .f32⟩
  | 80 => ⟨S8x4x128x64x128, .f32⟩
  | 81 => ⟨S65536x512, .f32⟩
  | 82 => ⟨S8x128x64x4x128, .f32⟩
  | 83 => ⟨S8x4x128x64x128, .f32⟩
  | 84 => ⟨S8x4x128x64x64, .f32⟩
  | 85 => ⟨S_, .i1⟩
  | 86 => ⟨S64x64, .i1⟩
  | 87 => ⟨S64x64, .i32⟩
  | 88 => ⟨S_, .i32⟩
  | 89 => ⟨S64x64, .i32⟩
  | 90 => ⟨S64x64, .i32⟩
  | 91 => ⟨S64x64, .i32⟩
  | 92 => ⟨S64x64, .i1⟩
  | 93 => ⟨S_, .i1⟩
  | 94 => ⟨S64x64, .i1⟩
  | 95 => ⟨S64x64, .i1⟩
  | 96 => ⟨S_, .f32⟩
  | 97 => ⟨S_, .f32⟩
  | 98 => ⟨S8x4x128x64x64, .i1⟩
  | 99 => ⟨S8x4x128x64x64, .f32⟩
  | 100 => ⟨S8x4x128x64x64, .f32⟩
  | 101 => ⟨S65536x1024, .f32⟩
  | 102 => ⟨S8x128x64x4x256, .f32⟩
  | 103 => ⟨S8x4x128x64x256, .f32⟩
  | 104 => ⟨S8x4x128x64x256, .f32⟩
  | 105 => ⟨S8x4x128x64x256, .f32⟩
  | 106 => ⟨S8x4x128x64x256, .f32⟩
  | 107 => ⟨S8x128x64x4x256, .f32⟩
  | 108 => ⟨S8x8192x4x256, .f32⟩
  | 109 => ⟨S8x8192x4x256, .f32⟩
  | 110 => ⟨S_, .f32⟩
  | 111 => ⟨S8x8192x4, .f32⟩
  | 112 => ⟨S8x8192x4x1, .f32⟩
  | 113 => ⟨S_, .f32⟩
  | 114 => ⟨S8x8192x4x1, .f32⟩
  | 115 => ⟨S8x8192x4x1, .f32⟩
  | 116 => ⟨S_, .f32⟩
  | 117 => ⟨S8x8192x4x1, .f32⟩
  | 118 => ⟨S8x8192x4x1, .f32⟩
  | 119 => ⟨S8x8192x4x1, .f32⟩
  | 120 => ⟨S8x8192x4x256, .f32⟩
  | 121 => ⟨S8x8192x4x256, .f32⟩
  | 122 => ⟨S4x256, .f32⟩
  | 123 => ⟨S1x1x4x256, .f32⟩
  | 124 => ⟨S8x8192x4x256, .f32⟩
  | 125 => ⟨S8x8192x4x256, .f32⟩
  | 126 => ⟨S65536x1024, .f32⟩
  | 127 => ⟨S65536x1024, .f32⟩
  | _ => ⟨S65536x512, .bf16⟩

abbrev hbmTy0_1 (i : Nat) : BufTy := match i % 128 with
  | 0 => ⟨S65536x1024, .f32⟩
  | 1 => ⟨S1024x1024, .f32⟩
  | 2 => ⟨S65536x1024, .f32⟩
  | 3 => ⟨S65536x1024, .f32⟩
  | 4 => ⟨S65536x1024, .f32⟩
  | 5 => ⟨S65536x1024, .f32⟩
  | 6 => ⟨S65536x1024, .f32⟩
  | 7 => ⟨S1024x1024, .f32⟩
  | 8 => ⟨S65536x1024, .f32⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_c : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev main_v17_4 : Ref sig .tc := ⟨.hbm, 36, rfl⟩
abbrev main_v17_5 : Ref sig .tc := ⟨.hbm, 37, rfl⟩
abbrev main_v17_6 : Ref sig .tc := ⟨.hbm, 38, rfl⟩
abbrev main_while0c_c_12 : Ref sig .tc := ⟨.hbm, 39, rfl⟩
abbrev main_while0c_v61 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_c_2 : Ref sig .tc := ⟨.hbm, 44, rfl⟩
abbrev main_while0b_call0_v0 : Ref sig .tc := ⟨.hbm, 45, rfl⟩
abbrev main_while0b_v61 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_c_1 : Ref sig .tc := ⟨.hbm, 49, rfl⟩
abbrev main_while0b_call1_c_2 : Ref sig .tc := ⟨.hbm, 50, rfl⟩
abbrev main_while0b_call1_v0 : Ref sig .tc := ⟨.hbm, 51, rfl⟩
abbrev main_while0b_v62 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_c_2 : Ref sig .tc := ⟨.hbm, 56, rfl⟩
abbrev main_while0b_call2_v0 : Ref sig .tc := ⟨.hbm, 57, rfl⟩
abbrev main_while0b_v63 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_call3_v0 : Ref sig .tc := ⟨.hbm, 62, rfl⟩
abbrev main_while0b_v64 : Ref sig .tc := ⟨.hbm, 63, rfl⟩
abbrev main_while0b_v65 : Ref sig .tc := ⟨.hbm, 64, rfl⟩
abbrev main_while0b_v66 : Ref sig .tc := ⟨.hbm, 65, rfl⟩
abbrev main_while0b_v67 : Ref sig .tc := ⟨.hbm, 66, rfl⟩
abbrev main_while0b_v68 : Ref sig .tc := ⟨.hbm, 67, rfl⟩
abbrev main_while0b_v69 : Ref sig .tc := ⟨.hbm, 68, rfl⟩
abbrev main_while0b_v70 : Ref sig .tc := ⟨.hbm, 69, rfl⟩
abbrev main_while0b_call4_v0 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_call4_c_1 : Ref sig .tc := ⟨.hbm, 73, rfl⟩
abbrev main_while0b_call4_c_2 : Ref sig .tc := ⟨.hbm, 74, rfl⟩
abbrev main_while0b_v71 : Ref sig .tc := ⟨.hbm, 75, rfl⟩
abbrev main_while0b_c_12 : Ref sig .tc := ⟨.hbm, 76, rfl⟩
abbrev main_while0b_v72 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_c_1 : Ref sig .tc := ⟨.hbm, 85, rfl⟩
abbrev main_v25 : Ref sig .tc := ⟨.hbm, 86, rfl⟩
abbrev main_call5_v0 : Ref sig .tc := ⟨.hbm, 87, rfl⟩
abbrev main_call5_c : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_c_0 : Ref sig .tc := ⟨.hbm, 93, rfl⟩
abbrev main_call5_v5 : Ref sig .tc := ⟨.hbm, 94, rfl⟩
abbrev main_v26 : Ref sig .tc := ⟨.hbm, 95, rfl⟩
abbrev main_cst_2 : Ref sig .tc := ⟨.hbm, 96, rfl⟩
abbrev main_call6_v0 : Ref sig .tc := ⟨.hbm, 97, rfl⟩
abbrev main_call6_v1 : Ref sig .tc := ⟨.hbm, 98, rfl⟩
abbrev main_call6_v2 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_cst_3 : Ref sig .tc := ⟨.hbm, 110, rfl⟩
abbrev main_v37 : Ref sig .tc := ⟨.hbm, 111, rfl⟩
abbrev main_v38 : Ref sig .tc := ⟨.hbm, 112, rfl⟩
abbrev main_cst_4 : Ref sig .tc := ⟨.hbm, 113, rfl⟩
abbrev main_v39 : Ref sig .tc := ⟨.hbm, 114, rfl⟩
abbrev main_v40 : Ref sig .tc := ⟨.hbm, 115, rfl⟩
abbrev main_cst_5 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S65536x1024 : Shape := ⟨2, ![65536, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 14
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S1x1024, .f32⟩
  | .hbm, ⟨13, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S65536x1024 : Shape := ⟨2, ![65536, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x5632 : Shape := ⟨2, ![1024, 5632]⟩
abbrev S2816x1024 : Shape := ⟨2, ![2816, 1024]⟩
abbrev S65536x5632 : Shape := ⟨2, ![65536, 5632]⟩
abbrev S65536x2816 : Shape := ⟨2, ![65536, 2816]⟩

abbrev nBuf : Space → Nat
  | .hbm => 60
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S65536x1024, .f32⟩
  | .hbm, ⟨7, _⟩ => ⟨S1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S1024x5632, .f32⟩
  | .hbm, ⟨25, _⟩ => ⟨S2816x1024, .f32⟩
  | .hbm, ⟨26, _⟩ => ⟨S65536x5632, .f32⟩
  | .hbm, ⟨27, _⟩ => ⟨S65536x2816, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S_, .f32⟩
  | .hbm, ⟨32, _⟩ => ⟨S65536x2816, .f32⟩
  | .hbm, ⟨33, _⟩ => ⟨S65536x2816, .f32⟩
  | .hbm, ⟨34, _⟩ => ⟨S_, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S65536x1024, .f32⟩
  | .hbm, ⟨40, _⟩ => ⟨S_, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel3.lean ====
abbrev S65536x1024 : Shape := ⟨2, ![65536, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 15
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S1x1024, .f32⟩
  | .hbm, ⟨13, _⟩ => ⟨S65536x1024, .f32⟩
  | .hbm, ⟨14, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S65536x1024 : Shape := ⟨2, ![65536, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x5632 : Shape := ⟨2, ![1024, 5632]⟩
abbrev S2816x1024 : Shape := ⟨2, ![2816, 1024]⟩
abbrev S65536x5632 : Shape := ⟨2, ![65536, 5632]⟩
abbrev S65536x2816 : Shape := ⟨2, ![65536, 2816]⟩

abbrev nBuf : Space → Nat
  | .hbm => 60
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S1024x5632, .f32⟩
  | .hbm, ⟨23, _⟩ => ⟨S2816x1024, .f32⟩
  | .hbm, ⟨24, _⟩ => ⟨S65536x5632, .f32⟩
  | .hbm, ⟨25, _⟩ => ⟨S65536x2816, .f32⟩
  | .hbm, ⟨26, _⟩ => ⟨S65536x2816, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S_, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S1024, .f32⟩
  | .hbm, ⟨43, _⟩ => ⟨S65536x1024, .f32⟩
  | .hbm, ⟨44, _⟩ => ⟨S_, .f32⟩
  | .hbm, ⟨45, _⟩ => ⟨S65536, .f32⟩
  | .hbm, ⟨46, _⟩ => ⟨S65536x1, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1, .f32⟩
  | .hbm, ⟨54, _⟩ => ⟨S65536x1024, .f32⟩
  | .hbm, ⟨55, _⟩ => ⟨S65536x1024, .f32⟩
  | .hbm, ⟨56, _⟩ => ⟨S1x1024, .f32⟩
  | .hbm, ⟨57, _⟩ => ⟨S65536x1024, .f32⟩
  | .hbm, ⟨58, _⟩ => ⟨S65536x1024, .f32⟩
  | .hbm, ⟨59, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel4.lean ====
abbrev S65536x1024 : Shape := ⟨2, ![65536, 1024]⟩
abbrev S1x1024x7184 : Shape := ⟨3, ![1, 1024, 7184]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x16x512 : Shape := ⟨3, ![1, 16, 512]⟩
abbrev S1x512 : Shape := ⟨2, ![1, 512]⟩
abbrev S1x1024x1024 : Shape := ⟨3, ![1, 1024, 1024]⟩
abbrev S1024x7184 : Shape := ⟨2, ![1024, 7184]⟩
abbrev S_ : Shape := ⟨0, ![]⟩
abbrev S128x128 : Shape := ⟨2, ![128, 128]⟩
abbrev S1024x2048 : Shape := ⟨2, ![1024, 2048]⟩
abbrev S2048 : Shape := ⟨1, ![2048]⟩
abbrev S1024 : Shape := ⟨1, ![1024]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024x1024 : Shape := ⟨2, ![1024, 1024]⟩
abbrev S16x512 : Shape := ⟨2, ![16, 512]⟩
abbrev S128x512 : Shape := ⟨2, ![128, 512]⟩
abbrev S512 : Shape := ⟨1, ![512]⟩
abbrev S65536x512 : Shape := ⟨2, ![65536, 512]⟩
abbrev S1024x512 : Shape := ⟨2, ![1024, 512]⟩
abbrev S512x1024 : Shape := ⟨2, ![512, 1024]⟩
abbrev S512x512 : Shape := ⟨2, ![512, 512]⟩
abbrev S8x512 : Shape := ⟨2, ![8, 512]⟩
abbrev S1024x128 : Shape := ⟨2, ![1024, 128]⟩
abbrev S512x128 : Shape := ⟨2, ![512, 128]⟩
abbrev S512x2048 : Shape := ⟨2, ![512, 2048]⟩
abbrev S64x8x512 : Shape := ⟨3, ![64, 8, 512]⟩
abbrev S8x8x8x512 : Shape := ⟨4, ![8, 8, 8, 512]⟩
abbrev S8x1x8x512 : Shape := ⟨4, ![8, 1, 8, 512]⟩
abbrev S8x8x512 : Shape := ⟨3, ![8, 8, 512]⟩
abbrev S8x1x512 : Shape := ⟨3, ![8, 1, 512]⟩
abbrev S8x64x512 : Shape := ⟨3, ![8, 64, 512]⟩
abbrev S512x1 : Shape := ⟨2, ![512, 1]⟩

abbrev nBuf : Space → Nat
  | .hbm => 63
  | .vmem => 30
  | .smem => 0
  | _ => 0

abbrev bufTy : (tb : Table) → Fin (tcTables nBuf tb) → BufTy
  | .hbm, ⟨0, _⟩ => ⟨S65536x1024, .bf16⟩
  | .hbm, ⟨1, _⟩ => ⟨S1x1024x7184, .f32⟩
  | .hbm, ⟨2, _⟩ => ⟨S1x2048, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x16x512, .f32⟩
  | .hbm, ⟨8, _⟩ => ⟨S1x512, .f32⟩
  | .hbm, ⟨9, _⟩ => ⟨S1x1024x1024, .f32⟩
  | .hbm, ⟨10, _⟩ => ⟨S1x1024x1024, .f32⟩
  | .hbm, ⟨11, _⟩ => ⟨S1024x7184, .f32⟩
  | .hbm, ⟨12, _⟩ => ⟨S1024x7184, .bf16⟩
  | .hbm, ⟨13, _⟩ => ⟨S_, .i1⟩
  | .hbm, ⟨14, _⟩ => ⟨S128x128, .i1⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S_, .i1⟩
  | .hbm, ⟨22, _⟩ => ⟨S128x128, .i1⟩
  | .hbm, ⟨23, _⟩ => ⟨S128x128, .i1⟩
  | .hbm, ⟨24, _⟩ => ⟨S1024x2048, .bf16⟩
  | .hbm, ⟨25, _⟩ => ⟨S2048, .f32⟩
  | .hbm, ⟨26, _⟩ => ⟨S1x2048, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x128x128, .i1⟩
  | .hbm, ⟨32, _⟩ => ⟨S8x128x128, .f32⟩
  | .hbm, ⟨33, _⟩ => ⟨S_, .f32⟩
  | .hbm, ⟨34, _⟩ => ⟨S_, .f32⟩
  | .hbm, ⟨35, _⟩ => ⟨S8x128x128, .i1⟩
  | .hbm, ⟨36, _⟩ => ⟨S8x128x128, .f32⟩
  | .hbm, ⟨37, _⟩ => ⟨S8x128x128, .f32⟩
  | .hbm, ⟨38, _⟩ => ⟨S8x128x128, .bf16⟩
  | .hbm, ⟨39, _⟩ => ⟨S8x128, .f32⟩
  | .hbm, ⟨40, _⟩ => ⟨S128x8, .f32⟩
  | .hbm, ⟨41, _⟩ => ⟨S128x8x128, .f32⟩
  | .hbm, ⟨42, _⟩ => ⟨S128x1024, .f32⟩
  | .hbm, ⟨43, _⟩ => ⟨S1024x1024, .f32⟩
  | .hbm, ⟨44, _⟩ => ⟨S1024x1024, .bf16⟩
  | .hbm, ⟨45, _⟩ => ⟨S16x512, .f32⟩
  | .hbm, ⟨46, _⟩ => ⟨S16x512, .bf16⟩
  | .hbm, ⟨47, _⟩ => ⟨S_, .i32⟩
  | .hbm, ⟨48, _⟩ => ⟨S_, .bf16⟩
  | .hbm, ⟨49, _⟩ => ⟨S128x512, .bf16⟩
  | .hbm, ⟨50, _⟩ => ⟨S512, .f32⟩
  | .hbm, ⟨51, _⟩ => ⟨S1x512, .f32⟩
  | .hbm, ⟨52, _⟩ => ⟨S1024x1024, .f32⟩
  | .hbm, ⟨53, _⟩ => ⟨S1024x1024, .bf16⟩
  | .hbm, ⟨54, _⟩ => ⟨S65536x1024, .bf16⟩
  | .hbm, ⟨55, _⟩ => ⟨S65536x1024, .bf16⟩
  | .hbm, ⟨56, _⟩ => ⟨S65536x512, .bf16⟩
  | .hbm, ⟨57, _⟩ => ⟨S65536x512, .bf16⟩
  | .hbm, ⟨58, _⟩ => ⟨S65536x512, .bf16⟩
  | .hbm, ⟨59, _⟩ => ⟨S65536x512, .bf16⟩
  | .hbm, ⟨60, _⟩ => ⟨S1024x512, .f32⟩
  | .hbm, ⟨61, _⟩ => ⟨S65536x1024, .bf16⟩
  | .hbm, ⟨62, _⟩ => ⟨S65536x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x7184, .bf16⟩
  | .local _ .vmem, ⟨3, _⟩ => ⟨S1024x2048, .bf16⟩
  | .local _ .vmem, ⟨4, _⟩ => ⟨S128x512, .bf16⟩
  | .local _ .vmem, ⟨5, _⟩ => ⟨S1x512, .f32⟩
  | .local _ .vmem, ⟨6, _⟩ => ⟨S1x2048, .f32⟩
  | .local _ .vmem, ⟨7, _⟩ => ⟨S1x1024, .f32⟩
  | .local _ .vmem, ⟨8, _⟩ => ⟨S1x1024, .f32⟩
  | .local _ .vmem, ⟨9, _⟩ => ⟨S8x128x128, .bf16⟩
  | .local _ .vmem, ⟨10, _⟩ => ⟨S128x1024, .f32⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S8x512, .f32⟩
  | .local _ .vmem, ⟨25, _⟩ => ⟨S8x512, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_0 : Ref sig .tc := ⟨.hbm, 47, rfl⟩
abbrev main_call2_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_v28_2 : Ref sig .tc := ⟨.hbm, 56, rfl⟩
abbrev main_v28_3 : Ref sig .tc := ⟨.hbm, 57, rfl⟩
abbrev main_v28_4 : Ref sig .tc := ⟨.hbm, 58, rfl⟩
abbrev main_v28_5 : Ref sig .tc := ⟨.hbm, 59, rfl⟩
abbrev main_v28_6 : Ref sig .tc := ⟨.hbm, 60, rfl⟩
abbrev main_v28_7 : Ref sig .tc := ⟨.hbm, 61, rfl⟩
abbrev main_v28_8 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7184 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel4Ideal.lean ====
variable {F : FTy → Type} [FloatOps F] [Named F]
def κ : String → Option EReal := fun
  | "log2e_tau" => some (((Real.log 2)⁻¹ * 16⁻¹ : ℝ) : EReal)
  | _ => none
-- ==== Reference4Ideal.lean ====
abbrev S65536x1024 : Shape := ⟨2, ![65536, 1024]⟩
abbrev S1x1024x7184 : Shape := ⟨3, ![1, 1024, 7184]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x16x512 : Shape := ⟨3, ![1, 16, 512]⟩
abbrev S1x512 : Shape := ⟨2, ![1, 512]⟩
abbrev S1x1024x1024 : Shape := ⟨3, ![1, 1024, 1024]⟩
abbrev S1024x7184 : Shape := ⟨2, ![1024, 7184]⟩
abbrev S65536x7184 : Shape := ⟨2, ![65536, 7184]⟩
abbrev S65536x512 : Shape := ⟨2, ![65536, 512]⟩
abbrev S65536x16 : Shape := ⟨2, ![65536, 16]⟩
abbrev S65536x2048 : Shape := ⟨2, ![65536, 2048]⟩
abbrev S2048 : Shape := ⟨1, ![2048]⟩
abbrev S_ : Shape := ⟨0, ![]⟩
abbrev S1024 : Shape := ⟨1, ![1024]⟩
abbrev S65536 : Shape := ⟨1, ![65536]⟩
abbrev S65536x1 : Shape := ⟨2, ![65536, 1]⟩
abbrev S512x128x8x128 : Shape := ⟨4, ![512, 128, 8, 128]⟩
abbrev S128x128 : Shape := ⟨2, ![128, 128]⟩
abbrev S1x128x128 : Shape := ⟨3, ![1, 128, 128]⟩
abbrev S8x128x128 : Shape := ⟨3, ![8, 128, 128]⟩
abbrev S8x512x128x128 : Shape := ⟨4, ![8, 512, 128, 128]⟩
abbrev S8x128 : Shape := ⟨2, ![8, 128]⟩
abbrev S128x8 : Shape := ⟨2, ![128, 8]⟩
abbrev S1x128x8x1 : Shape := ⟨4, ![1, 128, 8, 1]⟩
abbrev S1024x1024 : Shape := ⟨2, ![1024, 1024]⟩
abbrev S16x512 : Shape := ⟨2, ![16, 512]⟩
abbrev S512 : Shape := ⟨1, ![512]⟩
abbrev S1024x64x512 : Shape := ⟨3, ![1024, 64, 512]⟩
abbrev S1024x1x512 : Shape := ⟨3, ![1024, 1, 512]⟩
abbrev S1024x512 : Shape := ⟨2, ![1024, 512]⟩

abbrev nBuf : Space → Nat
  | .hbm => 193
  | .vmem => 0
  | .smem => 0
  | _ => 0

abbrev hbmTy0_0 (i : Nat) : BufTy := match i % 128 with
  | 0 => ⟨S65536x1024, .bf16⟩
  | 1 => ⟨S1x1024x7184, .f32⟩
  | 2 => ⟨S1x2048, .f32⟩
  | 3 => ⟨S1x1024, .f32⟩
  | 4 => ⟨S1x1024, .f32⟩
  | 5 => ⟨S1x8x128x128, .f32⟩
  | 6 => ⟨S1x8x128, .f32⟩
  | 7 => ⟨S1x16x512, .f32⟩
  | 8 => ⟨S1x512, .f32⟩
  | 9 => ⟨S1x1024x1024, .f32⟩
  | 10 => ⟨S1x1024x1024, .f32⟩
  | 11 => ⟨S65536x1024, .f32⟩
  | 12 => ⟨S1024x7184, .f32⟩
  | 13 => ⟨S65536x7184, .f32⟩
  | 14 => ⟨S65536x1024, .f32⟩
  | 15 => ⟨S65536x1024, .f32⟩
  | 16 => ⟨S65536x512, .f32⟩
  | 17 => ⟨S65536x512, .f32⟩
  | 18 => ⟨S65536x1024, .f32⟩
  | 19 => ⟨S65536x1024, .f32⟩
  | 20 => ⟨S65536x16, .f32⟩
  | 21 => ⟨S65536x2048, .f32⟩
  | 22 => ⟨S2048, .f32⟩
  | 23 => ⟨S1x2048, .f32⟩
  | 24 => ⟨S65536x2048, .f32⟩
  | 25 => ⟨S65536x2048, .f32⟩
  | 26 => ⟨S65536x2048, .f32⟩
  | 27 => ⟨S65536x2048, .f32⟩
  | 28 => ⟨S_, .f32⟩
  | 29 => ⟨S65536x2048, .f32⟩
  | 30 => ⟨S65536x2048, .f32⟩
  | 31 => ⟨S_, .f32⟩
  | 32 => ⟨S65536x2048, .f32⟩
  | 33 => ⟨S65536x2048, .f32⟩
  | 34 => ⟨S65536x1024, .f32⟩
  | 35 => ⟨S65536x1024, .f32⟩
  | 36 => ⟨S_, .f32⟩
  | 37 => ⟨S65536x1024, .f32⟩
  | 38 => ⟨S65536x1024, .f32⟩
  | 39 => ⟨S_, .f32⟩
  | 40 => ⟨S65536x1024, .f32⟩
  | 41 => ⟨S65536x1024, .f32⟩
  | 42 => ⟨S65536x1024, .f32⟩
  | 43 => ⟨S_, .f32⟩
  | 44 => ⟨S65536x1024, .f32⟩
  | 45 => ⟨S65536x1024, .f32⟩
  | 46 => ⟨S65536x1024, .f32⟩
  | 47 => ⟨S_, .f32⟩
  | 48 => ⟨S65536x1024, .f32⟩
  | 49 => ⟨S65536x1024, .f32⟩
  | 50 => ⟨S_, .f32⟩
  | 51 => ⟨S65536x1024, .f32⟩
  | 52 => ⟨S65536x1024, .f32⟩
  | 53 => ⟨S65536x1024, .f32⟩
  | 54 => ⟨S_, .f32⟩
  | 55 => ⟨S65536x1024, .f32⟩
  | 56 => ⟨S65536x1024, .f32⟩
  | 57 => ⟨S65536x1024, .f32⟩
  | 58 => ⟨S1024, .f32⟩
  | 59 => ⟨S1024, .f32⟩
  | 60 => ⟨S_, .f32⟩
  | 61 => ⟨S65536, .f32⟩
  | 62 => ⟨S65536x1, .f32⟩
  | 63 => ⟨S_, .f32⟩
  | 64 => ⟨S65536x1, .f32⟩
  | 65 => ⟨S65536x1, .f32⟩
  | 66 => ⟨S65536x1024, .f32⟩
  | 67 => ⟨S65536x1024, .f32⟩
  | 68 => ⟨S65536x1024, .f32⟩
  | 69 => ⟨S_, .f32⟩
  | 70 => ⟨S65536, .f32⟩
  | 71 => ⟨S65536x1, .f32⟩
  | 72 => ⟨S_, .f32⟩
  | 73 => ⟨S65536x1, .f32⟩
  | 74 => ⟨S65536x1, .f32⟩
  | 75 => ⟨S65536x1024, .f32⟩
  | 76 => ⟨S65536x1024, .f32⟩
  | 77 => ⟨S_, .f32⟩
  | 78 => ⟨S65536x1, .f32⟩
  | 79 => ⟨S65536x1, .f32⟩
  | 80 => ⟨S65536x1, .f32⟩
  | 81 => ⟨S65536x1024, .f32⟩
  | 82 => ⟨S65536x1024, .f32⟩
  | 83 => ⟨S1x1024, .f32⟩
  | 84 => ⟨S65536x1024, .f32⟩
  | 85 => ⟨S65536x1024, .f32⟩
  | 86 => ⟨S1x1024, .f32⟩
  | 87 => ⟨S65536x1024, .f32⟩
  | 88 => ⟨S65536x1024, .f32⟩
  | 89 => ⟨S512x128x8x128, .f32⟩
  | 90 => ⟨S_, .i1⟩
  | 91 => ⟨S128x128, .i1⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i1⟩
  | 99 => ⟨S128x128, .i1⟩
  | 100 => ⟨S128x128, .i1⟩
  | 101 => ⟨S1x128x128, .i1⟩
  | 102 => ⟨S8x128x128, .f32⟩
  | 103 => ⟨S8x128x128, .f32⟩
  | 104 => ⟨S_, .f32⟩
  | 105 => ⟨S8x128x128, .f32⟩
  | 106 => ⟨S8x128x128, .i1⟩
  | 107 => ⟨S8x128x128, .f32⟩
  | 108 => ⟨S8x512x128x128, .f32⟩
  | 109 => ⟨S512x128x8x128, .f32⟩
  | 110 => ⟨S8x128, .f32⟩
  | 111 => ⟨S128x8, .f32⟩
  | 112 => ⟨S1x128x8x1, .f32⟩
  | 113 => ⟨S512x128x8x128, .f32⟩
  | 114 => ⟨S512x128x8x128, .f32⟩
  | 115 => ⟨S65536x1024, .f32⟩
  | 116 => ⟨S65536x1024, .f32⟩
  | 117 => ⟨S1024x1024, .f32⟩
  | 118 => ⟨S65536x1024, .f32⟩
  | 119 => ⟨S16x512, .f32⟩
  | 120 => ⟨S65536x512, .f32⟩
  | 121 => ⟨S512, .f32⟩
  | 122 => ⟨S1x512, .f32⟩
  | 123 => ⟨S65536x512, .f32⟩
  | 124 => ⟨S65536x512, .f32⟩
  | 125 => ⟨S65536x512, .f32⟩
  | 126 => ⟨S_, .f32⟩
  | 127 => ⟨S65536x512, .f32⟩
  | _ => ⟨S65536x1024, .bf16⟩

abbrev hbmTy0_1 (i : Nat) : BufTy := match i % 128 with
  | 0 => ⟨S65536x512, .f32⟩
  | 1 => ⟨S65536x512, .f32⟩
  | 2 => ⟨S65536x512, .f32⟩
  | 3 => ⟨S65536x512, .i1⟩
  | 4 => ⟨S65536x512, .f32⟩
  | 5 => ⟨S65536x512, .f32⟩
  | 6 => ⟨S65536x512, .f32⟩
  | 7 => ⟨S65536x512, .f32⟩
  | 8 => ⟨S65536x512, .f32⟩
  | 9 => ⟨S65536x512, .f32⟩
  | 10 => ⟨S65536x512, .f32⟩
  | 11 => ⟨S65536x512, .f32⟩
  | 12 => ⟨S65536x512, .f32⟩
  | 13 => ⟨S_, .f32⟩
  | 14 => ⟨S65536x512, .f32⟩
  | 15 => ⟨S65536x512, .f32⟩
  | 16 => ⟨S1024x64x512, .f32⟩
  | 17 => ⟨S_, .f32⟩
  | 18 => ⟨S1024x64x512, .f32⟩
  | 19 => ⟨S1024x64x512, .f32⟩
  | 20 => ⟨S1024x64x512, .f32⟩
  | 21 => ⟨S1024x64x512, .f32⟩
  | 22 => ⟨S_, .f32⟩
  | 23 => ⟨S_, .f32⟩
  | 24 => ⟨S1024x64x512, .f32⟩
  | 25 => ⟨S1024x1x512, .f32⟩
  | 26 => ⟨S1024x1x512, .f32⟩
  | 27 => ⟨S1024x64x512, .f32⟩
  | 28 => ⟨S1024x64x512, .f32⟩
  | 29 => ⟨S1024x64x512, .f32⟩
  | 30 => ⟨S1024x64x512, .f32⟩
  | 31 => ⟨S1024x64x512, .f32⟩
  | 32 => ⟨S1024x64x512, .f32⟩
  | 33 => ⟨S1024x64x512, .f32⟩
  | 34 => ⟨S1024x64x512, .f32⟩
  | 35 => ⟨S1024x64x512, .f32⟩
  | 36 => ⟨S1024x64x512, .f32⟩
  | 37 => ⟨S1024x64x512, .f32⟩
  | 38 => ⟨S1024x64x512, .f32⟩
  | 39 => ⟨S1024x64x512, .f32⟩
  | 40 => ⟨S1024x64x512, .f32⟩
  | 41 => ⟨S1024x1x512, .f32⟩
  | 42 => ⟨S65536x1024, .f32⟩
  | 43 => ⟨S65536x1024, .bf16⟩
  | 44 => ⟨S65536x1024, .bf16⟩
  | 45 => ⟨S65536x512, .f32⟩
  | 46 => ⟨S65536x512, .bf16⟩
  | 47 => ⟨S65536x512, .f32⟩
  | 48 => ⟨S65536x512, .bf16⟩
  | 49 => ⟨S65536x512, .f32⟩
  | 50 => ⟨S65536x512, .bf16⟩
  | 51 => ⟨S65536x512, .f32⟩
  | 52 => ⟨S65536x512, .bf16⟩
  | 53 => ⟨S1024x512, .f32⟩
  | 54 => ⟨S65536x1024, .bf16⟩
  | 55 => ⟨S65536x1024, .f32⟩
  | 56 => ⟨S65536x1024, .f32⟩
  | 57 => ⟨S_, .f32⟩
  | 58 => ⟨S65536x1024, .f32⟩
  | 59 => ⟨S65536x1024, .f32⟩
  | 60 => ⟨S_, .f32⟩
  | 61 => ⟨S65536x1024, .f32⟩
  | 62 => ⟨S65536x1024, .f32⟩
  | 63 => ⟨S65536x1024, .f32⟩
  | 64 => ⟨S65536x1024, .bf16⟩
  | _ => ⟨S65536x1024, .bf16⟩

abbrev hbmTy (i : Nat) : BufTy := match i / 128 with
  | 0 => hbmTy0_0 i
  | 1 => hbmTy0_1 i
  | _ => ⟨S65536x1024, .bf16⟩

abbrev bufTy : (tb : Table) → Fin (tcTables nBuf tb) → BufTy
  | .hbm, ⟨i, _⟩ => hbmTy i
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c : Ref sig .tc := ⟨.hbm, 90, rfl⟩
abbrev main_v66 : Ref sig .tc := ⟨.hbm, 91, rfl⟩
abbrev main_call0_v0 : Ref sig .tc := ⟨.hbm, 92, rfl⟩
abbrev main_call0_c : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_c_0 : Ref sig .tc := ⟨.hbm, 98, rfl⟩
abbrev main_call0_v5 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_call1_v0 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call2_v0 : Ref sig .tc := ⟨.hbm, 125, rfl⟩
abbrev main_call2_call0_cst : Ref sig .tc := ⟨.hbm, 126, rfl⟩
abbrev main_call2_call0_v0 : Ref sig .tc := ⟨.hbm, 127, rfl⟩
abbrev main_call2_call0_v1 : Ref sig .tc := ⟨.hbm, 128, rfl⟩
abbrev main_call2_call0_v2 : Ref sig .tc := ⟨.hbm, 129, rfl⟩
abbrev main_call2_call0_v3 : Ref sig .tc := ⟨.hbm, 130, rfl⟩
abbrev main_call2_call0_v4 : Ref sig .tc := ⟨.hbm, 131, rfl⟩
abbrev main_call2_call0_v5 : Ref sig .tc := ⟨.hbm, 132, rfl⟩
abbrev main_call2_call0_v6 : Ref sig .tc := ⟨.hbm, 133, rfl⟩
abbrev main_call2_call0_v7 : Ref sig .tc := ⟨.hbm, 134, rfl⟩
abbrev main_call2_call0_v8 : Ref sig .tc := ⟨.hbm, 135, rfl⟩
abbrev main_call2_call0_v9 : Ref sig .tc := ⟨.hbm, 136, rfl⟩
abbrev main_call2_call0_v10 : Ref sig .tc := ⟨.hbm, 137, rfl⟩
abbrev main_call2_call0_v11 : Ref sig .tc := ⟨.hbm, 138, rfl⟩
abbrev main_call2_v1 : Ref sig .tc := ⟨.hbm, 139, rfl⟩
abbrev main_v90 : Ref sig .tc := ⟨.hbm, 140, rfl⟩
abbrev main_cst_13 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_14 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_call3_call0_cst : Ref sig .tc := ⟨.hbm, 150, rfl⟩
abbrev main_call3_call0_v0 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_call4_v0 : Ref sig .tc := ⟨.hbm, 183, rfl⟩
abbrev main_call4_v1 : Ref sig .tc := ⟨.hbm, 184, rfl⟩
abbrev main_call4_cst : Ref sig .tc := ⟨.hbm, 185, rfl⟩
abbrev main_call4_v2 : Ref sig .tc := ⟨.hbm, 186, rfl⟩
abbrev main_call4_v3 : Ref sig .tc := ⟨.hbm, 187, rfl⟩
abbrev main_call4_cst_0 : Ref sig .tc := ⟨.hbm, 188, rfl⟩
abbrev main_call4_v4 : Ref sig .tc := ⟨.hbm, 189, rfl⟩
abbrev main_call4_v5 : Ref sig .tc := ⟨.hbm, 190, rfl⟩
abbrev main_v129 : Ref sig .tc := ⟨.hbm, 191, rfl⟩
abbrev main_v130 : Ref sig .tc := ⟨.hbm, 192, rfl⟩

abbrev nD : Nat := 1
abbrev τ : Topo := Topo.v7x

variable {F : FTy → Type} [FloatOps F]
-- ==== Proof.GlaPair.lean ====
/-
  What one grid point of the kernel computes, as functions of the pieces of its blocks.

  The block of a grid point holds 16 chunks of 64 positions. The kernel takes them two at a time: for chunks `2p` and `2p+1` and a
  head it makes the masked scores (`scoreA`, `scoreB`), the keys-times-values product of the pair (`kvPair`), the pair's outputs
  (`pairOut`) and the state after the pair (`pairState`). `stateAt` iterates the state over the pairs. `partRms` and `tail` are what
  the kernel does with the outputs of the whole block.
-/
module

public import proofs.«01_k».proof.Proof.Gen.KernelIdeal.Skeleton

@[expose] public section

noncomputable section

namespace Cert.Gla

open Idealize.ShloMosaic Cert.KernelIdeal Cert.KernelIdeal.Gen

variable {F : FTy → Type} [FloatOps F]

/-- The masked scores of the first chunk of a pair; the second half of the lanes multiplies zeros. -/
def scoreA (q k : Vec F S64x128 .bf16) : FVec F S64x128 .bf16 :=
  truncf .bf16 (select k0_pay8
    (matmul dot_S64x128_S128x128_S64x128_1_1_0_0_n_n none q
      (concatenate S128x128 0 [⟨S64x128, k⟩, ⟨S64x128, k0_pay10 (F := F)⟩] concatenates_S64x128_S64x128_S128x128_d0)
      (constant S64x128 .f32 0x00000000#32))
    (broadcast S64x128 (Scalar.ofBits .f32 0x00000000#32))) bitsLt_bf16_f32

/-- The scores of the second chunk of a pair: against the first chunk's state keys on the left lanes, masked against its own keys
    on the right ones. -/
def scoreB (ksta qoutb qinb kinb : Vec F S64x128 .bf16) : FVec F S64x128 .bf16 :=
  truncf .bf16 (select k0_pay9
    (matmul dot_S64x256_S128x256_S64x128_1_1_0_0_n_n none
      (concatenate S64x256 1 [⟨S64x128, qoutb⟩, ⟨S64x128, qinb⟩] concatenates_S64x128_S64x128_S64x256_d1)
      (concatenate S128x256 0
        [⟨S64x256, concatenate S64x256 1 [⟨S64x128, ksta⟩, ⟨S64x128, k0_pay10 (F := F)⟩] concatenates_S64x128_S64x128_S64x256_d1⟩,
         ⟨S64x256, concatenate S64x256 1 [⟨S64x128, k0_pay10 (F := F)⟩, ⟨S64x128, kinb⟩] concatenates_S64x128_S64x128_S64x256_d1⟩]
        concatenates_S64x256_S64x256_S128x256_d0)
      (constant S64x128 .f32 0x00000000#32))
    (broadcast S64x128 (Scalar.ofBits .f32 0x00000000#32))) bitsLt_bf16_f32

/-- A chunk's rows scaled lane by lane by one row of decays. -/
def scaled (k : Vec F S64x128 .bf16) (d : Vec F S1x128 .f32) : FVec F S64x128 .bf16 :=
  truncf .bf16 (mulf (extf .f32 k bitsLt_bf16_f32) (broadcastTo S64x128 d broadcasts_S1x128_S64x128)) bitsLt_bf16_f32

/-- What a pair adds to the state: its keys, the first chunk's scaled by the second's decay, times its values. -/
def kvPair (ksta : Vec F S64x128 .bf16) (decb : Vec F S1x128 .f32) (kstb : Vec F S64x128 .bf16) (v : Vec F S128x256 .bf16) :
    FVec F S128x256 .f32 :=
  matmul dot_S128x128_S128x256_S128x256_0_0_1_1_n_n none
    (concatenate S128x128 0 [⟨S64x128, scaled ksta decb⟩, ⟨S64x128, kstb⟩] concatenates_S64x128_S64x128_S128x128_d0)
    v (constant S128x256 .f32 0x00000000#32)

/-- The outputs of a pair: one product of the queries beside the scores with the state above the values. -/
def pairOut (sa sb : FVec F S64x128 .bf16) (st : FVec F S128x256 .f32) (qoutb : Vec F S64x128 .bf16) (deca : Vec F S1x128 .f32)
    (qouta : Vec F S64x128 .bf16) (v : Vec F S128x256 .bf16) : FVec F S128x256 .f32 :=
  matmul dot_S128x256_S256x256_S128x256_1_0_0_1_n_n none
    (concatenate S128x256 0
      [⟨S64x256, concatenate S64x256 1 [⟨S64x128, qouta⟩, ⟨S64x128, sa⟩] concatenates_S64x128_S64x128_S64x256_d1⟩,
       ⟨S64x256, concatenate S64x256 1 [⟨S64x128, scaled qoutb deca⟩, ⟨S64x128, sb⟩] concatenates_S64x128_S64x128_S64x256_d1⟩]
      concatenates_S64x256_S64x256_S128x256_d0)
    (concatenate S256x256 0 [⟨S128x256, truncf .bf16 st bitsLt_bf16_f32⟩, ⟨S128x256, v⟩] concatenates_S128x256_S128x256_S256x256_d0)
    (constant S128x256 .f32 0x00000000#32)

/-- The decays of a head, one chunk a column: the rows under the block's 16 are zeros. -/
def decCols (d : Vec F S16x128 .f32) : FVec F S128x128 .f32 :=
  transpose S128x128 [1, 0]
    (concatenate S128x128 0 [⟨S16x128, d⟩, ⟨S112x128, k0_pay3 (F := F)⟩] concatenates_S16x128_S112x128_S128x128_d0)
    transposes_S128x128_p1_0_S128x128

theorem slices_col (c : ℕ) : S128x128.Slices ![0, c % 16] S128x1 := by
  refine ⟨rfl, fun a => ?_⟩
  have h : c % 16 < 16 := Nat.mod_lt _ (by decide)
  match a with
  | ⟨0, _⟩ => show 0 + 128 ≤ 128; omega
  | ⟨1, _⟩ => show c % 16 + 1 ≤ 128; omega

/-- The state after the pair of chunks `c` and `c+1`. -/
def pairState (dc : FVec F S128x128 .f32) (c : ℕ) (st kv : FVec F S128x256 .f32) : FVec F S128x256 .f32 :=
  addf (mulf (broadcastTo S128x256 (mulf (extractStridedSlice S128x1 ![0, c % 16] dc (slices_col c))
      (extractStridedSlice S128x1 ![0, (c + 1) % 16] dc (slices_col (c + 1)))) broadcasts_S128x1_S128x256) st) kv

/-- The pieces of a block: chunk by chunk and head by head (the values two chunks at a time). -/
structure Parts (F : FTy → Type) [FloatOps F] where
  qin : ℕ → ℕ → Vec F S64x128 .bf16
  kin : ℕ → ℕ → Vec F S64x128 .bf16
  qout : ℕ → ℕ → Vec F S64x128 .bf16
  kst : ℕ → ℕ → Vec F S64x128 .bf16
  dec : ℕ → ℕ → Vec F S1x128 .f32
  decs : ℕ → Vec F S16x128 .f32
  v : ℕ → ℕ → Vec F S128x256 .bf16
  st : ℕ → FVec F S128x256 .f32

/-- The state of head `h` before pair `p` of the block. -/
def stateAt (X : Parts F) (h : ℕ) : ℕ → FVec F S128x256 .f32
  | 0 => X.st h
  | p + 1 => pairState (decCols (X.decs h)) (2 * p) (stateAt X h p)
      (kvPair (X.kst (2 * p) h) (X.dec (2 * p + 1) h) (X.kst (2 * p + 1) h) (X.v p h))

/-- The outputs of pair `p` and head `h` of the block. -/
def outAt (X : Parts F) (p h : ℕ) : FVec F S128x256 .f32 :=
  pairOut (scoreA (X.qin (2 * p) h) (X.kin (2 * p) h))
    (scoreB (X.kst (2 * p) h) (X.qout (2 * p + 1) h) (X.qin (2 * p + 1) h) (X.kin (2 * p + 1) h))
    (stateAt X h p) (X.qout (2 * p + 1) h) (X.dec (2 * p) h) (X.qout (2 * p) h) (X.v p h)

theorem inb_out (p h : ℕ) : ∀ a, (![128 * (p % 8), 256 * (h % 4)] : Fin 2 → ℕ) a + S128x256.size a ≤ S1024x1024.size a := by
  have h1 : p % 8 < 8 := Nat.mod_lt _ (by decide)
  have h2 : h % 4 < 4 := Nat.mod_lt _ (by decide)
  intro a
  match a with
  | ⟨0, _⟩ => show 128 * (p % 8) + 128 ≤ 1024; omega
  | ⟨1, _⟩ => show 256 * (h % 4) + 256 ≤ 1024; omega

/-- The stores of the block's outputs, the last first: pair by pair, the heads of a pair one after the other. -/
def outPieces (X : Parts F) : ℕ → List (View.Piece (Elt F) S1024x1024 .f32)
  | 0 => []
  | n + 1 => ⟨Rect.unit ![128 * (n / 4 % 8), 256 * (n % 4 % 4)] S128x256.size (inb_out (n / 4) (n % 4)),
        shapeCast S128x256 (outAt X (n / 4) (n % 4)) shapeCasts_S128x256_S128x256⟩
      :: outPieces X n

/-- The normalized outputs of one head times the gate's columns. -/
def partRms (o : Vec F S1024x256 .f32) (g : Vec F S1x256 .f32) (rs : FVec F S1024x256 .f32) : FVec F S1024x256 .f32 :=
  mulf (mulf (mulf o (broadcastTo S1024x256 (rsqrt (addf (divf (shapeCast S1024x1
      (multiReduction .add [1] S1024 (mulf o o) 0x00000000#32 reduces_S1024x256_S1024 (.inl rfl) rfl) shapeCasts_S1024_S1024x1)
      (broadcast S1024x1 (Scalar.ofBits .f32 0x43800000#32))) (broadcast S1024x1 (Scalar.ofBits .f32 0x358637BD#32))))
      broadcasts_S1024x1_S1024x256))
    (broadcastTo S1024x256 (shapeCast S1x256 g shapeCasts_S1x256_S1x256) broadcasts_S1x256_S1024x256)) rs

/-- The block of the result: the heads' parts side by side, projected, gated, added to the other mixer's gated output, projected. -/
def tail (o0 o1 o2 o3 : Vec F S1024x256 .f32) (g0 g1 g2 g3 : Vec F S1x256 .f32) (rs gb ma : Vec F S1024x1024 .bf16)
    (wpb wo : Vec F S1024x1024 .bf16) : FVec F S1024x1024 .f32 :=
  matmul dot_S1024x1024_S1024x1024_S1024x1024_1_0_0_1_n_n none
    (truncf .bf16 (addf (mulf (extf .f32 gb bitsLt_bf16_f32)
      (matmul dot_S1024x1024_S1024x1024_S1024x1024_1_0_0_1_n_n none
        (truncf .bf16 (concatenate S1024x1024 1
          [⟨S1024x256, partRms o0 g0 (extractStridedSlice S1024x256 ![0, 0] (extf .f32 rs bitsLt_bf16_f32) slices_S1024x1024_o0_0_S1024x256)⟩,
           ⟨S1024x256, partRms o1 g1 (extractStridedSlice S1024x256 ![0, 256] (extf .f32 rs bitsLt_bf16_f32) slices_S1024x1024_o0_256_S1024x256)⟩,
           ⟨S1024x256, partRms o2 g2 (extractStridedSlice S1024x256 ![0, 512] (extf .f32 rs bitsLt_bf16_f32) slices_S1024x1024_o0_512_S1024x256)⟩,
           ⟨S1024x256, partRms o3 g3 (extractStridedSlice S1024x256 ![0, 768] (extf .f32 rs bitsLt_bf16_f32) slices_S1024x1024_o0_768_S1024x256)⟩]
          concatenates_S1024x256_S1024x256_S1024x256_S1024x256_S1024x1024_d1) bitsLt_bf16_f32)
        (shapeCast S1024x1024 wpb shapeCasts_S1024x1024_S1024x1024) (constant S1024x1024 .f32 0x00000000#32)))
      (extf .f32 ma bitsLt_bf16_f32)) bitsLt_bf16_f32)
    (shapeCast S1024x1024 wo shapeCasts_S1024x1024_S1024x1024) (constant S1024x1024 .f32 0x00000000#32)

end Cert.Gla

end
-- ==== Proof.GlaBlock.lean ====
/-
  The stores of one grid point, read as the functions of `GlaPair`.

  `parts` cuts the blocks of a grid point into their pieces; `pieces_eq` says that the stores of the block's outputs are those of
  `outPieces`, and `state_eq` that the four stores of the state hold `stateAt` after the eight pairs.
-/
module

public import proofs.«01_k».proof.Proof.GlaPair
public import proofs.«01_k».proof.Proof.Gen.KernelIdeal.Frame
public import Idealize.ShloMosaic.Lib.Pipeline.Value

@[expose] public section

set_option maxRecDepth 16384

noncomputable section

namespace Cert.Gla

open Idealize.ShloMosaic Idealize.ShloMosaic.TcCoe Cert.KernelIdeal Cert.KernelIdeal.Gen

variable {F : FTy → Type} [FloatOps F]

theorem inb_k (c h : ℕ) : ∀ a, (![64 * (c % 16), 128 * (h % 4)] : Fin 2 → ℕ) a + S64x128.size a ≤ S1024x512.size a := by
  have h1 : c % 16 < 16 := Nat.mod_lt _ (by decide)
  have h2 : h % 4 < 4 := Nat.mod_lt _ (by decide)
  intro a
  match a with
  | ⟨0, _⟩ => show 64 * (c % 16) + 64 ≤ 1024; omega
  | ⟨1, _⟩ => show 128 * (h % 4) + 128 ≤ 512; omega

theorem inb_d (c h : ℕ) : ∀ a, (![c % 16, 128 * (h % 4)] : Fin 2 → ℕ) a + S1x128.size a ≤ S16x512.size a := by
  have h1 : c % 16 < 16 := Nat.mod_lt _ (by decide)
  have h2 : h % 4 < 4 := Nat.mod_lt _ (by decide)
  intro a
  match a with
  | ⟨0, _⟩ => show c % 16 + 1 ≤ 16; omega
  | ⟨1, _⟩ => show 128 * (h % 4) + 128 ≤ 512; omega

theorem inb_ds (h : ℕ) : ∀ a, (![0, 128 * (h % 4)] : Fin 2 → ℕ) a + S16x128.size a ≤ S16x512.size a := by
  have h2 : h % 4 < 4 := Nat.mod_lt _ (by decide)
  intro a
  match a with
  | ⟨0, _⟩ => show 0 + 16 ≤ 16; omega
  | ⟨1, _⟩ => show 128 * (h % 4) + 128 ≤ 512; omega

theorem inb_v (p h : ℕ) : ∀ a, (![128 * (p % 8), 256 * (h % 4)] : Fin 2 → ℕ) a + S128x256.size a ≤ S1024x1024.size a :=
  inb_out p h

theorem inb_s (h : ℕ) : ∀ a, (![h % 4, 0, 0] : Fin 3 → ℕ) a + S1x128x256.size a ≤ S4x128x256.size a := by
  have h2 : h % 4 < 4 := Nat.mod_lt _ (by decide)
  intro a
  match a with
  | ⟨0, _⟩ => show h % 4 + 1 ≤ 4; omega
  | ⟨1, _⟩ => show 0 + 128 ≤ 128; omega
  | ⟨2, _⟩ => show 0 + 256 ≤ 256; omega

theorem inb_cols (h : ℕ) : ∀ a, (![0, 256 * (h % 4)] : Fin 2 → ℕ) a + S1024x256.size a ≤ S1024x1024.size a := by
  have h2 : h % 4 < 4 := Nat.mod_lt _ (by decide)
  intro a
  match a with
  | ⟨0, _⟩ => show 0 + 1024 ≤ 1024; omega
  | ⟨1, _⟩ => show 256 * (h % 4) + 256 ≤ 1024; omega

theorem inb_gain (h : ℕ) : ∀ a, (![0, 256 * (h % 4)] : Fin 2 → ℕ) a + S1x256.size a ≤ S1x1024.size a := by
  have h2 : h % 4 < 4 := Nat.mod_lt _ (by decide)
  intro a
  match a with
  | ⟨0, _⟩ => show 0 + 1 ≤ 1; omega
  | ⟨1, _⟩ => show 256 * (h % 4) + 256 ≤ 1024; omega

/-- The pieces of a grid point's blocks, with the states `st` the point starts from. -/
def parts (x0 x1 x2 x3 : Vec F S1024x512 .bf16) (x4 : Vec F S16x512 .f32) (x5 : Vec F S1024x1024 .bf16)
    (st : ℕ → FVec F S128x256 .f32) : Parts F where
  qin c h := View.ld x0 (Rect.unit ![64 * (c % 16), 128 * (h % 4)] S64x128.size (inb_k c h))
  kin c h := View.ld x1 (Rect.unit ![64 * (c % 16), 128 * (h % 4)] S64x128.size (inb_k c h))
  qout c h := View.ld x2 (Rect.unit ![64 * (c % 16), 128 * (h % 4)] S64x128.size (inb_k c h))
  kst c h := View.ld x3 (Rect.unit ![64 * (c % 16), 128 * (h % 4)] S64x128.size (inb_k c h))
  dec c h := View.ld x4 (Rect.unit ![c % 16, 128 * (h % 4)] S1x128.size (inb_d c h))
  decs h := View.ld x4 (Rect.unit ![0, 128 * (h % 4)] S16x128.size (inb_ds h))
  v p h := View.ld x5 (Rect.unit ![128 * (p % 8), 256 * (h % 4)] S128x256.size (inb_v p h))
  st := st

/-- The states carried in, head by head. -/
def carried (xs : Vec F S4x128x256 .f32) (h : ℕ) : FVec F S128x256 .f32 :=
  shapeCast S128x256 (View.ld xs (Rect.unit ![h % 4, 0, 0] S1x128x256.size (inb_s h))) shapeCasts_S1x128x256_S128x256

/-- The four stores of the state after the block, the last head first. -/
def statePieces (X : Parts F) : ℕ → List (View.Piece (Elt F) S4x128x256 .f32)
  | 0 => []
  | h + 1 => ⟨Rect.unit ![h % 4, 0, 0] S1x128x256.size (inb_s h), shapeCast S1x128x256 (stateAt X h 8) shapeCasts_S128x256_S1x128x256⟩
      :: statePieces X h

section
variable (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S16x512 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .f32) (harg14 : arg14.IsWhole) (arg15 : Memref sig .tc .vmem S4x128x256 .f32) (harg15 : arg15.IsWhole) (arg16 : Memref sig .tc .vmem S1024x1024 .f32) (harg16 : arg16.IsWhole)
  (x0 : Vec F S1024x512 .bf16) (x1 : Vec F S1024x512 .bf16) (x2 : Vec F S1024x512 .bf16) (x3 : Vec F S1024x512 .bf16) (x4 : Vec F S16x512 .f32) (x5 : Vec F S1024x1024 .bf16) (x6 : Vec F S1024x1024 .bf16) (x7 : Vec F S1024x1024 .bf16) (x8 : Vec F S1024x1024 .bf16) (x9 : Vec F S1x1024 .f32) (x10 : Vec F S1024x1024 .bf16) (x11 : Vec F S1024x1024 .bf16) (xs0 : Vec F S4x128x256 .f32)

/-- The same pieces, as the loads through the staging buffers that hold the blocks. -/
def loads (st : ℕ → FVec F S128x256 .f32) : Parts F where
  qin c h := View.readAt (Elt F) arg2.view (Rect.unit (s := S1024x512) ![64 * (c % 16), 128 * (h % 4)] S64x128.size (inb_k c h)).toLoadRect (harg2.unread x0)
  kin c h := View.readAt (Elt F) arg3.view (Rect.unit (s := S1024x512) ![64 * (c % 16), 128 * (h % 4)] S64x128.size (inb_k c h)).toLoadRect (harg3.unread x1)
  qout c h := View.readAt (Elt F) arg4.view (Rect.unit (s := S1024x512) ![64 * (c % 16), 128 * (h % 4)] S64x128.size (inb_k c h)).toLoadRect (harg4.unread x2)
  kst c h := View.readAt (Elt F) arg5.view (Rect.unit (s := S1024x512) ![64 * (c % 16), 128 * (h % 4)] S64x128.size (inb_k c h)).toLoadRect (harg5.unread x3)
  dec c h := View.readAt (Elt F) arg6.view (Rect.unit (s := S16x512) ![c % 16, 128 * (h % 4)] S1x128.size (inb_d c h)).toLoadRect (harg6.unread x4)
  decs h := View.readAt (Elt F) arg6.view (Rect.unit (s := S16x512) ![0, 128 * (h % 4)] S16x128.size (inb_ds h)).toLoadRect (harg6.unread x4)
  v p h := View.readAt (Elt F) arg7.view (Rect.unit (s := S1024x1024) ![128 * (p % 8), 256 * (h % 4)] S128x256.size (inb_v p h)).toLoadRect (harg7.unread x5)
  st := st

theorem loads_eq (st : ℕ → FVec F S128x256 .f32) :
    loads arg2 harg2 arg3 harg3 arg4 harg4 arg5 harg5 arg6 harg6 arg7 harg7 x0 x1 x2 x3 x4 x5 st = parts x0 x1 x2 x3 x4 x5 st := by
  unfold loads parts
  simp only [View.readAt_eq_ld, Memref.IsWhole.read_unread]

/-- The states a point reads from the carried buffer. -/
def stLoads (h : ℕ) : FVec F S128x256 .f32 :=
  shapeCast S128x256 (View.readAt (Elt F) arg15.view (Rect.unit (s := S4x128x256) ![h % 4, 0, 0] S1x128x256.size (inb_s h)).toLoadRect
    (harg15.unread xs0)) shapeCasts_S1x128x256_S128x256

theorem stLoads_eq : stLoads arg15 harg15 xs0 = carried xs0 := by
  unfold stLoads carried
  simp only [View.readAt_eq_ld, Memref.IsWhole.read_unread]

/-- The states a point that starts a sequence reads back after zeroing them. -/
def stZeros (h : ℕ) : FVec F S128x256 .f32 :=
  shapeCast S128x256 (arg15.view.readCov kernelRun0_A.sl.HS0_1
    (Rect.unit (s := S4x128x256) ![h % 4, 0, 0] S1x128x256.size (inb_s h)).toLoadRect) shapeCasts_S1x128x256_S128x256

theorem stZeros_eq : stZeros (F := F) arg15 = carried k0_pay2 := by
  funext h
  unfold stZeros carried kernelRun0_A.sl.HS0_1
  rw [View.readCov_eq_canon', View.canon_unit_zero (by funext a; match a with | ⟨0, _⟩ => rfl | ⟨1, _⟩ => rfl | ⟨2, _⟩ => rfl)]

set_option maxHeartbeats 4000000 in
theorem pieces_B : kernelRun0_B.sl.HS1_32 c arg2 harg2 arg3 harg3 arg4 harg4 arg5 harg5 arg6 harg6 arg7 harg7 arg15 harg15 x0 x1 x2 x3 x4 x5 xs0 =
    outPieces (parts x0 x1 x2 x3 x4 x5 (carried xs0)) 32 := by
  rw [← loads_eq arg2 harg2 arg3 harg3 arg4 harg4 arg5 harg5 arg6 harg6 arg7 harg7, ← stLoads_eq arg15 harg15]
  exact rfl

set_option maxHeartbeats 4000000 in
theorem pieces_A : kernelRun0_A.sl.HS1_32 c arg2 harg2 arg3 harg3 arg4 harg4 arg5 harg5 arg6 harg6 arg7 harg7 arg15 x0 x1 x2 x3 x4 x5 =
    outPieces (parts x0 x1 x2 x3 x4 x5 (carried k0_pay2)) 32 := by
  rw [← loads_eq arg2 harg2 arg3 harg3 arg4 harg4 arg5 harg5 arg6 harg6 arg7 harg7, ← stZeros_eq arg15]
  exact rfl

set_option maxHeartbeats 4000000 in
theorem states_B (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.1 =
    statePieces (parts x0 x1 x2 x3 x4 x5 (carried xs0)) 4 := by
  rw [← loads_eq arg2 harg2 arg3 harg3 arg4 harg4 arg5 harg5 arg6 harg6 arg7 harg7, ← stLoads_eq arg15 harg15]
  unfold kernelRun0_B
  exact rfl

set_option maxHeartbeats 4000000 in
theorem states_A (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1 =
    statePieces (parts x0 x1 x2 x3 x4 x5 (carried k0_pay2)) 4 ++ kernelRun0_A.sl.HS0_1 := by
  rw [← loads_eq arg2 harg2 arg3 harg3 arg4 harg4 arg5 harg5 arg6 harg6 arg7 harg7, ← stZeros_eq arg15]
  unfold kernelRun0_A
  exact rfl

/-- The columns of one head read back from the outputs' buffer after the stores `L`. -/
def cols (L : List (View.Piece (Elt F) S1024x1024 .f32)) (h : ℕ) : Vec F S1024x256 .f32 :=
  arg16.view.readCov L (Rect.unit (s := S1024x1024) ![0, 256 * (h % 4)] S1024x256.size (inb_cols h)).toLoadRect

/-- A head's columns of the gains, as a load. -/
def gainL (h : ℕ) : Vec F S1x256 .f32 :=
  View.readAt (Elt F) arg11.view (Rect.unit (s := S1x1024) ![0, 256 * (h % 4)] S1x256.size (inb_gain h)).toLoadRect (harg11.unread x9)

/-- The one store of the block of the result. -/
def resPiece (L : List (View.Piece (Elt F) S1024x1024 .f32)) : List (View.Piece (Elt F) S1024x1024 .f32) :=
  [⟨Rect.unit ![0, 0] ![1024, 1024] inb_S1024x1024_S1024x1024_0_0,
    tail (cols arg16 L 0) (cols arg16 L 1) (cols arg16 L 2) (cols arg16 L 3)
      (gainL arg11 harg11 x9 0) (gainL arg11 harg11 x9 1) (gainL arg11 harg11 x9 2) (gainL arg11 harg11 x9 3)
      (View.readAt (Elt F) arg8.view (Rect.unit (s := S1024x1024) ![0, 0] S1024x1024.size inb_S1024x1024_S1024x1024_0_0).toLoadRect (harg8.unread x6))
      (View.readAt (Elt F) arg9.view (Rect.unit (s := S1024x1024) ![0, 0] S1024x1024.size inb_S1024x1024_S1024x1024_0_0).toLoadRect (harg9.unread x7))
      (View.readAt (Elt F) arg10.view (Rect.unit (s := S1024x1024) ![0, 0] S1024x1024.size inb_S1024x1024_S1024x1024_0_0).toLoadRect (harg10.unread x8))
      (View.readAt (Elt F) arg12.view (Rect.unit (s := S1024x1024) ![0, 0] S1024x1024.size inb_S1024x1024_S1024x1024_0_0).toLoadRect (harg12.unread x10))
      (View.readAt (Elt F) arg13.view (Rect.unit (s := S1024x1024) ![0, 0] S1024x1024.size inb_S1024x1024_S1024x1024_0_0).toLoadRect (harg13.unread x11))⟩]

set_option maxHeartbeats 4000000 in
theorem res_B (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).1 =
    resPiece arg8 harg8 arg9 harg9 arg10 harg10 arg11 harg11 arg12 harg12 arg13 harg13 arg16 x6 x7 x8 x9 x10 x11
      (kernelRun0_B.sl.HS1_32 c arg2 harg2 arg3 harg3 arg4 harg4 arg5 harg5 arg6 harg6 arg7 harg7 arg15 harg15 x0 x1 x2 x3 x4 x5 xs0) := by
  unfold kernelRun0_B
  exact rfl

set_option maxHeartbeats 4000000 in
theorem res_A (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1 =
    resPiece arg8 harg8 arg9 harg9 arg10 harg10 arg11 harg11 arg12 harg12 arg13 harg13 arg16 x6 x7 x8 x9 x10 x11
      (kernelRun0_A.sl.HS1_32 c arg2 harg2 arg3 harg3 arg4 harg4 arg5 harg5 arg6 harg6 arg7 harg7 arg15 x0 x1 x2 x3 x4 x5) := by
  unfold kernelRun0_A
  exact rfl

end

end Cert.Gla

end
-- ==== Proof.GlaOut.lean ====
/-
  What a grid point leaves, as whole blocks.

  The stores of the block's outputs tile the buffer they are read back from, so a head's columns are the outputs of that head
  (`cols_eq`); the block of the result is `tail` of them (`out_A`, `out_B`) and the carried buffer holds the states after the
  block's eight pairs (`sout_A`, `sout_B`).
-/
module

public import proofs.«01_k».proof.Proof.GlaBlock
public import Idealize.ShloMosaic.Lib.Pipeline.ValueKit.Tiles
public import Idealize.ShloMosaic.Lib.Pointwise

@[expose] public section

set_option maxRecDepth 16384

noncomputable section

namespace Cert.Gla

open Idealize.ShloMosaic Idealize.ShloMosaic.TcCoe Cert.KernelIdeal Cert.KernelIdeal.Gen

variable {F : FTy → Type} [FloatOps F]

/-- Pieces that agree with one function leave it where they cover, whatever was stored before them. -/
theorem canon_append {S : Shape} {e : EltTy} (G : S.Idx → Elt F e) (L' : List (View.Piece (Elt F) S e)) :
    ∀ (L : List (View.Piece (Elt F) S e)) (_ : ∀ p ∈ L, ∀ x : p.1.shape.Idx, p.2 x = G (p.1.emb x)) (y : S.Idx)
      (_ : ∃ p ∈ L, y ∈ p.1.set), View.canon (L ++ L') y = G y
  | [], _, _, hy => by obtain ⟨p, hp, _⟩ := hy; simp at hp
  | p :: L, hL, y, hy => by
    rw [List.cons_append]
    by_cases hm : y ∈ p.1.set
    · obtain ⟨x, rfl⟩ := p.1.exists_idx_of_mem hm
      exact (View.canon_cons_emb p.1 p.2 (L ++ L') x).trans (hL p (by simp) x)
    · rw [View.canon_cons_of_not_mem _ _ hm]
      refine canon_append G L' L (fun q hq => hL q (by simp [hq])) y ?_
      obtain ⟨q, hq, hyq⟩ := hy
      rcases List.mem_cons.mp hq with rfl | hq'
      · exact absurd hyq hm
      · exact ⟨q, hq', hyq⟩

/-- The outputs of a block, position by position and column by column. -/
def blockOut (X : Parts F) (y : S1024x1024.Idx) : F .f32 :=
  outAt X ((y 0 : ℕ) / 128) ((y 1 : ℕ) / 256)
    (ix2 (⟨(y 0 : ℕ) % 128, Nat.mod_lt _ (by decide)⟩ : Fin 128) (⟨(y 1 : ℕ) % 256, Nat.mod_lt _ (by decide)⟩ : Fin 256))

/-- The states after a block. -/
def blockState (X : Parts F) : Vec F S4x128x256 .f32 := fun y => stateAt X (y 0 : ℕ) 8 (ix2 (n0 := 128) (n1 := 256) (y 1) (y 2))

/-- Where store `n` of the outputs lies. -/
abbrev outRect (n : ℕ) : Rect S1024x1024 :=
  Rect.unit (s := S1024x1024) ![128 * (n / 4 % 8), 256 * (n % 4 % 4)] S128x256.size (inb_out (n / 4) (n % 4))

/-- Where the state of head `n` lies. -/
abbrev stRect (n : ℕ) : Rect S4x128x256 := Rect.unit (s := S4x128x256) ![n % 4, 0, 0] S1x128x256.size (inb_s n)

theorem blockOut_emb (X : Parts F) (n : ℕ) (hn : n < 32) (x : S128x256.Idx) :
    blockOut X ((outRect n).emb x) = outAt X (n / 4) (n % 4) x := by
  have h0 : (((outRect n).emb x : S1024x1024.Idx) 0 : ℕ) = 128 * (n / 4 % 8) + (x 0 : ℕ) :=
    Rect.idx_unit_val (s := S1024x1024) ![128 * (n / 4 % 8), 256 * (n % 4 % 4)] S128x256.size (inb_out (n / 4) (n % 4)) x 0
  have h1 : (((outRect n).emb x : S1024x1024.Idx) 1 : ℕ) = 256 * (n % 4 % 4) + (x 1 : ℕ) :=
    Rect.idx_unit_val (s := S1024x1024) ![128 * (n / 4 % 8), 256 * (n % 4 % 4)] S128x256.size (inb_out (n / 4) (n % 4)) x 1
  have x0 : (x 0 : ℕ) < 128 := (x 0).isLt
  have x1 : (x 1 : ℕ) < 256 := (x 1).isLt
  generalize ((outRect n).emb x : S1024x1024.Idx) = y at h0 h1
  unfold blockOut
  have e0 : (y 0 : ℕ) / 128 = n / 4 := by omega
  have e1 : (y 1 : ℕ) / 256 = n % 4 := by omega
  rw [e0, e1]
  refine congrArg _ (funext fun a => ?_)
  match a with
  | ⟨0, _⟩ => exact Fin.ext (show (y 0 : ℕ) % 128 = x 0 by omega)
  | ⟨1, _⟩ => exact Fin.ext (show (y 1 : ℕ) % 256 = x 1 by omega)

theorem outPieces_agree (X : Parts F) : ∀ n ≤ 32, ∀ p ∈ outPieces X n, ∀ x : p.1.shape.Idx, p.2 x = blockOut X (p.1.emb x)
  | 0, _, p, hp, _ => by simp [outPieces] at hp
  | n + 1, hn, p, hp, x => by
    rcases List.mem_cons.mp hp with rfl | hp'
    · exact (congrFun (shapeCast_self _ shapeCasts_S128x256_S128x256) x).trans (blockOut_emb X n (by omega) x).symm
    · exact outPieces_agree X n (by omega) p hp' x

theorem outPieces_mem (X : Parts F) (y : S1024x1024.Idx) : ∀ n ≤ 32, 4 * ((y 0 : ℕ) / 128) + (y 1 : ℕ) / 256 < n →
    ∃ p ∈ outPieces X n, y ∈ p.1.set
  | 0, _, h => absurd h (Nat.not_lt_zero _)
  | n + 1, hn, h => by
    have y0 : (y 0 : ℕ) < 1024 := (y 0).isLt
    have y1 : (y 1 : ℕ) < 1024 := (y 1).isLt
    by_cases e : 4 * ((y 0 : ℕ) / 128) + (y 1 : ℕ) / 256 = n
    · have hm : y ∈ (outRect n).set := Rect.mem_set_unit.mpr fun a => by
        match a with
        | ⟨0, _⟩ => show 128 * (n / 4 % 8) ≤ (y 0 : ℕ) ∧ (y 0 : ℕ) < 128 * (n / 4 % 8) + 128; omega
        | ⟨1, _⟩ => show 256 * (n % 4 % 4) ≤ (y 1 : ℕ) ∧ (y 1 : ℕ) < 256 * (n % 4 % 4) + 256; omega
      exact ⟨_, List.mem_cons_self, hm⟩
    · obtain ⟨p, hp, hy⟩ := outPieces_mem X y n (by omega) (by omega)
      exact ⟨p, List.mem_cons_of_mem _ hp, hy⟩

theorem outPieces_cover (X : Parts F) (y : S1024x1024.Idx) : ∃ p ∈ outPieces X 32, y ∈ p.1.set := by
  have y0 : (y 0 : ℕ) < 1024 := (y 0).isLt
  have y1 : (y 1 : ℕ) < 1024 := (y 1).isLt
  exact outPieces_mem X y 32 le_rfl (by omega)

theorem blockState_emb (X : Parts F) (n : ℕ) (hn : n < 4) (x : S1x128x256.Idx) :
    blockState X ((stRect n).emb x) = shapeCast S1x128x256 (stateAt X n 8) shapeCasts_S128x256_S1x128x256 x := by
  have h0 : (((stRect n).emb x : S4x128x256.Idx) 0 : ℕ) = n % 4 + (x 0 : ℕ) :=
    Rect.idx_unit_val (s := S4x128x256) ![n % 4, 0, 0] S1x128x256.size (inb_s n) x 0
  have h1 : (((stRect n).emb x : S4x128x256.Idx) 1 : ℕ) = 0 + (x 1 : ℕ) :=
    Rect.idx_unit_val (s := S4x128x256) ![n % 4, 0, 0] S1x128x256.size (inb_s n) x 1
  have h2 : (((stRect n).emb x : S4x128x256.Idx) 2 : ℕ) = 0 + (x 2 : ℕ) :=
    Rect.idx_unit_val (s := S4x128x256) ![n % 4, 0, 0] S1x128x256.size (inb_s n) x 2
  have x0 : (x 0 : ℕ) < 1 := (x 0).isLt
  refine Eq.trans ?_ (shapeCast_addUnit_apply ![128, 256] (stateAt X n 8) shapeCasts_S128x256_S1x128x256 x).symm
  generalize ((stRect n).emb x : S4x128x256.Idx) = y at h0 h1 h2
  unfold blockState
  have e0 : (y 0 : ℕ) = n := by omega
  rw [e0]
  refine congrArg _ (funext fun a => ?_)
  match a with
  | ⟨0, _⟩ => exact Fin.ext (h1.trans (Nat.zero_add _))
  | ⟨1, _⟩ => exact Fin.ext (h2.trans (Nat.zero_add _))

theorem statePieces_agree (X : Parts F) : ∀ n ≤ 4, ∀ p ∈ statePieces X n, ∀ x : p.1.shape.Idx, p.2 x = blockState X (p.1.emb x)
  | 0, _, p, hp, _ => by simp [statePieces] at hp
  | n + 1, hn, p, hp, x => by
    rcases List.mem_cons.mp hp with rfl | hp'
    · exact (blockState_emb X n (by omega) x).symm
    · exact statePieces_agree X n (by omega) p hp' x

theorem statePieces_mem (X : Parts F) (y : S4x128x256.Idx) : ∀ n ≤ 4, (y 0 : ℕ) < n → ∃ p ∈ statePieces X n, y ∈ p.1.set
  | 0, _, h => absurd h (Nat.not_lt_zero _)
  | n + 1, hn, h => by
    have y1 : (y 1 : ℕ) < 128 := (y 1).isLt
    have y2 : (y 2 : ℕ) < 256 := (y 2).isLt
    by_cases e : (y 0 : ℕ) = n
    · have hm : y ∈ (stRect n).set := Rect.mem_set_unit.mpr fun a => by
        match a with
        | ⟨0, _⟩ => show n % 4 ≤ (y 0 : ℕ) ∧ (y 0 : ℕ) < n % 4 + 1; omega
        | ⟨1, _⟩ => show 0 ≤ (y 1 : ℕ) ∧ (y 1 : ℕ) < 0 + 128; omega
        | ⟨2, _⟩ => show 0 ≤ (y 2 : ℕ) ∧ (y 2 : ℕ) < 0 + 256; omega
      exact ⟨_, List.mem_cons_self, hm⟩
    · obtain ⟨p, hp, hy⟩ := statePieces_mem X y n (by omega) (by omega)
      exact ⟨p, List.mem_cons_of_mem _ hp, hy⟩

/-- The columns of one head of a block's outputs. -/
def blockCols (X : Parts F) (h : ℕ) : Vec F S1024x256 .f32 :=
  View.ld (blockOut X) (Rect.unit (s := S1024x1024) ![0, 256 * (h % 4)] S1024x256.size (inb_cols h))

/-- A head's columns of the gains. -/
def gain (x9 : Vec F S1x1024 .f32) (h : ℕ) : Vec F S1x256 .f32 :=
  View.ld x9 (Rect.unit (s := S1x1024) ![0, 256 * (h % 4)] S1x256.size (inb_gain h))

theorem zero2 : (![0, 0] : Fin 2 → ℕ) = fun _ => 0 := funext fun a => by match a with | ⟨0, _⟩ => rfl | ⟨1, _⟩ => rfl

theorem ld_whole {e : EltTy} (x : Vec F S1024x1024 e) :
    View.ld x (Rect.unit (s := S1024x1024) ![0, 0] ![1024, 1024] inb_S1024x1024_S1024x1024_0_0) = x :=
  View.ld_unit_zero (S := S1024x1024) zero2 _ x

/-- The block of the result from the block's outputs. -/
def blockRes (X : Parts F) (x6 x7 x8 : Vec F S1024x1024 .bf16) (x9 : Vec F S1x1024 .f32) (x10 x11 : Vec F S1024x1024 .bf16) :
    Vec F S1024x1024 .f32 :=
  tail (blockCols X 0) (blockCols X 1) (blockCols X 2) (blockCols X 3) (gain x9 0) (gain x9 1) (gain x9 2) (gain x9 3) x6 x7 x8 x10 x11

section
variable (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S16x512 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .f32) (harg14 : arg14.IsWhole) (arg15 : Memref sig .tc .vmem S4x128x256 .f32) (harg15 : arg15.IsWhole) (arg16 : Memref sig .tc .vmem S1024x1024 .f32) (harg16 : arg16.IsWhole)
  (x0 : Vec F S1024x512 .bf16) (x1 : Vec F S1024x512 .bf16) (x2 : Vec F S1024x512 .bf16) (x3 : Vec F S1024x512 .bf16) (x4 : Vec F S16x512 .f32) (x5 : Vec F S1024x1024 .bf16) (x6 : Vec F S1024x1024 .bf16) (x7 : Vec F S1024x1024 .bf16) (x8 : Vec F S1024x1024 .bf16) (x9 : Vec F S1x1024 .f32) (x10 : Vec F S1024x1024 .bf16) (x11 : Vec F S1024x1024 .bf16) (xs0 : Vec F S4x128x256 .f32)

theorem cols_eq (X : Parts F) (h : ℕ) : cols arg16 (outPieces X 32) h = blockCols X h := by
  unfold cols blockCols
  rw [View.readCov_eq_canon']
  funext j
  exact View.canon_apply_of_pieces (blockOut X) _ (outPieces_agree X 32 le_rfl) _ (outPieces_cover X _)

theorem res_eq (X : Parts F) : View.canon (resPiece arg8 harg8 arg9 harg9 arg10 harg10 arg11 harg11 arg12 harg12 arg13 harg13 arg16
    x6 x7 x8 x9 x10 x11 (outPieces X 32)) = blockRes X x6 x7 x8 x9 x10 x11 := by
  unfold resPiece blockRes
  refine (View.canon_unit_zero zero2 _ _).trans ?_
  simp only [cols_eq, gainL, gain, View.readAt_eq_ld, Memref.IsWhole.read_unread, ld_whole]

theorem out_B (hc0 : ¬cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 =
    blockRes (parts x0 x1 x2 x3 x4 x5 (carried xs0)) x6 x7 x8 x9 x10 x11 := by
  unfold out0_B_12
  rw [View.read_writes_junk_eq_canon, res_B, pieces_B, res_eq]

theorem out_A (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 =
    blockRes (parts x0 x1 x2 x3 x4 x5 (carried k0_pay2)) x6 x7 x8 x9 x10 x11 := by
  unfold out0_A_12
  rw [View.read_writes_junk_eq_canon, res_A, pieces_A, res_eq]

theorem sout_B (hc0 : ¬cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 =
    blockState (parts x0 x1 x2 x3 x4 x5 (carried xs0)) := by
  unfold sout0_B_0
  rw [View.read_writes_junk_eq_canon, states_B]
  exact funext fun y => View.canon_apply_of_pieces _ _ (statePieces_agree _ 4 le_rfl) y (statePieces_mem _ y 4 le_rfl (y 0).isLt)

theorem sout_A (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 =
    blockState (parts x0 x1 x2 x3 x4 x5 (carried k0_pay2)) := by
  unfold sout0_A_0
  rw [View.read_writes_junk_eq_canon, states_A]
  exact funext fun y => canon_append _ _ _ (statePieces_agree _ 4 le_rfl) y (statePieces_mem _ y 4 le_rfl (y 0).isLt)

end

end Cert.Gla

end
-- ==== Proof.GlaSpec.lean ====
/-
  The layer's idea as an equation of extended reals, and the algebra that lets the kernel take two chunks at a time.

  A sequence is cut into chunks of 64 positions. For one head the state is a table of 128 x 256 numbers that starts at zero; a chunk
  multiplies each of its rows by the chunk's decay and adds the chunk's keys times its values (`recState`). A position's output is
  its outer query times the state before the chunk plus the masked scores of the chunk times the values (`recOut`). All arrays are
  read as functions of two natural numbers, row and column.

  `pair_state` and `pair_out` say that two chunks taken at once give what one chunk after the other gives. They distribute products
  over sums, which extended reals only allow when the factors are real numbers.
-/
module

public import Idealize.ShloMosaic.Lib.Pointwise

@[expose] public section

noncomputable section

namespace Cert.Gla

open scoped BigOperators

/-- The state of head `h` after `n` chunks of the sequence whose first chunk is `b0`. -/
def recState (K D V : ℕ → ℕ → EReal) (b0 h : ℕ) : ℕ → ℕ → ℕ → EReal
  | 0 => fun _ _ => 0
  | n + 1 => fun k w => D (b0 + n) (128 * h + k) * recState K D V b0 h n k w
      + ∑ j : Fin 64, K (64 * (b0 + n) + j) (128 * h + k) * V (64 * (b0 + n) + j) (256 * h + w)

/-- The masked scores of chunk `n` times its values. -/
def intra (Qi Ki V : ℕ → ℕ → EReal) (b0 h n i w : ℕ) : EReal :=
  ∑ j : Fin 64, (if (j : ℕ) ≤ i then ∑ k : Fin 128, Qi (64 * (b0 + n) + i) (128 * h + k) * Ki (64 * (b0 + n) + j) (128 * h + k) else 0)
    * V (64 * (b0 + n) + j) (256 * h + w)

/-- The output of position `i` of chunk `n`. -/
def recOut (Qi Ki Qo K D V : ℕ → ℕ → EReal) (b0 h n i w : ℕ) : EReal :=
  (∑ k : Fin 128, Qo (64 * (b0 + n) + i) (128 * h + k) * recState K D V b0 h n k w) + intra Qi Ki V b0 h n i w

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

theorem recState_real {K D V : ℕ → ℕ → EReal} (hK : ∀ r c, IsReal (K r c)) (hD : ∀ r c, IsReal (D r c)) (hV : ∀ r c, IsReal (V r c))
    (b0 h : ℕ) : ∀ n k w, IsReal (recState K D V b0 h n k w)
  | 0, _, _ => ⟨0, rfl⟩
  | n + 1, k, w => ((hD _ _).mul (recState_real hK hD hV b0 h n k w)).add (IsReal.sum fun _ => (hK _ _).mul (hV _ _))

/-- Two chunks' contributions to the state at once are the one after the other. -/
theorem pair_state {n : ℕ} {da db S : EReal} {ka va : Fin n → EReal} (E : EReal) (hda : IsReal da) (hdb : IsReal db) (hS : IsReal S)
    (hka : ∀ j, IsReal (ka j)) (hva : ∀ j, IsReal (va j)) :
    da * db * S + (∑ j, ka j * db * va j + E) = db * (da * S + ∑ j, ka j * va j) + E := by
  obtain ⟨a, rfl⟩ := hda
  obtain ⟨b, rfl⟩ := hdb
  obtain ⟨s, rfl⟩ := hS
  choose k hk using hka
  choose v hv using hva
  obtain rfl : ka = fun j => (k j : EReal) := funext hk
  obtain rfl : va = fun j => (v j : EReal) := funext hv
  rw [← add_assoc]
  congr 1
  simp only [← EReal.coe_mul, ← coe_sum, ← EReal.coe_add]
  congr 1
  rw [mul_add, Finset.mul_sum]
  congr 1
  · ring
  · exact Finset.sum_congr rfl fun j _ => by ring

/-- A position of the second chunk reads the first chunk through its scores as it would read the state after it. -/
theorem pair_out {m n : ℕ} {q d S : Fin m → EReal} {ka : Fin n → Fin m → EReal} {va : Fin n → EReal} (E : EReal)
    (hq : ∀ k, IsReal (q k)) (hd : ∀ k, IsReal (d k)) (hS : ∀ k, IsReal (S k)) (hka : ∀ j k, IsReal (ka j k)) (hva : ∀ j, IsReal (va j)) :
    (∑ k, q k * d k * S k) + (∑ j, (∑ k, q k * ka j k) * va j + E) = (∑ k, q k * (d k * S k + ∑ j, ka j k * va j)) + E := by
  choose q' hq using hq
  choose d' hd using hd
  choose s' hs using hS
  choose k' hk using hka
  choose v' hv using hva
  obtain rfl : q = fun j => (q' j : EReal) := funext hq
  obtain rfl : d = fun j => (d' j : EReal) := funext hd
  obtain rfl : S = fun j => (s' j : EReal) := funext hs
  obtain rfl : ka = fun i j => (k' i j : EReal) := funext fun i => funext (hk i)
  obtain rfl : va = fun j => (v' j : EReal) := funext hv
  rw [← add_assoc]
  congr 1
  simp only [← EReal.coe_mul, ← coe_sum, ← EReal.coe_add]
  congr 1
  simp only [mul_add, Finset.sum_add_distrib, Finset.mul_sum, Finset.sum_mul]
  congr 1
  · exact Finset.sum_congr rfl fun j _ => by ring
  · rw [Finset.sum_comm]
    exact Finset.sum_congr rfl fun j _ => Finset.sum_congr rfl fun i _ => by ring

/-- A sum over 128 lanes, half by half. -/
theorem sum_halves (f : Fin 128 → EReal) :
    ∑ x, f x = (∑ j : Fin 64, f ⟨j, by omega⟩) + ∑ j : Fin 64, f ⟨64 + j, by omega⟩ :=
  Fin.sum_univ_add (a := 64) (b := 64) f

end Cert.Gla

end
-- ==== Proof.GlaPairIdeal.lean ====
/-
  A pair of chunks over the extended reals: `GlaPair`'s functions are two steps of the recurrence of `GlaSpec`.

  `Agrees` says that a block's pieces are the cuts of arrays given by row and column. Under it `stateAt` is the state after the
  chunks before the pair (`stateAt_eq`) and `outAt` the outputs of the pair's two chunks (`outAt_eq`).
-/
module

public import proofs.«01_k».proof.Proof.GlaPair
public import proofs.«01_k».proof.Proof.GlaSpec

@[expose] public section

noncomputable section

namespace Cert.Gla

open Idealize.ShloMosaic Cert.KernelIdeal Cert.KernelIdeal.Gen
open scoped BigOperators

/-- The mask of the first chunk, as a condition on position and lane. -/
theorem maskA (i : Fin 64) (j : Fin 128) (x : EReal) :
    Scalar.select (IntOp.cmpi CmpIPredicate.sle (BitVec.ofNat 32 j) (BitVec.ofNat 32 i)) x 0 = if (j : ℕ) ≤ i then x else 0 := by
  have h : ∀ (i : Fin 64) (j : Fin 128), IntOp.cmpi CmpIPredicate.sle (BitVec.ofNat 32 j) (BitVec.ofNat 32 i)
      = if (j : ℕ) ≤ i then 1#1 else 0#1 := by decide +kernel
  rw [h]
  split <;> rfl

/-- The mask of the second chunk: everything of the first chunk, and its own positions up to the row's. -/
theorem maskB (i : Fin 64) (j : Fin 128) (x : EReal) :
    Scalar.select (IntOp.ori (IntOp.cmpi CmpIPredicate.slt (BitVec.ofNat 32 j) 64#32)
        (IntOp.cmpi CmpIPredicate.sle (IntOp.subi (BitVec.ofNat 32 j) 64#32) (BitVec.ofNat 32 i))) x 0
      = if (j : ℕ) < 64 ∨ (j : ℕ) - 64 ≤ i then x else 0 := by
  have h : ∀ (i : Fin 64) (j : Fin 128), IntOp.ori (IntOp.cmpi CmpIPredicate.slt (BitVec.ofNat 32 j) 64#32)
        (IntOp.cmpi CmpIPredicate.sle (IntOp.subi (BitVec.ofNat 32 j) 64#32) (BitVec.ofNat 32 i))
      = if (j : ℕ) < 64 ∨ (j : ℕ) - 64 ≤ i then 1#1 else 0#1 := by decide +kernel
  rw [h]
  split <;> rfl

theorem scoreA_apply (q k : Vec Ideal S64x128 .bf16) (i : Fin 64) (j : Fin 128) :
    scoreA q k (ix2 i j) = if (j : ℕ) ≤ i then ∑ x, q (ix2 i x) * (if h : (j : ℕ) < 64 then k (ix2 ⟨j, h⟩ x) else 0) else 0 := by
  pointwise [scoreA, k0_pay8, k0_pay10]
  exact maskA i j _

theorem scoreB_apply (a b c d : Vec Ideal S64x128 .bf16) (i : Fin 64) (j : Fin 128) :
    scoreB a b c d (ix2 i j) = if (j : ℕ) < 64 ∨ (j : ℕ) - 64 ≤ i then
      (∑ x, b (ix2 i x) * (if h : (j : ℕ) < 64 then a (ix2 ⟨j, h⟩ x) else 0))
        + ∑ x, c (ix2 i x) * (if h : (j : ℕ) < 64 then 0 else d (ix2 ⟨j - 64, by omega⟩ x)) else 0 := by
  pointwise [scoreB, k0_pay9, k0_pay10]
  exact maskB i j _

theorem kvPair_apply (a : Vec Ideal S64x128 .bf16) (b : Vec Ideal S1x128 .f32) (c : Vec Ideal S64x128 .bf16) (v : Vec Ideal S128x256 .bf16)
    (i : Fin 128) (j : Fin 256) : kvPair a b c v (ix2 i j) =
      (∑ x : Fin 64, a (ix2 x i) * b (ix2 0 i) * v (ix2 ⟨x, by omega⟩ j)) + ∑ x : Fin 64, c (ix2 x i) * v (ix2 ⟨64 + x, by omega⟩ j) := by
  pointwise [kvPair, scaled]

theorem pairOut_apply (a b : FVec Ideal S64x128 .bf16) (st : FVec Ideal S128x256 .f32) (c : Vec Ideal S64x128 .bf16)
    (d : Vec Ideal S1x128 .f32) (e : Vec Ideal S64x128 .bf16) (v : Vec Ideal S128x256 .bf16) (i : Fin 128) (j : Fin 256) :
    pairOut a b st c d e v (ix2 i j) =
      (∑ x, (if h : (i : ℕ) < 64 then e (ix2 ⟨i, h⟩ x) else c (ix2 ⟨i - 64, by omega⟩ x) * d (ix2 0 x)) * st (ix2 x j))
      + ∑ x, (if h : (i : ℕ) < 64 then a (ix2 ⟨i, h⟩ x) else b (ix2 ⟨i - 64, by omega⟩ x)) * v (ix2 x j) := by
  pointwise [pairOut, scaled]

theorem pairState_apply (dc : FVec Ideal S128x128 .f32) (c : ℕ) (st kv : FVec Ideal S128x256 .f32) (i : Fin 128) (j : Fin 256) :
    pairState dc c st kv (ix2 i j) =
      dc (ix2 i ⟨c % 16, by omega⟩) * dc (ix2 i ⟨(c + 1) % 16, by omega⟩) * st (ix2 i j) + kv (ix2 i j) := by
  pointwise [pairState]

theorem decCols_apply (d : Vec Ideal S16x128 .f32) (i : Fin 128) (j : Fin 128) :
    decCols d (ix2 i j) = if h : (j : ℕ) < 16 then d (ix2 ⟨j, h⟩ i) else 0 := by
  pointwise [decCols, k0_pay3]

/-- The pieces of a block are cuts of the arrays, from chunk `n0` of the sequence whose first chunk is `b0`; the states the block starts
    from are the sequence's after `n0` chunks. -/
structure Agrees (X : Parts Ideal) (Qi Ki Qo K D V : ℕ → ℕ → EReal) (b0 n0 : ℕ) : Prop where
  qin : ∀ c < 16, ∀ h < 4, ∀ (i : Fin 64) (k : Fin 128), X.qin c h (ix2 i k) = Qi (64 * (b0 + (n0 + c)) + i) (128 * h + k)
  kin : ∀ c < 16, ∀ h < 4, ∀ (i : Fin 64) (k : Fin 128), X.kin c h (ix2 i k) = Ki (64 * (b0 + (n0 + c)) + i) (128 * h + k)
  qout : ∀ c < 16, ∀ h < 4, ∀ (i : Fin 64) (k : Fin 128), X.qout c h (ix2 i k) = Qo (64 * (b0 + (n0 + c)) + i) (128 * h + k)
  kst : ∀ c < 16, ∀ h < 4, ∀ (i : Fin 64) (k : Fin 128), X.kst c h (ix2 i k) = K (64 * (b0 + (n0 + c)) + i) (128 * h + k)
  dec : ∀ c < 16, ∀ h < 4, ∀ (k : Fin 128), X.dec c h (ix2 0 k) = D (b0 + (n0 + c)) (128 * h + k)
  decs : ∀ h < 4, ∀ (c : Fin 16) (k : Fin 128), X.decs h (ix2 c k) = D (b0 + (n0 + c)) (128 * h + k)
  v : ∀ p < 8, ∀ h < 4, ∀ (r : Fin 128) (w : Fin 256), X.v p h (ix2 r w) = V (64 * (b0 + (n0 + 2 * p)) + r) (256 * h + w)
  st : ∀ h < 4, ∀ (k : Fin 128) (w : Fin 256), X.st h (ix2 k w) = recState K D V b0 h n0 k w

section
variable {X : Parts Ideal} {Qi Ki Qo K D V : ℕ → ℕ → EReal} {b0 n0 : ℕ} (A : Agrees X Qi Ki Qo K D V b0 n0)
  (hQ : ∀ r c, IsReal (Qo r c)) (hK : ∀ r c, IsReal (K r c)) (hD : ∀ r c, IsReal (D r c)) (hV : ∀ r c, IsReal (V r c))
include A hK hD hV

/-- The state before pair `p` is the sequence's after the chunks before it. -/
theorem stateAt_eq (h : ℕ) (hh : h < 4) : ∀ p ≤ 8, ∀ (k : Fin 128) (w : Fin 256),
    stateAt X h p (ix2 k w) = recState K D V b0 h (n0 + 2 * p) k w
  | 0, _, k, w => A.st h hh k w
  | p + 1, hp, k, w => by
    have ih := stateAt_eq h hh p (by omega) k w
    show pairState _ _ _ _ (ix2 k w) = _
    rw [pairState_apply, ih, kvPair_apply, decCols_apply, decCols_apply,
      dif_pos (show 2 * p % 16 < 16 by omega), dif_pos (show (2 * p + 1) % 16 < 16 by omega), A.decs h hh, A.decs h hh]
    simp only [A.kst (2 * p) (by omega) h hh, A.kst (2 * p + 1) (by omega) h hh, A.dec (2 * p + 1) (by omega) h hh, A.v p (by omega) h hh]
    have e1 : 2 * p % 16 = 2 * p := by omega
    have e2 : (2 * p + 1) % 16 = 2 * p + 1 := by omega
    rw [e1, e2, pair_state _ (hD _ _) (hD _ _) (recState_real hK hD hV _ _ _ _ _) (fun _ => hK _ _) (fun _ => hV _ _)]
    have e3 : ∀ x : Fin 64, 64 * (b0 + (n0 + 2 * p)) + (64 + (x : ℕ)) = 64 * (b0 + (n0 + (2 * p + 1))) + x := fun x => by omega
    simp only [e3]
    rfl

include hQ

/-- The pair's outputs are those of its two chunks. -/
theorem outAt_eq (h : ℕ) (hh : h < 4) (p : ℕ) (hp : p < 8) (r : Fin 128) (w : Fin 256) :
    outAt X p h (ix2 r w) = recOut Qi Ki Qo K D V b0 h (n0 + (2 * p + (r : ℕ) / 64)) ((r : ℕ) % 64) w := by
  unfold outAt recOut intra
  rw [pairOut_apply]
  simp only [stateAt_eq A hK hD hV h hh p hp.le]
  by_cases hr : (r : ℕ) < 64
  · have e1 : (r : ℕ) / 64 = 0 := by omega
    have e2 : (r : ℕ) % 64 = r := by omega
    simp only [dif_pos hr, e1, e2, Nat.add_zero, A.qout (2 * p) (by omega) h hh]
    congr 1
    rw [sum_halves]
    simp only [scoreA_apply, A.qin (2 * p) (by omega) h hh, A.v p hp h hh]
    have z : ∀ j : Fin 64, ((if 64 + (j : ℕ) ≤ r then ∑ x : Fin 128, Qi (64 * (b0 + (n0 + 2 * p)) + r) (128 * h + x)
        * (if h' : 64 + (j : ℕ) < 64 then X.kin (2 * p) h (ix2 ⟨64 + j, h'⟩ x) else 0) else 0)
        * V (64 * (b0 + (n0 + 2 * p)) + (64 + j)) (256 * h + w)) = 0 := fun j => by
      rw [if_neg (by omega), zero_mul]
    simp only [z, Finset.sum_const_zero, add_zero]
    refine Finset.sum_congr rfl fun j _ => ?_
    simp only [dif_pos j.isLt, A.kin (2 * p) (by omega) h hh]
  · have e1 : (r : ℕ) / 64 = 1 := by omega
    have e2 : (r : ℕ) % 64 = r - 64 := by omega
    simp only [dif_neg hr, e1, e2, A.qout (2 * p + 1) (by omega) h hh, A.dec (2 * p) (by omega) h hh]
    refine (congrArg (_ + ·) (sum_halves _)).trans ?_
    simp only [scoreB_apply, A.qin (2 * p + 1) (by omega) h hh, A.qout (2 * p + 1) (by omega) h hh, A.v p hp h hh]
    have za : ∀ j : Fin 64, ((if (j : ℕ) < 64 ∨ (j : ℕ) - 64 ≤ r - 64 then
          (∑ x : Fin 128, Qo (64 * (b0 + (n0 + (2 * p + 1))) + (r - 64)) (128 * h + x)
            * (if h' : (j : ℕ) < 64 then X.kst (2 * p) h (ix2 ⟨j, h'⟩ x) else 0))
          + ∑ x : Fin 128, Qi (64 * (b0 + (n0 + (2 * p + 1))) + (r - 64)) (128 * h + x)
            * (if h' : (j : ℕ) < 64 then 0 else X.kin (2 * p + 1) h (ix2 ⟨j - 64, by omega⟩ x)) else 0)
        = ∑ x : Fin 128, Qo (64 * (b0 + (n0 + (2 * p + 1))) + (r - 64)) (128 * h + x) * K (64 * (b0 + (n0 + 2 * p)) + j) (128 * h + x)) := fun j => by
      simp only [dif_pos j.isLt, if_pos (Or.inl j.isLt), mul_zero, Finset.sum_const_zero, add_zero, A.kst (2 * p) (by omega) h hh]
    have zb : ∀ j : Fin 64, ((if 64 + (j : ℕ) < 64 ∨ 64 + (j : ℕ) - 64 ≤ r - 64 then
          (∑ x : Fin 128, Qo (64 * (b0 + (n0 + (2 * p + 1))) + (r - 64)) (128 * h + x)
            * (if h' : 64 + (j : ℕ) < 64 then X.kst (2 * p) h (ix2 ⟨64 + j, h'⟩ x) else 0))
          + ∑ x : Fin 128, Qi (64 * (b0 + (n0 + (2 * p + 1))) + (r - 64)) (128 * h + x)
            * (if h' : 64 + (j : ℕ) < 64 then 0 else X.kin (2 * p + 1) h (ix2 ⟨64 + j - 64, by omega⟩ x)) else 0)
        = if (j : ℕ) ≤ r - 64 then ∑ x : Fin 128, Qi (64 * (b0 + (n0 + (2 * p + 1))) + (r - 64)) (128 * h + x)
            * Ki (64 * (b0 + (n0 + (2 * p + 1))) + j) (128 * h + x) else 0) := fun j => by
      have hj : ¬ 64 + (j : ℕ) < 64 := by omega
      simp only [dif_neg hj, mul_zero, Finset.sum_const_zero, zero_add, A.kin (2 * p + 1) (by omega) h hh, Nat.add_sub_cancel_left, or_iff_right hj]
    simp only [za, zb]
    rw [pair_out _ (fun _ => hQ _ _) (fun _ => hD _ _) (fun _ => recState_real hK hD hV _ _ _ _ _) (fun _ _ => hK _ _) (fun _ => hV _ _)]
    have e3 : ∀ x : Fin 64, 64 * (b0 + (n0 + 2 * p)) + (64 + (x : ℕ)) = 64 * (b0 + (n0 + (2 * p + 1))) + x := fun x => by omega
    simp only [e3]
    rfl

end

end Cert.Gla

end
-- ==== Proof.GlaTail.lean ====
/-
  The last stage of a block on extended reals, and the equation every result row satisfies.

  `glaFn` is the whole result, entry by entry, in terms of the arrays: the outputs of the recurrence (`recOut`), each head
  normalized by the root of its mean square and scaled (`headNorm`), gated, projected, gated again, added to the other mixer's
  output and projected. `blockRes_apply` reads a block of the kernel that way.
-/
module

public import proofs.«01_k».proof.Proof.GlaOut
public import proofs.«01_k».proof.Proof.GlaPairIdeal

@[expose] public section

noncomputable section

namespace Cert.Gla

open Idealize.ShloMosaic Idealize.ShloMosaic.TcCoe Cert.KernelIdeal Cert.KernelIdeal.Gen
open scoped BigOperators

/-- Entry `w` of a head's outputs `o`, divided by the root of their mean square, times the gain. -/
def headNorm (o : ℕ → EReal) (g : EReal) (w : ℕ) : EReal :=
  o w * Ideal.rsqrt (Ideal.div (∑ x : Fin 256, o x * o x) (Ideal.ofBits FTy.f32 0x43800000#32) + Ideal.ofBits FTy.f32 0x358637BD#32) * g

/-- The outputs of the recurrence, by row of the arrays: 8192 positions a sequence, 64 a chunk. -/
def rowOut (Qi Ki Qo K D V : ℕ → ℕ → EReal) (r h w : ℕ) : EReal :=
  recOut Qi Ki Qo K D V (128 * (r / 8192)) h (r % 8192 / 64) (r % 64) w

/-- The result: row `r`, column `j`. -/
def glaFn (Qi Ki Qo K D V RS GB MA : ℕ → ℕ → EReal) (G : ℕ → EReal) (WB WO : ℕ → ℕ → EReal) (r j : ℕ) : EReal :=
  ∑ p : Fin 1024, (GB r p * (∑ q : Fin 1024,
    headNorm (rowOut Qi Ki Qo K D V r ((q : ℕ) / 256)) (G q) ((q : ℕ) % 256) * RS r q * WB q p) + MA r p) * WO p j

theorem partRms_apply (o : Vec Ideal S1024x256 .f32) (g : Vec Ideal S1x256 .f32) (rs : FVec Ideal S1024x256 .f32) (i : Fin 1024)
    (j : Fin 256) : partRms o g rs (ix2 i j) = o (ix2 i j) * Ideal.rsqrt (Ideal.div (∑ x, o (ix2 i x) * o (ix2 i x))
      (Ideal.ofBits FTy.f32 0x43800000#32) + Ideal.ofBits FTy.f32 0x358637BD#32) * g (ix2 0 j) * rs (ix2 i j) := by
  pointwise [partRms]

/-- A head's part, its outputs and gains named. -/
theorem partRms_eq (o : Vec Ideal S1024x256 .f32) (g : Vec Ideal S1x256 .f32) (rs : FVec Ideal S1024x256 .f32) (i : Fin 1024)
    (O : ℕ → EReal) (hO : ∀ w : Fin 256, o (ix2 i w) = O w) (j : Fin 256) :
    partRms o g rs (ix2 i j) = headNorm O (g (ix2 0 j)) j * rs (ix2 i j) := by
  rw [partRms_apply]
  simp only [hO]
  rfl

theorem slice_apply (off : ℕ) (h : S1024x1024.Slices ![0, off] S1024x256) (rs : Vec Ideal S1024x1024 .bf16) (i : Fin 1024)
    (j : Fin 256) (hj : off + j < 1024) :
    extractStridedSlice S1024x256 ![0, off] (extf (F := Ideal) .f32 rs bitsLt_bf16_f32) h (ix2 i j) = rs (ix2 i ⟨off + j, hj⟩) := by
  pointwise

theorem tail_apply (o0 o1 o2 o3 : Vec Ideal S1024x256 .f32) (g0 g1 g2 g3 : Vec Ideal S1x256 .f32) (rs gb ma : Vec Ideal S1024x1024 .bf16)
    (wpb wo : Vec Ideal S1024x1024 .bf16) (i j : Fin 1024) (O : ℕ → ℕ → EReal) (G : ℕ → EReal)
    (h0 : ∀ w : Fin 256, o0 (ix2 i w) = O 0 w) (h1 : ∀ w : Fin 256, o1 (ix2 i w) = O 1 w)
    (h2 : ∀ w : Fin 256, o2 (ix2 i w) = O 2 w) (h3 : ∀ w : Fin 256, o3 (ix2 i w) = O 3 w)
    (k0 : ∀ w : Fin 256, g0 (ix2 0 w) = G w) (k1 : ∀ w : Fin 256, g1 (ix2 0 w) = G (256 + w))
    (k2 : ∀ w : Fin 256, g2 (ix2 0 w) = G (512 + w)) (k3 : ∀ w : Fin 256, g3 (ix2 0 w) = G (768 + w)) :
    tail o0 o1 o2 o3 g0 g1 g2 g3 rs gb ma wpb wo (ix2 i j) =
      ∑ p : Fin 1024, (gb (ix2 i p) * (∑ q : Fin 1024,
        headNorm (O ((q : ℕ) / 256)) (G q) ((q : ℕ) % 256) * rs (ix2 i q) * wpb (ix2 q p)) + ma (ix2 i p)) * wo (ix2 p j) := by
  pointwise [tail]
  refine Finset.sum_congr rfl fun p _ => congrArg (fun z => (gb (ix2 i p) * z + ma (ix2 i p)) * wo (ix2 p j)) ?_
  refine Finset.sum_congr rfl fun q _ => congrArg (· * wpb (ix2 q p)) ?_
  have hq := q.isLt
  by_cases c0 : (q : ℕ) < 256
  · rw [dif_pos c0, partRms_eq o0 g0 _ i (O 0) h0, k0, slice_apply 0 _ _ _ _ (show 0 + (q : ℕ) < 1024 by omega)]
    have e1 : (q : ℕ) / 256 = 0 := by omega
    have e2 : (q : ℕ) % 256 = q := by omega
    simp only [e1, e2, Nat.zero_add]
  rw [dif_neg c0]
  by_cases c1 : (q : ℕ) - 256 < 256
  · rw [dif_pos c1, partRms_eq o1 g1 _ i (O 1) h1, k1, slice_apply 256 _ _ _ _ (show 256 + ((q : ℕ) - 256) < 1024 by omega)]
    have e1 : (q : ℕ) / 256 = 1 := by omega
    have e2 : (q : ℕ) % 256 = q - 256 := by omega
    have e3 : 256 + ((q : ℕ) - 256) = q := by omega
    simp only [e1, e2, e3]
  rw [dif_neg c1]
  by_cases c2 : (q : ℕ) - 256 - 256 < 256
  · rw [dif_pos c2, partRms_eq o2 g2 _ i (O 2) h2, k2, slice_apply 512 _ _ _ _ (show 512 + ((q : ℕ) - 256 - 256) < 1024 by omega)]
    have e1 : (q : ℕ) / 256 = 2 := by omega
    have e2 : (q : ℕ) % 256 = q - 256 - 256 := by omega
    have e3 : 512 + ((q : ℕ) - 256 - 256) = q := by omega
    simp only [e1, e2, e3]
  · rw [dif_neg c2, partRms_eq o3 g3 _ i (O 3) h3, k3, slice_apply 768 _ _ _ _ (show 768 + ((q : ℕ) - 256 - 256 - 256) < 1024 by omega)]
    have e1 : (q : ℕ) / 256 = 3 := by omega
    have e2 : (q : ℕ) % 256 = q - 256 - 256 - 256 := by omega
    have e3 : 768 + ((q : ℕ) - 256 - 256 - 256) = q := by omega
    simp only [e1, e2, e3]

theorem blockCols_apply (X : Parts Ideal) (h : ℕ) (hh : h < 4) (i : Fin 1024) (w : Fin 256) :
    blockCols X h (ix2 i w) = outAt X ((i : ℕ) / 128) h (ix2 (⟨(i : ℕ) % 128, Nat.mod_lt _ (by decide)⟩ : Fin 128) w) := by
  unfold blockCols
  have hw := w.isLt
  refine (View.ld_unit_apply_of (Val := Elt Ideal) (e := .f32) (blockOut X) _ _ _ (ix2 i w) (ix2 i (⟨256 * h + w, by omega⟩ : Fin 1024)) fun a => ?_).trans ?_
  · match a with
    | ⟨0, _⟩ => show (i : ℕ) = 0 + i; omega
    | ⟨1, _⟩ => show 256 * h + (w : ℕ) = 256 * (h % 4) + w; omega
  · unfold blockOut
    show outAt X ((i : ℕ) / 128) ((256 * h + (w : ℕ)) / 256) (ix2 _ (⟨(256 * h + (w : ℕ)) % 256, _⟩ : Fin 256)) = _
    have e1 : (256 * h + (w : ℕ)) / 256 = h := by omega
    have e2 : (256 * h + (w : ℕ)) % 256 = w := by omega
    simp only [e1, e2]
    rfl

theorem gain_apply (x9 : Vec Ideal S1x1024 .f32) (h : ℕ) (hh : h < 4) (w : Fin 256) (hw : 256 * h + (w : ℕ) < 1024) :
    gain x9 h (ix2 0 w) = x9 (ix2 0 ⟨256 * h + w, hw⟩) := by
  unfold gain
  refine View.ld_unit_apply_of (Val := Elt Ideal) (e := .f32) x9 _ _ _ (ix2 0 w) (ix2 (0 : Fin 1) (⟨256 * h + w, hw⟩ : Fin 1024)) fun a => ?_
  match a with
  | ⟨0, _⟩ => rfl
  | ⟨1, _⟩ => show 256 * h + (w : ℕ) = 256 * (h % 4) + w; omega

/-- A row of a block of the result, from the outputs `O` of that row and the gains `G`. -/
theorem blockRes_apply (X : Parts Ideal) (x6 x7 x8 : Vec Ideal S1024x1024 .bf16) (x9 : Vec Ideal S1x1024 .f32)
    (x10 x11 : Vec Ideal S1024x1024 .bf16) (i j : Fin 1024) (O : ℕ → ℕ → EReal) (G : ℕ → EReal)
    (hO : ∀ h < 4, ∀ w : Fin 256, outAt X ((i : ℕ) / 128) h (ix2 (⟨(i : ℕ) % 128, Nat.mod_lt _ (by decide)⟩ : Fin 128) w) = O h w)
    (hG : ∀ q : Fin 1024, x9 (ix2 0 q) = G q) :
    blockRes X x6 x7 x8 x9 x10 x11 (ix2 i j) =
      ∑ p : Fin 1024, (x7 (ix2 i p) * (∑ q : Fin 1024,
        headNorm (O ((q : ℕ) / 256)) (G q) ((q : ℕ) % 256) * x6 (ix2 i q) * x10 (ix2 q p)) + x8 (ix2 i p)) * x11 (ix2 p j) := by
  have ho : ∀ h < 4, ∀ w : Fin 256, blockCols X h (ix2 i w) = O h w := fun h hh w => (blockCols_apply X h hh i w).trans (hO h hh w)
  have hg : ∀ h < 4, ∀ w : Fin 256, gain x9 h (ix2 0 w) = G (256 * h + w) := fun h hh w =>
    (gain_apply x9 h hh w (by have := w.isLt; omega)).trans (hG _)
  refine tail_apply _ _ _ _ _ _ _ _ _ _ _ _ _ i j O G (ho 0 (by decide)) (ho 1 (by decide)) (ho 2 (by decide)) (ho 3 (by decide))
    (fun w => ?_) (hg 1 (by decide)) (hg 2 (by decide)) (hg 3 (by decide))
  exact (hg 0 (by decide) w).trans (by rw [Nat.mul_zero, Nat.zero_add])

end Cert.Gla

end
-- ==== Proof.GlaRead.lean ====
/-
  Arrays read by row and column, at every pair of natural numbers: `rd` an array of two axes, `rd3` a matrix under a leading axis of one.
-/
module

public import Idealize.ShloMosaic.Lib.Pointwise

@[expose] public section

noncomputable section

namespace Cert.Gla

open Idealize.ShloMosaic

/-- An array of two axes, read by row and column. -/
def rd {n0 n1 : ℕ} [NeZero n0] [NeZero n1] (x : (⟨2, ![n0, n1]⟩ : Shape).Idx → EReal) (r q : ℕ) : EReal :=
  x (ix2 (Fin.ofNat n0 r) (Fin.ofNat n1 q))

theorem rd_eq {n0 n1 : ℕ} [NeZero n0] [NeZero n1] (x : (⟨2, ![n0, n1]⟩ : Shape).Idx → EReal) (a : Fin n0) (b : Fin n1) (r q : ℕ)
    (hr : (a : ℕ) = r) (hq : (b : ℕ) = q) : x (ix2 a b) = rd x r q := by
  subst hr hq
  unfold rd
  rw [show Fin.ofNat n0 a = a from Fin.ext (Nat.mod_eq_of_lt a.isLt), show Fin.ofNat n1 b = b from Fin.ext (Nat.mod_eq_of_lt b.isLt)]

/-- A matrix held in an array of one leading axis, read by row and column. -/
def rd3 {n0 n1 : ℕ} [NeZero n0] [NeZero n1] (x : (⟨3, ![1, n0, n1]⟩ : Shape).Idx → EReal) (r q : ℕ) : EReal :=
  x (ix3 (0 : Fin 1) (Fin.ofNat n0 r) (Fin.ofNat n1 q))

theorem rd3_eq {n0 n1 : ℕ} [NeZero n0] [NeZero n1] (x : (⟨3, ![1, n0, n1]⟩ : Shape).Idx → EReal) (a : Fin n0) (b : Fin n1) (r q : ℕ)
    (hr : (a : ℕ) = r) (hq : (b : ℕ) = q) : x (ix3 (0 : Fin 1) a b) = rd3 x r q := by
  subst hr hq
  unfold rd3
  rw [show Fin.ofNat n0 a = a from Fin.ext (Nat.mod_eq_of_lt a.isLt), show Fin.ofNat n1 b = b from Fin.ext (Nat.mod_eq_of_lt b.isLt)]

end Cert.Gla

end
-- ==== Proof.GlaBlocks.lean ====
/-
  The blocks a grid point reads, as cuts of the argument arrays.

  Grid point `t` reads the rows from `1024 * t` on, the decays from `16 * t` on; the gains
  and the two projections it reads whole. `agrees` says that the pieces of the point's blocks are those of the arrays.
-/
module

public import proofs.«01_k».proof.Proof.GlaTail
public import proofs.«01_k».proof.Proof.GlaRead
public import proofs.«01_k».proof.Proof.Gen.KernelIdeal.Value
public import Idealize.ShloMosaic.Lib.Pipeline.ValueKit.Point

@[expose] public section

noncomputable section

namespace Cert.Gla

open Idealize.ShloMosaic Idealize.ShloMosaic.TcCoe Cert.KernelIdeal Cert.KernelIdeal.Gen

theorem ix_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem ix_whole : ∀ t : Fin cfg0.N, win0_9.index t = ![0, 0] ∧ win0_10.index t = ![0, 0] ∧ win0_11.index t = ![0, 0] :=
  (by decide +kernel : ∀ t : Fin grid0.N, _)

theorem t_lt (t : Fin cfg0.N) : t.val < 64 := lt_of_lt_of_eq t.isLt (show cfg0.N = 64 from N_0)

section
variable (m : (ℓ : Loc nD τ sig) → Buf (Elt Ideal) ℓ) (c : Dev nD)

abbrev aQi : ℕ → ℕ → EReal := rd (n0 := 65536) (n1 := 512) (m ((c : Thread nD τ).loc main_arg0))
abbrev aKi : ℕ → ℕ → EReal := rd (n0 := 65536) (n1 := 512) (m ((c : Thread nD τ).loc main_arg1))
abbrev aQo : ℕ → ℕ → EReal := rd (n0 := 65536) (n1 := 512) (m ((c : Thread nD τ).loc main_arg2))
abbrev aK : ℕ → ℕ → EReal := rd (n0 := 65536) (n1 := 512) (m ((c : Thread nD τ).loc main_arg3))
abbrev aD : ℕ → ℕ → EReal := rd (n0 := 1024) (n1 := 512) (m ((c : Thread nD τ).loc main_arg4))
abbrev aV : ℕ → ℕ → EReal := rd (n0 := 65536) (n1 := 1024) (m ((c : Thread nD τ).loc main_arg5))
abbrev aRS : ℕ → ℕ → EReal := rd (n0 := 65536) (n1 := 1024) (m ((c : Thread nD τ).loc main_arg6))
abbrev aGB : ℕ → ℕ → EReal := rd (n0 := 65536) (n1 := 1024) (m ((c : Thread nD τ).loc main_arg7))
abbrev aMA : ℕ → ℕ → EReal := rd (n0 := 65536) (n1 := 1024) (m ((c : Thread nD τ).loc main_arg8))
abbrev aG : ℕ → EReal := fun q => rd3 (n0 := 4) (n1 := 256) (m ((c : Thread nD τ).loc main_arg9)) (q / 256) (q % 256)
abbrev aWB : ℕ → ℕ → EReal := rd3 (n0 := 1024) (n1 := 1024) (m ((c : Thread nD τ).loc main_arg10))
abbrev aWO : ℕ → ℕ → EReal := rd3 (n0 := 1024) (n1 := 1024) (m ((c : Thread nD τ).loc main_arg11))

variable (t : Fin cfg0.N)

theorem blk0 (i : Fin 1024) (j : Fin 512) : iblk m c 0 t (ix2 i j) = aQi m c (t.val * 1024 + i) j := by
  have ht := t_lt t
  refine Eq.trans ?_ (rd_eq (m ((c : Thread nD τ).loc main_arg0)) (⟨t.val * 1024 + i.val, by omega⟩ : Fin 65536) j _ _ rfl rfl)
  blk_ext! [iblk, V, (ix_rows t).1]

theorem blk1 (i : Fin 1024) (j : Fin 512) : iblk m c 1 t (ix2 i j) = aKi m c (t.val * 1024 + i) j := by
  have ht := t_lt t
  refine Eq.trans ?_ (rd_eq (m ((c : Thread nD τ).loc main_arg1)) (⟨t.val * 1024 + i.val, by omega⟩ : Fin 65536) j _ _ rfl rfl)
  blk_ext! [iblk, V, (ix_rows t).2.1]

theorem blk2 (i : Fin 1024) (j : Fin 512) : iblk m c 2 t (ix2 i j) = aQo m c (t.val * 1024 + i) j := by
  have ht := t_lt t
  refine Eq.trans ?_ (rd_eq (m ((c : Thread nD τ).loc main_arg2)) (⟨t.val * 1024 + i.val, by omega⟩ : Fin 65536) j _ _ rfl rfl)
  blk_ext! [iblk, V, (ix_rows t).2.2.1]

theorem blk3 (i : Fin 1024) (j : Fin 512) : iblk m c 3 t (ix2 i j) = aK m c (t.val * 1024 + i) j := by
  have ht := t_lt t
  refine Eq.trans ?_ (rd_eq (m ((c : Thread nD τ).loc main_arg3)) (⟨t.val * 1024 + i.val, by omega⟩ : Fin 65536) j _ _ rfl rfl)
  blk_ext! [iblk, V, (ix_rows t).2.2.2.1]

theorem blk4 (i : Fin 16) (j : Fin 512) : iblk m c 4 t (ix2 i j) = aD m c (t.val * 16 + i) j := by
  have ht := t_lt t
  refine Eq.trans ?_ (rd_eq (m ((c : Thread nD τ).loc main_arg4)) (⟨t.val * 16 + i.val, by omega⟩ : Fin 1024) j _ _ rfl rfl)
  blk_ext! [iblk, V, (ix_rows t).2.2.2.2.1]

theorem blk5 (i : Fin 1024) (j : Fin 1024) : iblk m c 5 t (ix2 i j) = aV m c (t.val * 1024 + i) j := by
  have ht := t_lt t
  refine Eq.trans ?_ (rd_eq (m ((c : Thread nD τ).loc main_arg5)) (⟨t.val * 1024 + i.val, by omega⟩ : Fin 65536) j _ _ rfl rfl)
  blk_ext! [iblk, V, (ix_rows t).2.2.2.2.2.1]

theorem blk6 (i : Fin 1024) (j : Fin 1024) : iblk m c 6 t (ix2 i j) = aRS m c (t.val * 1024 + i) j := by
  have ht := t_lt t
  refine Eq.trans ?_ (rd_eq (m ((c : Thread nD τ).loc main_arg6)) (⟨t.val * 1024 + i.val, by omega⟩ : Fin 65536) j _ _ rfl rfl)
  blk_ext! [iblk, V, (ix_rows t).2.2.2.2.2.2.1]

theorem blk7 (i : Fin 1024) (j : Fin 1024) : iblk m c 7 t (ix2 i j) = aGB m c (t.val * 1024 + i) j := by
  have ht := t_lt t
  refine Eq.trans ?_ (rd_eq (m ((c : Thread nD τ).loc main_arg7)) (⟨t.val * 1024 + i.val, by omega⟩ : Fin 65536) j _ _ rfl rfl)
  blk_ext! [iblk, V, (ix_rows t).2.2.2.2.2.2.2.1]

theorem blk8 (i : Fin 1024) (j : Fin 1024) : iblk m c 8 t (ix2 i j) = aMA m c (t.val * 1024 + i) j := by
  have ht := t_lt t
  refine Eq.trans ?_ (rd_eq (m ((c : Thread nD τ).loc main_arg8)) (⟨t.val * 1024 + i.val, by omega⟩ : Fin 65536) j _ _ rfl rfl)
  blk_ext! [iblk, V, (ix_rows t).2.2.2.2.2.2.2.2]

theorem blk9 (j : Fin 1024) : iblk m c 9 t (ix2 (n0 := 1) 0 j) = aG m c j := by
  refine Eq.trans ?_ (rd3_eq (m ((c : Thread nD τ).loc main_arg9)) (⟨j.val / 256, by omega⟩ : Fin 4) (⟨j.val % 256, by omega⟩ : Fin 256) _ _ rfl rfl)
  blk_ext! [iblk, V, (ix_whole t).1]

theorem blk10 (i j : Fin 1024) : iblk m c 10 t (ix2 i j) = aWB m c i j := by
  refine Eq.trans ?_ (rd3_eq (m ((c : Thread nD τ).loc main_arg10)) i j _ _ rfl rfl)
  blk_ext! [iblk, V, (ix_whole t).2.1]

theorem blk11 (i j : Fin 1024) : iblk m c 11 t (ix2 i j) = aWO m c i j := by
  refine Eq.trans ?_ (rd3_eq (m ((c : Thread nD τ).loc main_arg11)) i j _ _ rfl rfl)
  blk_ext! [iblk, V, (ix_whole t).2.2]

end

/-- A cut of a block of keys or queries, where the block's rows are those of `f` from `b` on. -/
theorem cut_k (x : Vec Ideal S1024x512 .bf16) (f : ℕ → ℕ → EReal) (b : ℕ) (hx : ∀ (i : Fin 1024) (j : Fin 512), x (ix2 i j) = f (b + i) j)
    (c : ℕ) (hc : c < 16) (h : ℕ) (hh : h < 4) (i : Fin 64) (k : Fin 128) :
    View.ld x (Rect.unit (s := S1024x512) ![64 * (c % 16), 128 * (h % 4)] S64x128.size (inb_k c h)) (ix2 i k)
      = f (b + (64 * c + i)) (128 * h + k) := by
  have hi := i.isLt; have hk := k.isLt
  refine (View.ld_unit_apply_of (Val := Elt Ideal) (e := .bf16) x _ _ _ (ix2 i k)
    (ix2 (⟨64 * c + i, by omega⟩ : Fin 1024) (⟨128 * h + k, by omega⟩ : Fin 512)) fun a => ?_).trans (hx _ _)
  match a with
  | ⟨0, _⟩ => show 64 * c + (i : ℕ) = 64 * (c % 16) + i; omega
  | ⟨1, _⟩ => show 128 * h + (k : ℕ) = 128 * (h % 4) + k; omega

theorem cut_d (x : Vec Ideal S16x512 .f32) (f : ℕ → ℕ → EReal) (b : ℕ) (hx : ∀ (i : Fin 16) (j : Fin 512), x (ix2 i j) = f (b + i) j)
    (c : ℕ) (hc : c < 16) (h : ℕ) (hh : h < 4) (k : Fin 128) :
    View.ld x (Rect.unit (s := S16x512) ![c % 16, 128 * (h % 4)] S1x128.size (inb_d c h)) (ix2 (n0 := 1) 0 k) = f (b + c) (128 * h + k) := by
  have hk := k.isLt
  refine (View.ld_unit_apply_of (Val := Elt Ideal) (e := .f32) x _ _ _ (ix2 (n0 := 1) 0 k)
    (ix2 (⟨c, hc⟩ : Fin 16) (⟨128 * h + k, by omega⟩ : Fin 512)) fun a => ?_).trans (hx _ _)
  match a with
  | ⟨0, _⟩ => show c = c % 16 + 0; omega
  | ⟨1, _⟩ => show 128 * h + (k : ℕ) = 128 * (h % 4) + k; omega

theorem cut_ds (x : Vec Ideal S16x512 .f32) (f : ℕ → ℕ → EReal) (b : ℕ) (hx : ∀ (i : Fin 16) (j : Fin 512), x (ix2 i j) = f (b + i) j)
    (h : ℕ) (hh : h < 4) (c : Fin 16) (k : Fin 128) :
    View.ld x (Rect.unit (s := S16x512) ![0, 128 * (h % 4)] S16x128.size (inb_ds h)) (ix2 c k) = f (b + c) (128 * h + k) := by
  have hk := k.isLt
  refine (View.ld_unit_apply_of (Val := Elt Ideal) (e := .f32) x _ _ _ (ix2 c k)
    (ix2 c (⟨128 * h + k, by omega⟩ : Fin 512)) fun a => ?_).trans (hx _ _)
  match a with
  | ⟨0, _⟩ => show (c : ℕ) = 0 + c; omega
  | ⟨1, _⟩ => show 128 * h + (k : ℕ) = 128 * (h % 4) + k; omega

theorem cut_v (x : Vec Ideal S1024x1024 .bf16) (f : ℕ → ℕ → EReal) (b : ℕ) (hx : ∀ (i j : Fin 1024), x (ix2 i j) = f (b + i) j)
    (p : ℕ) (hp : p < 8) (h : ℕ) (hh : h < 4) (r : Fin 128) (w : Fin 256) :
    View.ld x (Rect.unit (s := S1024x1024) ![128 * (p % 8), 256 * (h % 4)] S128x256.size (inb_v p h)) (ix2 r w)
      = f (b + (128 * p + r)) (256 * h + w) := by
  have hr := r.isLt; have hw := w.isLt
  refine (View.ld_unit_apply_of (Val := Elt Ideal) (e := .bf16) x _ _ _ (ix2 r w)
    (ix2 (⟨128 * p + r, by omega⟩ : Fin 1024) (⟨256 * h + w, by omega⟩ : Fin 1024)) fun a => ?_).trans (hx _ _)
  match a with
  | ⟨0, _⟩ => show 128 * p + (r : ℕ) = 128 * (p % 8) + r; omega
  | ⟨1, _⟩ => show 256 * h + (w : ℕ) = 256 * (h % 4) + w; omega

theorem carried_apply (xs : Vec Ideal S4x128x256 .f32) (h : ℕ) (hh : h < 4) (k : Fin 128) (w : Fin 256) :
    carried xs h (ix2 k w) = xs (ix3 (⟨h, hh⟩ : Fin 4) k w) := by
  unfold carried
  refine (shapeCast_dropUnit_apply ![128, 256] _ shapeCasts_S1x128x256_S128x256 (ix2 k w)).trans ?_
  refine View.ld_unit_apply_of (Val := Elt Ideal) (e := .f32) xs _ _ _ _ (ix3 (⟨h, hh⟩ : Fin 4) k w) fun a => ?_
  match a with
  | ⟨0, _⟩ => show h = h % 4 + 0; omega
  | ⟨1, _⟩ => show (k : ℕ) = 0 + k; omega
  | ⟨2, _⟩ => show (w : ℕ) = 0 + w; omega

/-- The pieces of a grid point's blocks are those of the arrays, once its states are. -/
theorem agrees (m : (ℓ : Loc nD τ sig) → Buf (Elt Ideal) ℓ) (c : Dev nD) (t : Fin cfg0.N) (st : ℕ → FVec Ideal S128x256 .f32)
    (hst : ∀ h < 4, ∀ (k : Fin 128) (w : Fin 256), st h (ix2 k w)
      = recState (aK m c) (aD m c) (aV m c) (128 * (t.val / 8)) h (16 * (t.val % 8)) k w) :
    Agrees (parts (iblk m c 0 t) (iblk m c 1 t) (iblk m c 2 t) (iblk m c 3 t) (iblk m c 4 t) (iblk m c 5 t) st)
      (aQi m c) (aKi m c) (aQo m c) (aK m c) (aD m c) (aV m c) (128 * (t.val / 8)) (16 * (t.val % 8)) where
  qin x hx h hh i k := (cut_k _ _ _ (blk0 m c t) x hx h hh i k).trans (congrArg (aQi m c · _) (by omega))
  kin x hx h hh i k := (cut_k _ _ _ (blk1 m c t) x hx h hh i k).trans (congrArg (aKi m c · _) (by omega))
  qout x hx h hh i k := (cut_k _ _ _ (blk2 m c t) x hx h hh i k).trans (congrArg (aQo m c · _) (by omega))
  kst x hx h hh i k := (cut_k _ _ _ (blk3 m c t) x hx h hh i k).trans (congrArg (aK m c · _) (by omega))
  dec x hx h hh k := (cut_d _ _ _ (blk4 m c t) x hx h hh k).trans (congrArg (aD m c · _) (by omega))
  decs h hh x k := (cut_ds _ _ _ (blk4 m c t) h hh x k).trans (congrArg (aD m c · _) (by omega))
  v p hp h hh r w := (cut_v _ _ _ (blk5 m c t) p hp h hh r w).trans (congrArg (aV m c · _) (by omega))
  st := hst

end Cert.Gla

end
-- ==== Proof.GlaArray.lean ====
/-
  The kernel's array, by induction over the grid points.

  Sequence `b` is the eight points from `8 * b` on; the first starts from zeros, the others from what the point before left. After
  point `n` the carried buffer holds the recurrence's states (`state_after`), so the block of the result is that of `glaFn`
  (`block_at`) and the array after the run is `glaFn` of the arguments (`array_eq`).
-/
module

public import proofs.«01_k».proof.Proof.GlaBlocks

@[expose] public section

noncomputable section

namespace Cert.Gla

open Idealize.ShloMosaic Idealize.ShloMosaic.TcCoe Cert.KernelIdeal Cert.KernelIdeal.Gen

variable (m : (ℓ : Loc nD τ sig) → Buf (Elt Ideal) ℓ) (c : Dev nD)

/-- The operands of the recurrence are real numbers. -/
structure Reals : Prop where
  qo : ∀ r q, IsReal (aQo m c r q)
  k : ∀ r q, IsReal (aK m c r q)
  d : ∀ r q, IsReal (aD m c r q)
  v : ∀ r q, IsReal (aV m c r q)

/-- The states a point starts from. -/
def startOf (t : Fin cfg0.N) : Vec Ideal S4x128x256 .f32 :=
  if t.val % 8 = 0 then (k0_pay2 (F := Ideal)) else (outsAt0 m c (t.val - 1) (by omega)).2

/-- The pieces a point works on. -/
def ptParts (t : Fin cfg0.N) : Parts Ideal :=
  parts (iblk m c 0 t) (iblk m c 1 t) (iblk m c 2 t) (iblk m c 3 t) (iblk m c 4 t) (iblk m c 5 t) (carried (startOf m c t))

/-- What a point leaves: the block of the result and the states. -/
theorem outs_eq (t : Fin cfg0.N) : outsAt0 m c t.val t.isLt =
    (blockRes (ptParts m c t) (iblk m c 6 t) (iblk m c 7 t) (iblk m c 8 t) (iblk m c 9 t) (iblk m c 10 t) (iblk m c 11 t),
      blockState (ptParts m c t)) := by
  by_cases h0 : t.val % 8 = 0
  · rw [outsAt0_A m c t h0, out_A, sout_A]
    unfold ptParts startOf
    rw [if_pos h0]
  · rw [outsAt0_B m c t h0, out_B, sout_B]
    unfold ptParts startOf
    rw [if_neg h0]

theorem zeros_apply (h : Fin 4) (k : Fin 128) (w : Fin 256) : k0_pay2 (F := Ideal) (ix3 h k w) = 0 := by
  pointwise [k0_pay2]

variable {m c} in
theorem agrees_of (t : Fin cfg0.N) (hs : ∀ (h : Fin 4) (k : Fin 128) (w : Fin 256), startOf m c t (ix3 h k w)
      = recState (aK m c) (aD m c) (aV m c) (128 * (t.val / 8)) h (16 * (t.val % 8)) k w) :
    Agrees (ptParts m c t) (aQi m c) (aKi m c) (aQo m c) (aK m c) (aD m c) (aV m c) (128 * (t.val / 8)) (16 * (t.val % 8)) :=
  agrees m c t _ fun h hh k w => (carried_apply _ h hh k w).trans (hs ⟨h, hh⟩ k w)

variable {m c} (R : Reals m c)
include R

theorem state_of (t : Fin cfg0.N) (A : Agrees (ptParts m c t) (aQi m c) (aKi m c) (aQo m c) (aK m c) (aD m c) (aV m c)
      (128 * (t.val / 8)) (16 * (t.val % 8))) (h : Fin 4) (k : Fin 128) (w : Fin 256) :
    (outsAt0 m c t.val t.isLt).2 (ix3 h k w)
      = recState (aK m c) (aD m c) (aV m c) (128 * (t.val / 8)) h (16 * (t.val % 8) + 16) k w := by
  rw [outs_eq]
  exact stateAt_eq A R.k R.d R.v h h.isLt 8 le_rfl k w

/-- The states a point starts from are the recurrence's after the chunks before it. -/
theorem start_eq : ∀ (n : ℕ) (hn : n < cfg0.N) (h : Fin 4) (k : Fin 128) (w : Fin 256), startOf m c ⟨n, hn⟩ (ix3 h k w)
      = recState (aK m c) (aD m c) (aV m c) (128 * (n / 8)) h (16 * (n % 8)) k w
  | n, hn, h, k, w => by
    unfold startOf
    by_cases h0 : n % 8 = 0
    · rw [if_pos h0, zeros_apply, h0]
      rfl
    · rw [if_neg h0]
      obtain ⟨n', rfl⟩ : ∃ n', n = n' + 1 := ⟨n - 1, by omega⟩
      have hn' : n' < cfg0.N := by omega
      have e1 : (n' + 1) / 8 = n' / 8 := by omega
      have e2 : 16 * ((n' + 1) % 8) = 16 * (n' % 8) + 16 := by omega
      rw [e1, e2]
      exact state_of R ⟨n', hn'⟩ (agrees_of ⟨n', hn'⟩ (start_eq n' hn')) h k w

/-- Every entry of a point's block. -/
theorem block_at (t : Fin cfg0.N) (i j : Fin 1024) : (outsAt0 m c t.val t.isLt).1 (ix2 i j)
    = glaFn (aQi m c) (aKi m c) (aQo m c) (aK m c) (aD m c) (aV m c) (aRS m c) (aGB m c) (aMA m c) (aG m c) (aWB m c) (aWO m c)
        (t.val * 1024 + i) j := by
  rw [outs_eq]
  have A := agrees_of t (start_eq R t.val t.isLt)
  have hi := i.isLt
  refine (blockRes_apply _ _ _ _ _ _ _ i j
    (fun h w => rowOut (aQi m c) (aKi m c) (aQo m c) (aK m c) (aD m c) (aV m c) (t.val * 1024 + i) h w) (aG m c)
    (fun h hh w => ?_) (blk9 m c t)).trans ?_
  · refine (outAt_eq A R.qo R.k R.d R.v h hh ((i : ℕ) / 128) (by omega) _ w).trans ?_
    unfold rowOut
    have e1 : (t.val * 1024 + (i : ℕ)) / 8192 = t.val / 8 := by omega
    have e2 : (t.val * 1024 + (i : ℕ)) % 8192 / 64 = 16 * (t.val % 8) + (2 * ((i : ℕ) / 128) + (i : ℕ) % 128 / 64) := by omega
    have e3 : (t.val * 1024 + (i : ℕ)) % 64 = (i : ℕ) % 128 % 64 := by omega
    rw [e1, e2, e3]
  · simp only [blk6, blk7, blk8, blk10, blk11]
    rfl

/-- The array after the run. -/
theorem array_eq (r : Fin 65536) (j : Fin 1024) : Value.G12 m c (ix2 r j)
    = glaFn (aQi m c) (aKi m c) (aQo m c) (aK m c) (aD m c) (aV m c) (aRS m c) (aGB m c) (aMA m c) (aG m c) (aWB m c) (aWO m c) r j := by
  have hr := r.isLt; have hj := j.isLt
  have hp : Value.pt12Of (ix2 r j) = (r : ℕ) / 1024 := by
    show 1 * ((r : ℕ) / 1024 - 0) + 1 * ((j : ℕ) / 1024 - 0) = _
    omega
  have hN : (r : ℕ) / 1024 < cfg0.N := by rw [show cfg0.N = 64 from N_0]; omega
  unfold Value.G12
  rw [dif_pos (by rw [hp]; exact hN), Value.fold0_congr m c _ _ ((r : ℕ) / 1024) (by omega) hp, ← Value.outsAt0_sweep m c _ hN]
  have hl : Value.loc12Of (ix2 r j) = ix2 (⟨(r : ℕ) % 1024, Nat.mod_lt _ (by decide)⟩ : Fin 1024) j := by
    funext a
    match a with
    | ⟨0, _⟩ => rfl
    | ⟨1, _⟩ => exact Fin.ext (show (j : ℕ) % 1024 = j by omega)
  rw [hl, block_at R ⟨(r : ℕ) / 1024, hN⟩]
  have e : (r : ℕ) / 1024 * 1024 + (r : ℕ) % 1024 = r := by omega
  simp only [e]

end Cert.Gla

end
-- ==== Proof.GlaFinite.lean ====
/-
  The precondition: an array is below infinity in absolute value, entry by entry, so its entries are real numbers.
-/
module

public import proofs.«01_k».proof.Defs
public import proofs.«01_k».proof.Proof.GlaArray

@[expose] public section

noncomputable section

namespace Cert.Gla

open Idealize.ShloMosaic Idealize.ShloMosaic.TcCoe Cert.KernelIdeal Cert.KernelIdeal.Gen

/-- An extended real whose absolute value compares below infinity is a real number. -/
theorem isReal_of_olt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x with
  | bot => simp at hlt
  | coe r => exact ⟨r, rfl⟩
  | top => simp at hlt

/-- The side conditions of the precondition. -/
instance preFacts : Cert.Pre_finite.Facts where
  bitsLt_bf16_f32 := by decide
  bcast_S_S65536x512 := by decide
  bcast_S_S1024x512 := by decide
  bcast_S_S65536x1024 := by decide

theorem reals_of_pre (m : (ℓ : Loc nD τ sig) → Buf (Elt Ideal) ℓ) (h : Cert.Pre_KernelIdeal_finite m) (c : Dev nD) : Reals m c where
  qo r q := isReal_of_olt _ (congrFun (h c).1 (ix2 (Fin.ofNat 65536 r) (Fin.ofNat 512 q)))
  k r q := isReal_of_olt _ (congrFun (h c).2.1 (ix2 (Fin.ofNat 65536 r) (Fin.ofNat 512 q)))
  d r q := isReal_of_olt _ (congrFun (h c).2.2.1 (ix2 (Fin.ofNat 1024 r) (Fin.ofNat 512 q)))
  v r q := isReal_of_olt _ (congrFun (h c).2.2.2 (ix2 (Fin.ofNat 65536 r) (Fin.ofNat 1024 q)))

end Cert.Gla

end
-- ==== Proof.GlaRefStep.lean ====
/-
  One trip of the reference's loop, entry by entry.

  Trip `j` cuts chunk `j` out of the four stacked operands, steps the state (`step_state`) and writes the chunk's part of the outputs
  at place `j` (`step_outputs`).
-/
module

public import proofs.«01_k».proof.Proof.Gen.ReferenceIdeal.Run
public import Idealize.ShloMosaic.Lib.Pointwise
public import Idealize.ShloMosaic.Lib.DynamicIndex
public import Idealize.ShloMosaic.Lib.WordCmp

@[expose] public section

set_option maxRecDepth 8192

noncomputable section

namespace Cert.GlaRef

open Idealize.ShloMosaic Idealize.ShloMosaic.TcCoe Cert.ReferenceIdeal Cert.ReferenceIdeal.Gen Cert.ReferenceIdeal.Value
open scoped BigOperators

/-- Where a trip cuts, of the loop's counter: chunk `j`, from the beginning of the other axes. -/
abbrev at5 (j : ℕ) : Fin 5 → ℤ := fun k =>
  (((![constantI S_ 32 (BitVec.ofNat 32 j), constantI S_ 32 0#32, constantI S_ 32 0#32, constantI S_ 32 0#32, constantI S_ 32 0#32] :
    Fin 5 → (⟨S_, .i32⟩ : BufTy).Contents (Elt Ideal))) k (Shape.Idx.first h_S_)).toInt

abbrev at4 (j : ℕ) : Fin 4 → ℤ := fun k =>
  (((![constantI S_ 32 (BitVec.ofNat 32 j), constantI S_ 32 0#32, constantI S_ 32 0#32, constantI S_ 32 0#32] :
    Fin 4 → (⟨S_, .i32⟩ : BufTy).Contents (Elt Ideal))) k (Shape.Idx.first h_S_)).toInt

theorem toInt_lt : ∀ j : Fin 128, (BitVec.ofNat 32 (j : ℕ)).toInt = ((j : ℕ) : ℤ) := by decide +kernel

theorem at5_eq (j : Fin 128) : ∀ a, at5 j a = (((![j, 0, 0, 0, 0] : Fin 5 → ℕ) a : ℕ) : ℤ)
  | ⟨0, _⟩ => toInt_lt j
  | ⟨1, _⟩ => rfl
  | ⟨2, _⟩ => rfl
  | ⟨3, _⟩ => rfl
  | ⟨4, _⟩ => rfl

theorem at4_eq (j : Fin 128) : ∀ a, at4 j a = (((![j, 0, 0, 0] : Fin 4 → ℕ) a : ℕ) : ℤ)
  | ⟨0, _⟩ => toInt_lt j
  | ⟨1, _⟩ => rfl
  | ⟨2, _⟩ => rfl
  | ⟨3, _⟩ => rfl

theorem fits_k (j : Fin 128) : S128x8x4x64x128.Slices ![j, 0, 0, 0, 0] S1x8x4x64x128 := by
  refine ⟨rfl, fun a => ?_⟩
  match a with
  | ⟨0, _⟩ => show (j : ℕ) + 1 ≤ 128; omega
  | ⟨1, _⟩ => show 0 + 8 ≤ 8; omega
  | ⟨2, _⟩ => show 0 + 4 ≤ 4; omega
  | ⟨3, _⟩ => show 0 + 64 ≤ 64; omega
  | ⟨4, _⟩ => show 0 + 128 ≤ 128; omega

theorem fits_v (j : Fin 128) : S128x8x4x64x256.Slices ![j, 0, 0, 0, 0] S1x8x4x64x256 := by
  refine ⟨rfl, fun a => ?_⟩
  match a with
  | ⟨0, _⟩ => show (j : ℕ) + 1 ≤ 128; omega
  | ⟨1, _⟩ => show 0 + 8 ≤ 8; omega
  | ⟨2, _⟩ => show 0 + 4 ≤ 4; omega
  | ⟨3, _⟩ => show 0 + 64 ≤ 64; omega
  | ⟨4, _⟩ => show 0 + 256 ≤ 256; omega

theorem fits_d (j : Fin 128) : S128x8x4x128.Slices ![j, 0, 0, 0] S1x8x4x128 := by
  refine ⟨rfl, fun a => ?_⟩
  match a with
  | ⟨0, _⟩ => show (j : ℕ) + 1 ≤ 128; omega
  | ⟨1, _⟩ => show 0 + 8 ≤ 8; omega
  | ⟨2, _⟩ => show 0 + 4 ≤ 4; omega
  | ⟨3, _⟩ => show 0 + 128 ≤ 128; omega

theorem cut_k (x : Vec Ideal S128x8x4x64x128 .f32) (j : Fin 128) (b : Fin 8) (h : Fin 4) (i : Fin 64) (k : Fin 128) :
    shapeCast S8x4x64x128 (Host.dynamicSlice S1x8x4x64x128 x (at5 j) sliceFits_S128x8x4x64x128_S1x8x4x64x128)
      shapeCasts_S1x8x4x64x128_S8x4x64x128 (ix4 b h i k) = x (ix5 j b h i k) := by
  rw [Host.dynamicSlice_eq_extractStridedSlice _ x (at5 j) _ _ (fits_k j) (at5_eq j)]
  pointwise

theorem cut_v (x : Vec Ideal S128x8x4x64x256 .f32) (j : Fin 128) (b : Fin 8) (h : Fin 4) (i : Fin 64) (w : Fin 256) :
    shapeCast S8x4x64x256 (Host.dynamicSlice S1x8x4x64x256 x (at5 j) sliceFits_S128x8x4x64x256_S1x8x4x64x256)
      shapeCasts_S1x8x4x64x256_S8x4x64x256 (ix4 b h i w) = x (ix5 j b h i w) := by
  rw [Host.dynamicSlice_eq_extractStridedSlice _ x (at5 j) _ _ (fits_v j) (at5_eq j)]
  pointwise

theorem cut_d (x : Vec Ideal S128x8x4x128 .f32) (j : Fin 128) (b : Fin 8) (h : Fin 4) (k : Fin 128) :
    shapeCast S8x4x128 (Host.dynamicSlice S1x8x4x128 x (at4 j) sliceFits_S128x8x4x128_S1x8x4x128)
      shapeCasts_S1x8x4x128_S8x4x128 (ix3 b h k) = x (ix4 j b h k) := by
  rw [Host.dynamicSlice_eq_extractStridedSlice _ x (at4 j) _ _ (fits_d j) (at4_eq j)]
  pointwise

/-- The new state, of the chunk's decays, keys and values and the state before. -/
def newState (d : FVec Ideal S8x4x128 .f32) (s : FVec Ideal S8x4x128x256 .f32) (k : FVec Ideal S8x4x64x128 .f32)
    (v : FVec Ideal S8x4x64x256 .f32) : FVec Ideal S8x4x128x256 .f32 :=
  addf (mulf (broadcastInDim S8x4x128x256 ![0, 1, 2, 3] bcast_S8x4x128x1_S8x4x128x256_0_1_2_3
    (broadcastInDim S8x4x128x1 ![0, 1, 2] bcast_S8x4x128_S8x4x128x1_0_1_2 d)) s)
    (Host.dotGeneral (F := Ideal) (φ₁ := .f32) (φ₂ := .f32) dot_S8x4x64x128_S8x4x64x256_S8x4x128x256_2_2_3_3_01_01 none k v)

theorem newState_apply (d : FVec Ideal S8x4x128 .f32) (s : FVec Ideal S8x4x128x256 .f32) (k : FVec Ideal S8x4x64x128 .f32)
    (v : FVec Ideal S8x4x64x256 .f32) (b : Fin 8) (h : Fin 4) (x : Fin 128) (w : Fin 256) : newState d s k v (ix4 b h x w)
      = d (ix3 b h x) * s (ix4 b h x w) + ∑ i : Fin 64, k (ix4 b h i x) * v (ix4 b h i w) := by
  pointwise [newState]

/-- What a trip stores: the queries times the state. -/
def newOut (q : FVec Ideal S8x4x64x128 .f32) (s : FVec Ideal S8x4x128x256 .f32) : FVec Ideal S1x8x4x64x256 .f32 :=
  broadcastInDim S1x8x4x64x256 ![1, 2, 3, 4] bcast_S8x4x64x256_S1x8x4x64x256_1_2_3_4
    (Host.dotGeneral (F := Ideal) (φ₁ := .f32) (φ₂ := .f32) dot_S8x4x64x128_S8x4x128x256_S8x4x64x256_3_2_2_3_01_01 none q s)

theorem newOut_apply (q : FVec Ideal S8x4x64x128 .f32) (s : FVec Ideal S8x4x128x256 .f32) (b : Fin 8) (h : Fin 4) (i : Fin 64) (w : Fin 256) :
    newOut q s (ix5 (0 : Fin 1) b h i w) = ∑ x : Fin 128, q (ix4 b h i x) * s (ix4 b h x w) := by
  pointwise [newOut]

theorem put_apply (x : Vec Ideal S128x8x4x64x256 .f32) (y : Vec Ideal S1x8x4x64x256 .f32) (j n : Fin 128) (b : Fin 8) (h : Fin 4)
    (i : Fin 64) (w : Fin 256) :
    Host.dynamicUpdateSlice x y (at5 j) updateFits_S128x8x4x64x256_S1x8x4x64x256 (ix5 n b h i w)
      = if n = j then y (ix5 (0 : Fin 1) b h i w) else x (ix5 n b h i w) := by
  rw [WordCmp.dynamicUpdateSlice_eq_update x y (at5 j) _ _ (fits_v j) (at5_eq j)]
  pointwise
  by_cases e : n = j
  · subst e
    rw [dif_pos ⟨le_rfl, Nat.lt_succ_self _⟩, if_pos rfl]
    exact congrArg y (congrArg (ix5 · b h i w) (Fin.ext (Nat.sub_self _)))
  · rw [dif_neg (fun c => e (Fin.ext (by omega))), if_neg e]

section
variable (V0 : Valuation τ sig (Elt Ideal))

/-! The loop's buffers. -/

abbrev bufQ : Vec Ideal S128x8x4x64x128 .f32 := V0 (Proc.devRef .tc main_v17_0)
abbrev bufK : Vec Ideal S128x8x4x64x128 .f32 := V0 (Proc.devRef .tc main_v17_1)
abbrev bufV : Vec Ideal S128x8x4x64x256 .f32 := V0 (Proc.devRef .tc main_v17_2)
abbrev bufD : Vec Ideal S128x8x4x128 .f32 := V0 (Proc.devRef .tc main_v17_3)
abbrev bufN : IVec S_ 32 := V0 (Proc.devRef .tc main_v17_4)
abbrev bufS : Vec Ideal S8x4x128x256 .f32 := V0 (Proc.devRef .tc main_v17_5)
abbrev bufO : Vec Ideal S128x8x4x64x256 .f32 := V0 (Proc.devRef .tc main_v17_6)

variable (j : Fin 128) (h4 : bufN V0 = constantI S_ 32 (BitVec.ofNat 32 j))
include h4

theorem step_state (b : Fin 8) (h : Fin 4) (x : Fin 128) (w : Fin 256) : bufS (STEP V0) (ix4 b h x w) =
    bufD V0 (ix4 j b h x) * bufS V0 (ix4 b h x w) + ∑ i : Fin 64, bufK V0 (ix5 j b h i x) * bufV V0 (ix5 j b h i w) := by
  refine (congrFun (STEP_main_v17_5 V0) _).trans ?_
  unfold step_main_v17_5
  rw [show V0 (Proc.devRef .tc main_v17_4) = constantI S_ 32 (BitVec.ofNat 32 j) from h4]
  refine (newState_apply _ _ _ _ b h x w).trans ?_
  exact congrArg₂ (· + ·) (congrArg (· * bufS V0 (ix4 b h x w)) (cut_d (bufD V0) j b h x))
    (Finset.sum_congr rfl fun i _ => congrArg₂ (· * ·) (cut_k (bufK V0) j b h i x) (cut_v (bufV V0) j b h i w))

theorem step_outputs (n : Fin 128) (b : Fin 8) (h : Fin 4) (i : Fin 64) (w : Fin 256) : bufO (STEP V0) (ix5 n b h i w) =
    if n = j then ∑ x : Fin 128, bufQ V0 (ix5 j b h i x) * bufS V0 (ix4 b h x w) else bufO V0 (ix5 n b h i w) := by
  refine (congrFun (STEP_main_v17_6 V0) _).trans ?_
  unfold step_main_v17_6
  rw [show V0 (Proc.devRef .tc main_v17_4) = constantI S_ 32 (BitVec.ofNat 32 j) from h4]
  refine (put_apply _ (newOut _ _) j n b h i w).trans ?_
  rw [newOut_apply]
  refine congrArg (fun z => if n = j then z else bufO V0 (ix5 n b h i w)) ?_
  exact Finset.sum_congr rfl fun x _ => congrArg (· * bufS V0 (ix4 b h x w)) (cut_k (bufQ V0) j b h i x)

theorem step_counter : bufN (STEP V0) = constantI S_ 32 (BitVec.ofNat 32 (j + 1)) := by
  refine (STEP_main_v17_4 V0).trans ?_
  unfold step_main_v17_4
  rw [show V0 (Proc.devRef .tc main_v17_4) = constantI S_ 32 (BitVec.ofNat 32 j) from h4]
  funext i
  exact (BitVec.ofNat_add _ _).symm

end

end Cert.GlaRef

end
-- ==== Proof.GlaRefLoop.lean ====
/-
  The reference's loop: before trip `n` the state is the recurrence's after `n` chunks, and the stacked outputs hold the parts of the
  chunks before `n`.
-/
module

public import proofs.«01_k».proof.Proof.GlaRefStep
public import proofs.«01_k».proof.Proof.GlaRead
public import proofs.«01_k».proof.Proof.GlaSpec
public import proofs.«01_k».proof.Proof.Gen.ReferenceIdeal.Step

@[expose] public section

set_option maxRecDepth 8192

noncomputable section

namespace Cert.GlaRef

open Idealize.ShloMosaic Idealize.ShloMosaic.TcCoe Idealize.SL.Sem Idealize.ShloMosaic.StableHlo
open Cert.ReferenceIdeal Cert.ReferenceIdeal.Gen Cert.ReferenceIdeal.Value
open Cert.Gla (rd rd3 rd_eq rd3_eq recState)
open scoped BigOperators

/-- What the loop's buffers hold before trip `n`. -/
structure LoopAt (Qo K D V : ℕ → ℕ → EReal) (V0 : Valuation τ sig (Elt Ideal)) (n : ℕ) : Prop where
  q : ∀ (j : Fin 128) (b : Fin 8) (h : Fin 4) (i : Fin 64) (x : Fin 128),
    bufQ V0 (ix5 j b h i x) = Qo (64 * (128 * b + j) + i) (128 * h + x)
  k : ∀ (j : Fin 128) (b : Fin 8) (h : Fin 4) (i : Fin 64) (x : Fin 128),
    bufK V0 (ix5 j b h i x) = K (64 * (128 * b + j) + i) (128 * h + x)
  v : ∀ (j : Fin 128) (b : Fin 8) (h : Fin 4) (i : Fin 64) (w : Fin 256),
    bufV V0 (ix5 j b h i w) = V (64 * (128 * b + j) + i) (256 * h + w)
  d : ∀ (j : Fin 128) (b : Fin 8) (h : Fin 4) (x : Fin 128), bufD V0 (ix4 j b h x) = D (128 * b + j) (128 * h + x)
  num : bufN V0 = constantI S_ 32 (BitVec.ofNat 32 n)
  s : ∀ (b : Fin 8) (h : Fin 4) (x : Fin 128) (w : Fin 256), bufS V0 (ix4 b h x w) = recState K D V (128 * b) h n x w
  o : ∀ (j : Fin 128) (b : Fin 8) (h : Fin 4) (i : Fin 64) (w : Fin 256), (j : ℕ) < n → bufO V0 (ix5 j b h i w)
    = ∑ x : Fin 128, Qo (64 * (128 * b + j) + i) (128 * h + x) * recState K D V (128 * b) h j x w

theorem LoopAt.step {Qo K D V : ℕ → ℕ → EReal} {V0 : Valuation τ sig (Elt Ideal)} {n : ℕ} (L : LoopAt Qo K D V V0 n) (hn : n < 128) :
    LoopAt Qo K D V (STEP V0) (n + 1) where
  q j b h i x := (congrFun (STEP_main_v17_0 V0) _).trans (L.q j b h i x)
  k j b h i x := (congrFun (STEP_main_v17_1 V0) _).trans (L.k j b h i x)
  v j b h i x := (congrFun (STEP_main_v17_2 V0) _).trans (L.v j b h i x)
  d j b h x := (congrFun (STEP_main_v17_3 V0) _).trans (L.d j b h x)
  num := step_counter V0 ⟨n, hn⟩ L.num
  s b h x w := by
    rw [step_state V0 ⟨n, hn⟩ L.num]
    simp only [L.d, L.s, L.k, L.v]
    rfl
  o j b h i w hj := by
    rw [step_outputs V0 ⟨n, hn⟩ L.num]
    by_cases e : j = ⟨n, hn⟩
    · subst e
      rw [if_pos rfl]
      simp only [L.q, L.s]
    · rw [if_neg e]
      exact L.o j b h i w (by have : (j : ℕ) ≠ n := fun c => e (Fin.ext c); omega)

section
variable (m : (ℓ : Loc nD τ sig) → Buf (Elt Ideal) ℓ) (c : Dev nD)

abbrev rQi : ℕ → ℕ → EReal := rd (n0 := 65536) (n1 := 512) (m ((c.tc : Thread nD τ).loc main_arg0))
abbrev rKi : ℕ → ℕ → EReal := rd (n0 := 65536) (n1 := 512) (m ((c.tc : Thread nD τ).loc main_arg1))
abbrev rQo : ℕ → ℕ → EReal := rd (n0 := 65536) (n1 := 512) (m ((c.tc : Thread nD τ).loc main_arg2))
abbrev rK : ℕ → ℕ → EReal := rd (n0 := 65536) (n1 := 512) (m ((c.tc : Thread nD τ).loc main_arg3))
abbrev rD : ℕ → ℕ → EReal := rd (n0 := 1024) (n1 := 512) (m ((c.tc : Thread nD τ).loc main_arg4))
abbrev rV : ℕ → ℕ → EReal := rd (n0 := 65536) (n1 := 1024) (m ((c.tc : Thread nD τ).loc main_arg5))

/-! The stacked operands, before the loop. -/

theorem heads_k (x : FVec Ideal S65536x512 .bf16) (j : Fin 128) (b : Fin 8) (h : Fin 4) (i : Fin 64) (k : Fin 128) :
    transpose S128x8x4x64x128 [2, 0, 1, 3, 4] (transpose S8x4x128x64x128 [0, 3, 1, 2, 4]
      (shapeCast S8x128x64x4x128 (extf .f32 x bitsLt_bf16_f32) shapeCasts_S65536x512_S8x128x64x4x128)
      transposes_S8x128x64x4x128_S8x4x128x64x128_0_3_1_2_4) transposes_S8x4x128x64x128_S128x8x4x64x128_2_0_1_3_4 (ix5 j b h i k)
      = rd (n0 := 65536) (n1 := 512) x (64 * (128 * b + j) + i) (128 * h + k) := by
  refine Eq.trans ?_ (rd_eq x (⟨64 * (128 * b + j) + i, by omega⟩ : Fin 65536) (⟨128 * h + k, by omega⟩ : Fin 512) _ _ rfl rfl)
  pointwise!
  refine congrArg₂ (fun a e => x (ix2 a e)) (Fin.ext (?_ : (_ : ℕ) = _)) (Fin.ext (?_ : (_ : ℕ) = _)) <;> dsimp only <;> omega

theorem heads_v (x : FVec Ideal S65536x1024 .bf16) (j : Fin 128) (b : Fin 8) (h : Fin 4) (i : Fin 64) (k : Fin 256) :
    transpose S128x8x4x64x256 [2, 0, 1, 3, 4] (transpose S8x4x128x64x256 [0, 3, 1, 2, 4]
      (shapeCast S8x128x64x4x256 (extf .f32 x bitsLt_bf16_f32) shapeCasts_S65536x1024_S8x128x64x4x256)
      transposes_S8x128x64x4x256_S8x4x128x64x256_0_3_1_2_4) transposes_S8x4x128x64x256_S128x8x4x64x256_2_0_1_3_4 (ix5 j b h i k)
      = rd (n0 := 65536) (n1 := 1024) x (64 * (128 * b + j) + i) (256 * h + k) := by
  refine Eq.trans ?_ (rd_eq x (⟨64 * (128 * b + j) + i, by omega⟩ : Fin 65536) (⟨256 * h + k, by omega⟩ : Fin 1024) _ _ rfl rfl)
  pointwise!
  refine congrArg₂ (fun a e => x (ix2 a e)) (Fin.ext (?_ : (_ : ℕ) = _)) (Fin.ext (?_ : (_ : ℕ) = _)) <;> dsimp only <;> omega

theorem heads_d (x : FVec Ideal S1024x512 .f32) (j : Fin 128) (b : Fin 8) (h : Fin 4) (k : Fin 128) :
    transpose S128x8x4x128 [2, 0, 1, 3] (transpose S8x4x128x128 [0, 2, 1, 3]
      (shapeCast S8x128x4x128 x shapeCasts_S1024x512_S8x128x4x128)
      transposes_S8x128x4x128_S8x4x128x128_0_2_1_3) transposes_S8x4x128x128_S128x8x4x128_2_0_1_3 (ix4 j b h k)
      = rd (n0 := 1024) (n1 := 512) x (128 * b + j) (128 * h + k) := by
  refine Eq.trans ?_ (rd_eq x (⟨128 * b + j, by omega⟩ : Fin 1024) (⟨128 * h + k, by omega⟩ : Fin 512) _ _ rfl rfl)
  pointwise!

/-- What the operations before the loop leave. -/
structure Entry (V0 : Valuation τ sig (Elt Ideal)) : Prop where
  q : bufQ V0 = Step.A_main_v6 (m ((c.tc : Thread nD τ).loc main_arg2)) (m ((c.tc : Thread nD τ).loc main_arg3)) (m ((c.tc : Thread nD τ).loc main_arg4)) (m ((c.tc : Thread nD τ).loc main_arg5))
  k : bufK V0 = Step.A_main_v10 (m ((c.tc : Thread nD τ).loc main_arg2)) (m ((c.tc : Thread nD τ).loc main_arg3)) (m ((c.tc : Thread nD τ).loc main_arg4)) (m ((c.tc : Thread nD τ).loc main_arg5))
  v : bufV V0 = Step.A_main_v14 (m ((c.tc : Thread nD τ).loc main_arg2)) (m ((c.tc : Thread nD τ).loc main_arg3)) (m ((c.tc : Thread nD τ).loc main_arg4)) (m ((c.tc : Thread nD τ).loc main_arg5))
  d : bufD V0 = Step.A_main_v15 (m ((c.tc : Thread nD τ).loc main_arg2)) (m ((c.tc : Thread nD τ).loc main_arg3)) (m ((c.tc : Thread nD τ).loc main_arg4)) (m ((c.tc : Thread nD τ).loc main_arg5))
  num : bufN V0 = constantI S_ 32 (BitVec.ofNat 32 0)
  s : bufS V0 = Step.K_main_v0

set_option maxRecDepth 65536 in
theorem entry : Entry m c (entryContents preI m c) := by
  constructor <;> (simp only [entryContents, afterL_cons, afterL_nil]; after_reads_simp) <;> rfl

theorem zeros_apply (b : Fin 8) (h : Fin 4) (x : Fin 128) (w : Fin 256) : Step.K_main_v0 (F := Ideal) (ix4 b h x w) = (0 : EReal) := by
  pointwise [Step.K_main_v0, Step.K_main_cst]

theorem loop_start : LoopAt (rQo m c) (rK m c) (rD m c) (rV m c) (entryContents preI m c) 0 where
  q j b h i x := (congrFun (entry m c).q _).trans (heads_k _ j b h i x)
  k j b h i x := (congrFun (entry m c).k _).trans (heads_k _ j b h i x)
  v j b h i x := (congrFun (entry m c).v _).trans (heads_v _ j b h i x)
  d j b h x := (congrFun (entry m c).d _).trans (heads_d _ j b h x)
  num := (entry m c).num
  s b h x w := (congrFun (entry m c).s _).trans (zeros_apply b h x w)
  o j b h i w hj := absurd hj (Nat.not_lt_zero _)

/-- The loop's buffers after `n` trips. -/
theorem loop_at : ∀ n ≤ 128, LoopAt (rQo m c) (rK m c) (rD m c) (rV m c) (STEP^[n] (entryContents preI m c)) n
  | 0, _ => loop_start m c
  | n + 1, hn => by
    rw [Function.iterate_succ_apply']
    exact (loop_at n (by omega)).step (by omega)

end

end Cert.GlaRef

end
-- ==== Proof.GlaRefOut.lean ====
/-
  The reference's result, entry by entry: the outputs of the recurrence (`outs`), each head normalized (`normed`), then the gates and
  projections (`last`). The result is `glaFn` of the arguments.
-/
module

public import proofs.«01_k».proof.Proof.GlaRefLoop
public import proofs.«01_k».proof.Proof.GlaTail

@[expose] public section

set_option maxRecDepth 8192

noncomputable section

namespace Cert.GlaRef

open Idealize.ShloMosaic Idealize.ShloMosaic.TcCoe Idealize.SL.Sem Idealize.ShloMosaic.StableHlo
open Cert.ReferenceIdeal Cert.ReferenceIdeal.Gen Cert.ReferenceIdeal.Value
open Cert.Gla (rd rd3 rd_eq rd3_eq recState recOut intra rowOut headNorm glaFn)
open scoped BigOperators

/-- Keys and queries, by head and chunk. -/
def headsK (x : FVec Ideal S65536x512 .bf16) : FVec Ideal S8x4x128x64x128 .f32 :=
  transpose S8x4x128x64x128 [0, 3, 1, 2, 4] (shapeCast _ (extf .f32 x bitsLt_bf16_f32) shapeCasts_S65536x512_S8x128x64x4x128) transposes_S8x128x64x4x128_S8x4x128x64x128_0_3_1_2_4

/-- Values, by head and chunk. -/
def headsV (x : FVec Ideal S65536x1024 .bf16) : FVec Ideal S8x4x128x64x256 .f32 :=
  transpose S8x4x128x64x256 [0, 3, 1, 2, 4] (shapeCast _ (extf .f32 x bitsLt_bf16_f32) shapeCasts_S65536x1024_S8x128x64x4x256) transposes_S8x128x64x4x256_S8x4x128x64x256_0_3_1_2_4

/-- A chunk's position sees the positions up to itself. -/
def mask : IVec S64x64 1 :=
  select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))

/-- The masked scores inside each chunk. -/
def scores (q k : FVec Ideal S8x4x128x64x128 .f32) : FVec Ideal S8x4x128x64x64 .f32 :=
  select (broadcastInDim S8x4x128x64x64 ![3, 4] bcast_S64x64_S8x4x128x64x64_3_4 mask) (Host.dotGeneral dot_S8x4x128x64x128_S8x4x128x64x128_S8x4x128x64x64_4_4_3_3_012_012 none q k) (broadcastInDim S8x4x128x64x64 ![] bcast_S_S8x4x128x64x64 (constant S_ .f32 0x00000000#32))

/-- The outputs of the recurrence, from the scores and the states' part. -/
def outs (s : FVec Ideal S8x4x128x64x64 .f32) (v : FVec Ideal S8x4x128x64x256 .f32) (o : FVec Ideal S128x8x4x64x256 .f32) :
    FVec Ideal S8x8192x4x256 .f32 :=
  shapeCast _ (transpose S8x128x64x4x256 [0, 2, 3, 1, 4] (addf (Host.dotGeneral dot_S8x4x128x64x64_S8x4x128x64x256_S8x4x128x64x256_4_3_3_4_012_012 none s v) (transpose S8x4x128x64x256 [1, 2, 0, 3, 4] o transposes_S128x8x4x64x256_S8x4x128x64x256_1_2_0_3_4)) transposes_S8x4x128x64x256_S8x128x64x4x256_0_2_3_1_4) shapeCasts_S8x128x64x4x256_S8x8192x4x256

/-- Each head divided by the root of its mean square, and scaled. -/
def normed (o : FVec Ideal S8x8192x4x256 .f32) (g : FVec Ideal S1x4x256 .f32) : FVec Ideal S8x8192x4x256 .f32 :=
  mulf (mulf o (broadcastInDim S8x8192x4x256 ![0, 1, 2, 3] bcast_S8x8192x4x1_S8x8192x4x256_0_1_2_3 (Host.rsqrt (addf (Host.divf (broadcastInDim S8x8192x4x1 ![0, 1, 2] bcast_S8x8192x4_S8x8192x4x1_0_1_2 (Host.reduceAdd (mulf o o) (constant S_ .f32 0x00000000#32) reducesTo_S8x8192x4x256_S8x8192x4_d3 h_S_)) (broadcastInDim S8x8192x4x1 ![] bcast_S_S8x8192x4x1 (constant S_ .f32 0x43800000#32))) (broadcastInDim S8x8192x4x1 ![] bcast_S_S8x8192x4x1 (constant S_ .f32 0x358637BD#32)))))) (broadcastInDim S8x8192x4x256 ![0, 1, 2, 3] bcast_S1x1x4x256_S8x8192x4x256_0_1_2_3 (broadcastInDim S1x1x4x256 ![2, 3] bcast_S4x256_S1x1x4x256_2_3 (shapeCast _ g shapeCasts_S1x4x256_S4x256)))

/-- The gates and the projections. -/
def last (y : FVec Ideal S8x8192x4x256 .f32) (rs gb ma : FVec Ideal S65536x1024 .bf16) (wb wo : FVec Ideal S1x1024x1024 .f32) :
    FVec Ideal S65536x1024 .f32 :=
  Host.dotGeneral dot_S65536x1024_S1024x1024_S65536x1024_1_0_0_1_n_n none (addf (extf .f32 ma bitsLt_bf16_f32) (mulf (extf .f32 gb bitsLt_bf16_f32) (Host.dotGeneral dot_S65536x1024_S1024x1024_S65536x1024_1_0_0_1_n_n none (mulf (shapeCast _ y shapeCasts_S8x8192x4x256_S65536x1024) (extf .f32 rs bitsLt_bf16_f32)) (shapeCast _ wb shapeCasts_S1x1024x1024_S1024x1024)))) (shapeCast _ wo shapeCasts_S1x1024x1024_S1024x1024)

theorem headsK_apply (x : FVec Ideal S65536x512 .bf16) (b : Fin 8) (h : Fin 4) (n : Fin 128) (i : Fin 64) (k : Fin 128) :
    headsK x (ix5 b h n i k) = rd (n0 := 65536) (n1 := 512) x (64 * (128 * b + n) + i) (128 * h + k) := by
  refine Eq.trans ?_ (rd_eq x (⟨64 * (128 * b + n) + i, by omega⟩ : Fin 65536) (⟨128 * h + k, by omega⟩ : Fin 512) _ _ rfl rfl)
  pointwise! [headsK]
  refine congrArg₂ (fun a e => x (ix2 a e)) (Fin.ext (?_ : (_ : ℕ) = _)) (Fin.ext (?_ : (_ : ℕ) = _)) <;> dsimp only <;> omega

theorem headsV_apply (x : FVec Ideal S65536x1024 .bf16) (b : Fin 8) (h : Fin 4) (n : Fin 128) (i : Fin 64) (k : Fin 256) :
    headsV x (ix5 b h n i k) = rd (n0 := 65536) (n1 := 1024) x (64 * (128 * b + n) + i) (256 * h + k) := by
  refine Eq.trans ?_ (rd_eq x (⟨64 * (128 * b + n) + i, by omega⟩ : Fin 65536) (⟨256 * h + k, by omega⟩ : Fin 1024) _ _ rfl rfl)
  pointwise! [headsV]
  refine congrArg₂ (fun a e => x (ix2 a e)) (Fin.ext (?_ : (_ : ℕ) = _)) (Fin.ext (?_ : (_ : ℕ) = _)) <;> dsimp only <;> omega

theorem mask_apply : ∀ i j : Fin 64, mask (ix2 i j) = if (j : ℕ) ≤ i then 1#1 else 0#1 := by
  intro i j
  have e : mask (ix2 i j) = Scalar.select (IntOp.cmpi .sge (IntOp.addi (BitVec.ofNat 32 i) 0#32) (BitVec.ofNat 32 j)) 1#1 0#1 := by
    pointwise [mask]
  rw [e]
  revert i j
  decide +kernel

theorem scores_apply (q k : FVec Ideal S8x4x128x64x128 .f32) (b : Fin 8) (h : Fin 4) (n : Fin 128) (i j : Fin 64) :
    scores q k (ix5 b h n i j) = if (j : ℕ) ≤ i then ∑ x : Fin 128, q (ix5 b h n i x) * k (ix5 b h n j x) else 0 := by
  have e : scores q k (ix5 b h n i j) = Scalar.select (mask (ix2 i j)) (∑ x : Fin 128, q (ix5 b h n i x) * k (ix5 b h n j x)) 0 := by
    pointwise [scores]
  rw [e, mask_apply]
  split <;> rfl

theorem outs_apply (s : FVec Ideal S8x4x128x64x64 .f32) (v : FVec Ideal S8x4x128x64x256 .f32) (o : FVec Ideal S128x8x4x64x256 .f32)
    (b : Fin 8) (t : Fin 8192) (h : Fin 4) (w : Fin 256) : outs s v o (ix4 b t h w)
      = (∑ x : Fin 64, s (ix5 b h ⟨t / 64, by omega⟩ ⟨t % 64, by omega⟩ x) * v (ix5 b h ⟨t / 64, by omega⟩ x w))
        + o (ix5 ⟨t / 64, by omega⟩ b h ⟨t % 64, by omega⟩ w) := by
  pointwise [outs]

theorem normed_apply (o : FVec Ideal S8x8192x4x256 .f32) (g : FVec Ideal S1x4x256 .f32) (b : Fin 8) (t : Fin 8192) (h : Fin 4)
    (w : Fin 256) : normed o g (ix4 b t h w) = o (ix4 b t h w) * Ideal.rsqrt (Ideal.div (∑ x, o (ix4 b t h x) * o (ix4 b t h x))
      (Ideal.ofBits FTy.f32 0x43800000#32) + Ideal.ofBits FTy.f32 0x358637BD#32) * g (ix3 0 h w) := by
  pointwise [normed]

theorem last_apply (y : FVec Ideal S8x8192x4x256 .f32) (rs gb ma : FVec Ideal S65536x1024 .bf16) (wb wo : FVec Ideal S1x1024x1024 .f32)
    (r : Fin 65536) (j : Fin 1024) : last y rs gb ma wb wo (ix2 r j) = ∑ p : Fin 1024, (ma (ix2 r p) + gb (ix2 r p)
      * ∑ q : Fin 1024, y (ix4 ⟨r / 8192, by omega⟩ ⟨r % 8192, by omega⟩ ⟨q / 256, by omega⟩ ⟨q % 256, by omega⟩) * rs (ix2 r q)
        * wb (ix3 0 q p)) * wo (ix3 0 p j) := by
  pointwise [last]

end Cert.GlaRef

end
-- ==== Proof.GlaRefArray.lean ====
/-
  The reference's result array is `glaFn` of the reference's arguments.
-/
module

public import proofs.«01_k».proof.Proof.GlaRefOut

@[expose] public section

set_option maxRecDepth 8192

noncomputable section

namespace Cert.GlaRef

open Idealize.ShloMosaic Idealize.ShloMosaic.TcCoe Idealize.SL.Sem Idealize.ShloMosaic.StableHlo
open Cert.ReferenceIdeal Cert.ReferenceIdeal.Gen Cert.ReferenceIdeal.Value
open Cert.Gla (rd rd3 rd_eq rd3_eq recState recOut intra rowOut headNorm glaFn)
open scoped BigOperators

/-- The outputs of the recurrence, by sequence, position, head and column. -/
theorem outs_eq (qi ki : FVec Ideal S65536x512 .bf16) (v : FVec Ideal S65536x1024 .bf16) (o : FVec Ideal S128x8x4x64x256 .f32)
    (Qo K D : ℕ → ℕ → EReal)
    (ho : ∀ (j : Fin 128) (b : Fin 8) (h : Fin 4) (i : Fin 64) (w : Fin 256), o (ix5 j b h i w)
      = ∑ x : Fin 128, Qo (64 * (128 * b + j) + i) (128 * h + x) * recState K D (rd (n0 := 65536) (n1 := 1024) v) (128 * b) h j x w)
    (b : Fin 8) (t : Fin 8192) (h : Fin 4) (w : Fin 256) :
    outs (scores (headsK qi) (headsK ki)) (headsV v) o (ix4 b t h w)
      = recOut (rd (n0 := 65536) (n1 := 512) qi) (rd (n0 := 65536) (n1 := 512) ki) Qo K D (rd (n0 := 65536) (n1 := 1024) v)
          (128 * b) h (t / 64) (t % 64) w := by
  rw [outs_apply, ho]
  simp only [scores_apply, headsK_apply, headsV_apply]
  exact add_comm _ _

/-- The result of the operations after the loop, as named parts. -/
theorem out_split (V0 : Valuation τ sig (Elt Ideal)) : out_main_v60 V0
    = last (normed (outs (scores (headsK (V0 (Proc.devRef .tc main_arg0))) (headsK (V0 (Proc.devRef .tc main_arg1))))
        (headsV (V0 (Proc.devRef .tc main_arg5))) (bufO V0)) (V0 (Proc.devRef .tc main_arg9)))
      (V0 (Proc.devRef .tc main_arg6)) (V0 (Proc.devRef .tc main_arg7)) (V0 (Proc.devRef .tc main_arg8))
      (V0 (Proc.devRef .tc main_arg10)) (V0 (Proc.devRef .tc main_arg11)) := rfl

section
variable (m : (ℓ : Loc nD τ sig) → Buf (Elt Ideal) ℓ) (c : Dev nD)

abbrev rRS : ℕ → ℕ → EReal := rd (n0 := 65536) (n1 := 1024) (m ((c.tc : Thread nD τ).loc main_arg6))
abbrev rGB : ℕ → ℕ → EReal := rd (n0 := 65536) (n1 := 1024) (m ((c.tc : Thread nD τ).loc main_arg7))
abbrev rMA : ℕ → ℕ → EReal := rd (n0 := 65536) (n1 := 1024) (m ((c.tc : Thread nD τ).loc main_arg8))
abbrev rG : ℕ → EReal := fun q => rd3 (n0 := 4) (n1 := 256) (m ((c.tc : Thread nD τ).loc main_arg9)) (q / 256) (q % 256)
abbrev rWB : ℕ → ℕ → EReal := rd3 (n0 := 1024) (n1 := 1024) (m ((c.tc : Thread nD τ).loc main_arg10))
abbrev rWO : ℕ → ℕ → EReal := rd3 (n0 := 1024) (n1 := 1024) (m ((c.tc : Thread nD τ).loc main_arg11))

theorem array_eq (r : Fin 65536) (j : Fin 1024) : out_main_v60 (STEP^[128] (entryContents preI m c)) (ix2 r j)
    = glaFn (rQi m c) (rKi m c) (rQo m c) (rK m c) (rD m c) (rV m c) (rRS m c) (rGB m c) (rMA m c) (rG m c) (rWB m c) (rWO m c) r j := by
  have L := loop_at m c 128 le_rfl
  refine (congrFun (out_split _) _).trans ?_
  rw [iter_main_arg0, iter_main_arg1, iter_main_arg5, iter_main_arg6, iter_main_arg7, iter_main_arg8, iter_main_arg9, iter_main_arg10,
    iter_main_arg11]
  refine (last_apply _ _ _ _ _ _ r j).trans ?_
  refine Finset.sum_congr rfl fun p _ => ?_
  refine congrArg₂ (· * ·) ((add_comm _ _).trans (congrArg₂ (· + ·) (congrArg₂ (· * ·) (rd_eq _ r p _ _ rfl rfl)
    (Finset.sum_congr rfl fun q _ => ?_)) (rd_eq _ r p _ _ rfl rfl))) (rd3_eq _ p j _ _ rfl rfl)
  refine congrArg₂ (· * ·) (congrArg₂ (· * ·) ?_ (rd_eq _ r q _ _ rfl rfl)) (rd3_eq _ q p _ _ rfl rfl)
  have hO := outs_eq (m ((c.tc : Thread nD τ).loc main_arg0)) (m ((c.tc : Thread nD τ).loc main_arg1))
    (m ((c.tc : Thread nD τ).loc main_arg5)) (bufO (STEP^[128] (entryContents preI m c))) (rQo m c) (rK m c) (rD m c)
    (fun j b h i w => L.o j b h i w j.isLt)
  rw [normed_apply, rd3_eq (n0 := 4) (n1 := 256) (m ((c.tc : Thread nD τ).loc main_arg9)) _ _ ((q : ℕ) / 256) ((q : ℕ) % 256) rfl rfl]
  simp only [hO, Nat.mod_mod_of_dvd _ (show 64 ∣ 8192 by decide)]
  rfl

end

end Cert.GlaRef

end
-- ==== Proof.GlaClaims.lean ====
/-
  The claims about the gated linear attention: the kernel's array and the reference's are both `glaFn` of the arguments.
-/
module

public import proofs.«01_k».proof.Proof.GlaFinite
public import proofs.«01_k».proof.Proof.GlaRefArray
public import proofs.«01_k».proof.Proof.Gen.Kernel.Frame
public import proofs.«01_k».proof.Proof.Gen.KernelIdeal.Frame
public import Idealize.ShloMosaic.Lib.Quiescent

@[expose] public section

noncomputable section

namespace Cert.Gla

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_finite : Cert.quiescent_ReferenceIdeal_pre_finite := fun m ρ _ => frame_reference m ρ trivial

/-- Equal arguments give one result. -/
theorem glaFn_congr {Qi Ki Qo K D V RS GB MA Qi' Ki' Qo' K' D' V' RS' GB' MA' : ℕ → ℕ → EReal} {G G' : ℕ → EReal}
    {WB WO WB' WO' : ℕ → ℕ → EReal} (h0 : Qi = Qi') (h1 : Ki = Ki') (h2 : Qo = Qo') (h3 : K = K') (h4 : D = D') (h5 : V = V')
    (h6 : RS = RS') (h7 : GB = GB') (h8 : MA = MA') (h9 : G = G') (h10 : WB = WB') (h11 : WO = WO') (r j : ℕ) :
    glaFn Qi Ki Qo K D V RS GB MA G WB WO r j = glaFn Qi' Ki' Qo' K' D' V' RS' GB' MA' G' WB' WO' r j := by
  subst h0 h1 h2 h3 h4 h5 h6 h7 h8 h9 h10 h11
  rfl

/-- Two arrays of two axes are equal if their entries are. -/
theorem ext2 {n0 n1 : ℕ} (x y : (⟨2, ![n0, n1]⟩ : Shape).Idx → EReal) (h : ∀ a b, x (ix2 a b) = y (ix2 a b)) : x = y :=
  funext fun i => (congrArg x (eq_ix2 i)).trans ((h _ _).trans (congrArg y (eq_ix2 i)).symm)

theorem algebraic : Cert.algebraic_KernelIdeal_ReferenceIdeal_pre_finite := fun m ρ m' ρ' hp ha =>
  ⟨fun c => Cert.KernelIdeal.Value.G12 m c, Cert.KernelIdeal.Value.run m ρ,
    (θ_run Cert.ReferenceIdeal.defs _ _).mono (fun _ h c => ⟨(h c).1.trans (by
      obtain ⟨h0, h1, h2, h3, h4, h5, h6, h7, h8, h9, h10, h11⟩ := ha c
      refine ext2 (n0 := 65536) (n1 := 1024) _ _ fun r j => (Cert.GlaRef.array_eq m' c r j).trans
        (Eq.trans ?_ (array_eq (reals_of_pre m hp c) r j).symm)
      exact glaFn_congr (congrArg rd h0) (congrArg rd h1) (congrArg rd h2) (congrArg rd h3) (congrArg rd h4) (congrArg rd h5)
        (congrArg rd h6) (congrArg rd h7) (congrArg rd h8) (congrArg (fun x q => rd3 (n0 := 4) (n1 := 256) x (q / 256) (q % 256)) h9)
        (congrArg rd3 h10) (congrArg rd3 h11) r j), (h c).2⟩) (Cert.ReferenceIdeal.Value.run m' ρ')⟩

end Cert.Gla

end
-- ==== Proof.FfnSpec.lean ====
/-
  The feed-forward half steps, row by row, as functions of a row of the residual stream and of the weights.
-/
module

public import Idealize.ShloMosaic.Lib.Pointwise

@[expose] public section

noncomputable section

namespace Cert.Ffn

open Idealize.ShloMosaic
open scoped BigOperators

/-- A row divided by the root of its mean square, and scaled. -/
def rmsRow (x g : Fin 1024 → EReal) (j : Fin 1024) : EReal :=
  x j * Ideal.rsqrt (Ideal.div (∑ l : Fin 1024, x l * x l) (Ideal.ofBits FTy.f32 0x44800000#32) + Ideal.ofBits FTy.f32 0x358637BD#32)
    * g j

/-- One of the two projections of a row. -/
def proj (h : Fin 1024 → EReal) (w : Fin 1024 → Fin 5632 → EReal) (k : Fin 5632) : EReal := ∑ l : Fin 1024, h l * w l k

/-- The gated product of the two projections. -/
def gated (a b : EReal) : EReal := a * Ideal.logistic a * b

/-- The hidden row. -/
def hidden (h : Fin 1024 → EReal) (w : Fin 1024 → Fin 5632 → EReal) (k : Fin 2816) : EReal :=
  gated (proj h w ⟨k, by omega⟩) (proj h w ⟨2816 + k, by omega⟩)

/-- A row plus half of the hidden row's projection. -/
def stepRow (x : Fin 1024 → EReal) (p : Fin 2816 → EReal) (v : Fin 2816 → Fin 1024 → EReal) (j : Fin 1024) : EReal :=
  x j + Ideal.ofBits FTy.f32 0x3F000000#32 * ∑ k : Fin 2816, p k * v k j

/-- The half step of a row: normalize, project, gate, project back, add half. -/
def ffnRow (x g : Fin 1024 → EReal) (w : Fin 1024 → Fin 5632 → EReal) (v : Fin 2816 → Fin 1024 → EReal) : Fin 1024 → EReal :=
  stepRow x (hidden (rmsRow x g) w) v

end Cert.Ffn

end
-- ==== Proof.FfnRef.lean ====
/-
  The two references of the feed-forward half steps as the same few operations on whole arrays, each read entry by entry: the
  normalization (`norm`), the hidden rows (`hid`) and the step itself (`step`).
-/
module

public import proofs.«01_k».proof.Proof.FfnSpec
public import proofs.«01_k».proof.Proof.Gen.Reference2Ideal.Run

@[expose] public section

set_option maxRecDepth 8192

noncomputable section

namespace Cert.FfnRef

open Idealize.ShloMosaic Idealize.ShloMosaic.TcCoe Idealize.SL.Sem Idealize.ShloMosaic.StableHlo
open Cert.Reference2Ideal Cert.Reference2Ideal.Gen Cert.Reference2Ideal.Value
open Cert.Ffn (rmsRow proj gated hidden stepRow ffnRow)
open scoped BigOperators

/-- Every row divided by the root of its mean square, and scaled by the gains. -/
def norm (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

/-- Both projections of every row. -/
def projs (h : FVec Ideal S65536x1024 .f32) (w : FVec Ideal S1x1024x5632 .f32) : FVec Ideal S65536x5632 .f32 :=
  Host.dotGeneral dot_S65536x1024_S1024x5632_S65536x5632_1_0_0_1_n_n none h (shapeCast _ w shapeCasts_S1x1024x5632_S1024x5632)

/-- The hidden rows, from both projections. -/
def hid (p : FVec Ideal S65536x5632 .f32) : FVec Ideal S65536x2816 .f32 :=
  mulf (mulf (extractStridedSlice S65536x2816 ![0, 0] p slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] p slices_S65536x5632_S65536x2816_0_0)))))) (extractStridedSlice S65536x2816 ![0, 2816] p slices_S65536x5632_S65536x2816_0_2816)

/-- The rows plus half of the hidden rows' projection. -/
def step (x : FVec Ideal S65536x1024 .f32) (p : FVec Ideal S65536x2816 .f32) (v : FVec Ideal S1x2816x1024 .f32) :
    FVec Ideal S65536x1024 .f32 :=
  addf x (mulf (broadcastInDim S65536x1024 ![] bcast_S_S65536x1024 (constant S_ .f32 0x3F000000#32)) (Host.dotGeneral dot_S65536x2816_S2816x1024_S65536x1024_1_0_0_1_n_n none p (shapeCast _ v shapeCasts_S1x2816x1024_S2816x1024)))

/-- A vector of gains out of its leading axis of one. -/
def flat (g : FVec Ideal S1x1024 .f32) : FVec Ideal S1024 .f32 := shapeCast _ g shapeCasts_S1x1024_S1024

/-- The half step of every row. -/
def ffn (x : FVec Ideal S65536x1024 .f32) (g : FVec Ideal S1x1024 .f32) (w : FVec Ideal S1x1024x5632 .f32)
    (v : FVec Ideal S1x2816x1024 .f32) : FVec Ideal S65536x1024 .f32 := step x (hid (projs (norm x (flat g)) w)) v

theorem flat_apply (g : FVec Ideal S1x1024 .f32) (j : Fin 1024) : flat g (ix1 j) = g (ix2 0 j) := by
  pointwise [flat]

theorem norm_apply (x : FVec Ideal S65536x1024 .f32) (g : FVec Ideal S1024 .f32) (r : Fin 65536) (j : Fin 1024) :
    norm x g (ix2 r j) = rmsRow (fun l => x (ix2 r l)) (fun l => g (ix1 l)) j := by
  unfold rmsRow
  pointwise [norm]

theorem projs_apply (h : FVec Ideal S65536x1024 .f32) (w : FVec Ideal S1x1024x5632 .f32) (r : Fin 65536) (k : Fin 5632) :
    projs h w (ix2 r k) = proj (fun l => h (ix2 r l)) (fun l k => w (ix3 0 l k)) k := by
  unfold proj
  pointwise [projs]

theorem hid_apply (p : FVec Ideal S65536x5632 .f32) (r : Fin 65536) (k : Fin 2816) :
    hid p (ix2 r k) = gated (p (ix2 r (⟨k, by omega⟩ : Fin 5632))) (p (ix2 r (⟨2816 + k, by omega⟩ : Fin 5632))) := by
  unfold gated Ideal.logistic
  pointwise! [hid]

theorem step_apply (x : FVec Ideal S65536x1024 .f32) (p : FVec Ideal S65536x2816 .f32) (v : FVec Ideal S1x2816x1024 .f32)
    (r : Fin 65536) (j : Fin 1024) :
    step x p v (ix2 r j) = stepRow (fun l => x (ix2 r l)) (fun k => p (ix2 r k)) (fun k j => v (ix3 0 k j)) j := by
  unfold stepRow
  pointwise [step]

theorem ffn_apply (x : FVec Ideal S65536x1024 .f32) (g : FVec Ideal S1x1024 .f32) (w : FVec Ideal S1x1024x5632 .f32)
    (v : FVec Ideal S1x2816x1024 .f32) (r : Fin 65536) (j : Fin 1024) : ffn x g w v (ix2 r j)
      = ffnRow (fun l => x (ix2 r l)) (fun l => g (ix2 0 l)) (fun l k => w (ix3 0 l k)) (fun k j => v (ix3 0 k j)) j := by
  unfold ffn ffnRow
  rw [step_apply]
  refine congrArg (fun p => stepRow _ p _ j) (funext fun k => ?_)
  rw [hid_apply, projs_apply, projs_apply]
  simp only [norm_apply, flat_apply]
  rfl

/-- The rows' half step, normalized again: the second reference's result. -/
theorem final_apply (x y : FVec Ideal S65536x1024 .f32) (g : FVec Ideal S1x1024 .f32) (w : FVec Ideal S1x1024x5632 .f32)
    (v : FVec Ideal S1x2816x1024 .f32) (n : FVec Ideal S1024 .f32) (r : Fin 65536) (j : Fin 1024) :
    norm (ffn (addf x y) g w v) n (ix2 r j) = rmsRow (ffnRow (fun l => x (ix2 r l) + y (ix2 r l)) (fun l => g (ix2 0 l))
      (fun l k => w (ix3 0 l k)) (fun k j => v (ix3 0 k j))) (fun l => n (ix1 l)) j := by
  rw [norm_apply]
  simp only [ffn_apply]
  rfl

end Cert.FfnRef

end
-- ==== Proof.FfnSub.lean ====
/-
  The kernels' work on 256 rows, as a few operations each read entry by entry: the normalization (`sNorm`), the hidden rows (`sHid`)
  and the half step (`sStep`). Both feed-forward kernels do this to each quarter of a block.
-/
module

public import proofs.«01_k».proof.Proof.FfnSpec
public import proofs.«01_k».proof.Proof.Gen.Kernel2Ideal.Frame
public import Idealize.ShloMosaic.Lib.Pipeline.ValueKit.Tiles

@[expose] public section

set_option maxRecDepth 8192

noncomputable section

namespace Cert.Ffn

open Idealize.ShloMosaic Idealize.ShloMosaic.TcCoe Cert.Kernel2Ideal Cert.Kernel2Ideal.Gen
open scoped BigOperators

/-- Rows divided by the root of their mean square, and scaled. -/
def sNorm (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32
    reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024))
    (broadcastTo S256x1024 (shapeCast S1x1024 g shapeCasts_S1x1024_S1x1024) broadcasts_S1x1024_S256x1024)

/-- One projection of the rows. -/
def sProj (h : FVec Ideal S256x1024 .bf16) (w : FVec Ideal S1024x2816 .bf16) : FVec Ideal S256x2816 .f32 :=
  matmul dot_S256x1024_S1024x2816_S256x2816_1_0_0_1_n_n none h (shapeCast S1024x2816 w shapeCasts_S1024x2816_S1024x2816)
    (constant S256x2816 .f32 0x00000000#32)

/-- The hidden rows. -/
def sHid (a b : FVec Ideal S256x2816 .f32) : FVec Ideal S256x2816 .bf16 :=
  truncf .bf16 (mulf (mulf a (logistic a)) b) bitsLt_bf16_f32

/-- The rows plus half of the hidden rows' projection. -/
def sStep (x : FVec Ideal S256x1024 .f32) (p : FVec Ideal S256x2816 .bf16) (v : FVec Ideal S2816x1024 .bf16) :
    FVec Ideal S256x1024 .f32 :=
  addf x (mulf (broadcast S256x1024 (Scalar.ofBits .f32 0x3F000000#32))
    (matmul dot_S256x2816_S2816x1024_S256x1024_1_0_0_1_n_n none p (shapeCast S2816x1024 v shapeCasts_S2816x1024_S2816x1024)
      (constant S256x1024 .f32 0x00000000#32)))

/-- The half step of 256 rows. -/
def sFfn (x : FVec Ideal S256x1024 .f32) (g : FVec Ideal S1x1024 .f32) (w1 w2 : FVec Ideal S1024x2816 .bf16)
    (v : FVec Ideal S2816x1024 .bf16) : FVec Ideal S256x1024 .f32 :=
  sStep x (sHid (sProj (truncf .bf16 (sNorm x g) bitsLt_bf16_f32) w1) (sProj (truncf .bf16 (sNorm x g) bitsLt_bf16_f32) w2)) v

theorem sNorm_apply (x : FVec Ideal S256x1024 .f32) (g : FVec Ideal S1x1024 .f32) (r : Fin 256) (j : Fin 1024) :
    sNorm x g (ix2 r j) = rmsRow (fun l => x (ix2 r l)) (fun l => g (ix2 0 l)) j := by
  unfold rmsRow
  pointwise [sNorm]

theorem sProj_apply (h : FVec Ideal S256x1024 .bf16) (w : FVec Ideal S1024x2816 .bf16) (r : Fin 256) (k : Fin 2816) :
    sProj h w (ix2 r k) = ∑ l : Fin 1024, h (ix2 r l) * w (ix2 l k) := by
  pointwise [sProj]

theorem sHid_apply (a b : FVec Ideal S256x2816 .f32) (i : S256x2816.Idx) : sHid a b i = gated (a i) (b i) := by
  unfold gated
  pointwise [sHid]

theorem sStep_apply (x : FVec Ideal S256x1024 .f32) (p : FVec Ideal S256x2816 .bf16) (v : FVec Ideal S2816x1024 .bf16)
    (r : Fin 256) (j : Fin 1024) :
    sStep x p v (ix2 r j) = stepRow (fun l => x (ix2 r l)) (fun k => p (ix2 r k)) (fun k j => v (ix2 k j)) j := by
  unfold stepRow
  pointwise [sStep]

/-- The half step of a row, from both halves of the first projection's weights. -/
theorem sFfn_apply (x : FVec Ideal S256x1024 .f32) (g : FVec Ideal S1x1024 .f32) (w1 w2 : FVec Ideal S1024x2816 .bf16)
    (v : FVec Ideal S2816x1024 .bf16) (w : Fin 1024 → Fin 5632 → EReal)
    (h1 : ∀ (l : Fin 1024) (k : Fin 2816), w1 (ix2 l k) = w l ⟨k, by omega⟩)
    (h2 : ∀ (l : Fin 1024) (k : Fin 2816), w2 (ix2 l k) = w l ⟨2816 + k, by omega⟩) (r : Fin 256) (j : Fin 1024) :
    sFfn x g w1 w2 v (ix2 r j)
      = ffnRow (fun l => x (ix2 r l)) (fun l => g (ix2 0 l)) w (fun k j => v (ix2 k j)) j := by
  unfold sFfn ffnRow
  rw [sStep_apply]
  refine congrArg (fun p => stepRow _ p _ j) (funext fun k => ?_)
  rw [sHid_apply, sProj_apply, sProj_apply]
  unfold hidden proj
  refine congrArg₂ gated (Finset.sum_congr rfl fun l _ => ?_) (Finset.sum_congr rfl fun l _ => ?_)
  · rw [h1]
    exact congrArg (· * _) (sNorm_apply x g r l)
  · rw [h2]
    exact congrArg (· * _) (sNorm_apply x g r l)

/-- Rows of a block, from row `o` on. -/
theorem ld_rows (x : Vec Ideal S1024x1024 .f32) (o : ℕ) (inb) (a : Fin 256) (l : Fin 1024) (i : Fin 1024) (h : (i : ℕ) = o + a) :
    View.ld (Val := Elt Ideal) (e' := .f32) x (Rect.unit (s := S1024x1024) ![o, 0] S256x1024.size inb) (ix2 a l) = x (ix2 i l) := by
  refine View.ld_unit_apply_of (Val := Elt Ideal) (e := .f32) x _ _ _ (ix2 a l) (ix2 i l) fun b => ?_
  match b with
  | ⟨0, _⟩ => exact h
  | ⟨1, _⟩ => show (l : ℕ) = 0 + l; omega

/-- Columns of the first projection's weights, from column `o` on. -/
theorem ld_cols (w : Vec Ideal S1024x5632 .bf16) (o : ℕ) (inb) (l : Fin 1024) (k : Fin 2816) (q : Fin 5632) (h : (q : ℕ) = o + k) :
    View.ld (Val := Elt Ideal) (e' := .bf16) w (Rect.unit (s := S1024x5632) ![0, o] S1024x2816.size inb) (ix2 l k) = w (ix2 l q) := by
  refine View.ld_unit_apply_of (Val := Elt Ideal) (e := .bf16) w _ _ _ (ix2 l k) (ix2 l q) fun b => ?_
  match b with
  | ⟨0, _⟩ => show (l : ℕ) = 0 + l; omega
  | ⟨1, _⟩ => exact h

/-- The whole of a vector of gains. -/
theorem ld_gain (g : Vec Ideal S1x1024 .f32) : View.ld (Val := Elt Ideal) (e' := .f32) g r0_1 = g := by
  refine funext fun y => View.ld_unit_apply_of (Val := Elt Ideal) (e := .f32) g _ _ _ y y fun b => ?_
  match b with
  | ⟨0, _⟩ => exact (Nat.zero_add _).symm
  | ⟨1, _⟩ => exact (Nat.zero_add _).symm

/-- The whole of the second projection's weights. -/
theorem ld_out (v : Vec Ideal S2816x1024 .bf16) : View.ld (Val := Elt Ideal) (e' := .bf16) v r0_6 = v := by
  refine funext fun y => View.ld_unit_apply_of (Val := Elt Ideal) (e := .bf16) v _ _ _ y y fun b => ?_
  match b with
  | ⟨0, _⟩ => exact (Nat.zero_add _).symm
  | ⟨1, _⟩ => exact (Nat.zero_add _).symm

/-- A quarter's half step, from the block's rows and the weights' blocks. -/
theorem sFfn_block (x : FVec Ideal S256x1024 .f32) (g : Vec Ideal S1x1024 .f32) (w : Vec Ideal S1024x5632 .bf16)
    (v : Vec Ideal S2816x1024 .bf16) (f : Fin 1024 → EReal) (r : Fin 256) (j : Fin 1024) (hx : ∀ l, x (ix2 r l) = f l) :
    sFfn x (View.ld (Val := Elt Ideal) (e' := .f32) g r0_1) (View.ld (Val := Elt Ideal) (e' := .bf16) w r0_2)
        (View.ld (Val := Elt Ideal) (e' := .bf16) w r0_3) (View.ld (Val := Elt Ideal) (e' := .bf16) v r0_6) (ix2 r j)
      = ffnRow f (fun l => g (ix2 0 l)) (fun l k => w (ix2 l k)) (fun k j => v (ix2 k j)) j := by
  rw [ld_gain, ld_out]
  refine (sFfn_apply x g _ _ v (fun l k => w (ix2 l k)) (fun l k => ld_cols w 0 _ l k _ (Nat.zero_add _).symm)
    (fun l k => ld_cols w 2816 _ l k _ rfl) r j).trans ?_
  rw [funext hx]

/-- Row `i 0` lies in the block of 1024 rows numbered `i 0 / 1024`. -/
theorem in_rows (i : S65536x1024.Idx) (t : ℕ) (ix : Fin 2 → ℕ) (e : ix = ![t, 0]) (h : (i 0 : ℕ) / 1024 = t) (a : Fin 2) :
    ix a * S1024x1024.size a ≤ (i a : ℕ) ∧ (i a : ℕ) < ix a * S1024x1024.size a + S1024x1024.size a := by
  subst e
  have i1 : (i 1 : ℕ) < 1024 := (i 1).isLt
  match a with
  | ⟨0, _⟩ => show t * 1024 ≤ (i 0 : ℕ) ∧ (i 0 : ℕ) < t * 1024 + 1024; omega
  | ⟨1, _⟩ => show 0 * 1024 ≤ (i 1 : ℕ) ∧ (i 1 : ℕ) < 0 * 1024 + 1024; omega

end Cert.Ffn

end
-- ==== Proof.FfnFinal.lean ====
/-
  The last kernel's block: row by row the half step of the sum of the two rows read, normalized.
-/
module

public import proofs.«01_k».proof.Proof.FfnSub

@[expose] public section

set_option maxRecDepth 8192

noncomputable section

namespace Cert.FfnFinal

open Idealize.ShloMosaic Idealize.ShloMosaic.TcCoe Cert.Kernel2Ideal Cert.Kernel2Ideal.Gen
open Cert.Ffn
open scoped BigOperators

section
variable (a b : FVec Ideal S256x1024 .f32) (g n : FVec Ideal S1x1024 .f32) (w1 w2 : FVec Ideal S1024x2816 .bf16)
  (v : FVec Ideal S2816x1024 .bf16)

/-- The work on a quarter. -/
def quarter : FVec Ideal S256x1024 .f32 := sNorm (sFfn (addf a b) g w1 w2 v) n

theorem quarter0 : k0_pay12 (k0_pay2 a b) (k0_pay3 a b g w1 w2) v n = quarter a b g n w1 w2 v := rfl

theorem quarter1 : k0_pay18 (k0_pay4 a b) (k0_pay7 (k0_pay4 a b) (k0_pay5 g) (k0_pay6 a b) (Scalar.ofBits .f32 0x44800000#32) w1 w2) v n
    = quarter a b g n w1 w2 v := rfl

theorem quarter2 : k0_pay19 (k0_pay8 a b) (k0_pay11 (k0_pay9 a b g) (k0_pay10 a b g w1) w2) v n = quarter a b g n w1 w2 v := rfl

theorem quarter3 : k0_pay1 (k0_pay20 (k0_pay13 a b) (k0_pay17 (k0_pay13 a b) (k0_pay14 g) (k0_pay15 a b) (k0_pay16 (F := Ideal)) w1 w2) v)
    (k0_pay21 n) = quarter a b g n w1 w2 v := rfl

end

section
variable (x0 x1 : Vec Ideal S1024x1024 .f32) (g : Vec Ideal S1x1024 .f32) (w : Vec Ideal S1024x5632 .bf16)
  (v : Vec Ideal S2816x1024 .bf16) (n : Vec Ideal S1x1024 .f32)

/-- A quarter's entry, from the block's rows. -/
theorem quarter_apply (o : ℕ) (inb) (i j : Fin 1024) (p : S256x1024.Idx) (h0 : (i : ℕ) = o + (p 0 : ℕ)) (h1 : (j : ℕ) = (p 1 : ℕ)) :
    quarter (View.ld (Val := Elt Ideal) (e' := .f32) x0 (Rect.unit (s := S1024x1024) ![o, 0] S256x1024.size inb))
        (View.ld (Val := Elt Ideal) (e' := .f32) x1 (Rect.unit (s := S1024x1024) ![o, 0] S256x1024.size inb))
        (View.ld (Val := Elt Ideal) (e' := .f32) g r0_1) (View.ld (Val := Elt Ideal) (e' := .f32) n r0_1)
        (View.ld (Val := Elt Ideal) (e' := .bf16) w r0_2) (View.ld (Val := Elt Ideal) (e' := .bf16) w r0_3)
        (View.ld (Val := Elt Ideal) (e' := .bf16) v r0_6) p
      = rmsRow (ffnRow (fun l => x0 (ix2 i l) + x1 (ix2 i l)) (fun l => g (ix2 0 l)) (fun l k => w (ix2 l k)) (fun k j => v (ix2 k j)))
          (fun l => n (ix2 0 l)) j := by
  obtain ⟨r, q, rfl⟩ : ∃ (r : Fin 256) (q : Fin 1024), p = ix2 r q := ⟨p 0, p 1, eq_ix2 p⟩
  obtain rfl : j = q := Fin.ext h1
  unfold quarter
  refine (sNorm_apply _ _ r j).trans ?_
  rw [ld_gain n]
  refine congrArg (fun f => rmsRow f _ j) (funext fun l => sFfn_block _ g w v _ r l fun l => ?_)
  exact congrArg₂ (· + ·) (ld_rows x0 o inb r l i h0) (ld_rows x1 o inb r l i h0)

/-- The block a grid point leaves, entry by entry. -/
theorem out_apply (i j : Fin 1024) : out0_6 x0 x1 g w v n (ix2 i j)
    = rmsRow (ffnRow (fun l => x0 (ix2 i l) + x1 (ix2 i l)) (fun l => g (ix2 0 l)) (fun l k => w (ix2 l k)) (fun k j => v (ix2 k j)))
        (fun l => n (ix2 0 l)) j := by
  unfold_out out0_6
  canon_tiles p h using cover0_6 ..
  · exact (congrFun (quarter3 _ _ _ _ _ _ _) p).trans (quarter_apply x0 x1 g w v n 768 _ i j p ‹_› ‹_›)
  · exact (congrFun (quarter2 _ _ _ _ _ _ _) p).trans (quarter_apply x0 x1 g w v n 512 _ i j p ‹_› ‹_›)
  · exact (congrFun (quarter1 _ _ _ _ _ _ _) p).trans (quarter_apply x0 x1 g w v n 256 _ i j p ‹_› ‹_›)
  · exact (congrFun (quarter0 _ _ _ _ _ _ _) p).trans (quarter_apply x0 x1 g w v n 0 _ i j p (‹(i : ℕ) = (p 0 : ℕ)›.trans (Nat.zero_add _).symm) ‹_›)

end

end Cert.FfnFinal

end
-- ==== Proof.FfnFinalArray.lean ====
/-
  The last kernel's array after the run: grid point `t` writes the rows from `1024 * t` on, each the normalized half step of the
  rows of the arguments, so the whole array is `result`.
-/
module

public import proofs.«01_k».proof.Proof.FfnFinal
public import proofs.«01_k».proof.Proof.Gen.Kernel2Ideal.Value
public import Idealize.ShloMosaic.Lib.Pipeline.ValueKit.Point

@[expose] public section

noncomputable section

namespace Cert.FfnFinal

open Idealize.ShloMosaic Idealize.ShloMosaic.TcCoe Cert.Kernel2Ideal Cert.Kernel2Ideal.Gen Cert.Ffn

theorem ix_rows : ∀ t : Fin cfg0.N, win0_0.index t = ![t.val, 0] ∧ win0_1.index t = ![t.val, 0] ∧ win0_6.index t = ![t.val, 0]
    ∧ (cfg0.win 6).flush t = true := (by decide +kernel : ∀ t : Fin grid0.N, _)

theorem ix_whole : ∀ t : Fin cfg0.N, win0_2.index t = ![0, 0] ∧ win0_3.index t = ![0, 0] ∧ win0_4.index t = ![0, 0]
    ∧ win0_5.index t = ![0, 0] := (by decide +kernel : ∀ t : Fin grid0.N, _)

theorem t_lt (t : Fin cfg0.N) : t.val < 64 := lt_of_lt_of_eq t.isLt (show cfg0.N = 64 from N_0)

variable (m : (ℓ : Loc nD τ sig) → Buf (Elt Ideal) ℓ) (c : Dev nD)

/-- A row of the sum of the two arguments. -/
def rowIn (r : Fin 65536) (l : Fin 1024) : EReal :=
  (fun x y : S65536x1024.Idx → EReal => x (ix2 r l) + y (ix2 r l)) (m ((c : Thread nD τ).loc main_arg0))
    (m ((c : Thread nD τ).loc main_arg1))

def gain (l : Fin 1024) : EReal := m ((c : Thread nD τ).loc main_arg2) (ix2 (0 : Fin 1) l)
def wIn (l : Fin 1024) (k : Fin 5632) : EReal := m ((c : Thread nD τ).loc main_arg3) (ix3 (0 : Fin 1) l k)
def wOut (k : Fin 2816) (j : Fin 1024) : EReal := m ((c : Thread nD τ).loc main_arg4) (ix3 (0 : Fin 1) k j)
def last (l : Fin 1024) : EReal := m ((c : Thread nD τ).loc main_arg5) (ix1 l)

/-- The result, row by row. -/
def resultAt (r : Fin 65536) (j : Fin 1024) : EReal :=
  rmsRow (ffnRow (rowIn m c r) (gain m c) (wIn m c) (wOut m c)) (last m c) j

/-- The result array. -/
def result : Buf (Elt Ideal) ((c : Thread nD τ).loc main_v7) := fun i : S65536x1024.Idx => resultAt m c (i 0) (i 1)

variable (t : Fin cfg0.N)

theorem blk0 (i j : Fin 1024) (r : Fin 65536) (h : (r : ℕ) = t.val * 1024 + i) :
    iblk m c 0 t (ix2 i j) = m ((c : Thread nD τ).loc main_arg0) (ix2 r j) := by
  have ht := t_lt t
  rw [show r = ⟨t.val * 1024 + i.val, by omega⟩ from Fin.ext h]
  blk_ext! [iblk, V, (ix_rows t).1]

theorem blk1 (i j : Fin 1024) (r : Fin 65536) (h : (r : ℕ) = t.val * 1024 + i) :
    iblk m c 1 t (ix2 i j) = m ((c : Thread nD τ).loc main_arg1) (ix2 r j) := by
  have ht := t_lt t
  rw [show r = ⟨t.val * 1024 + i.val, by omega⟩ from Fin.ext h]
  blk_ext! [iblk, V, (ix_rows t).2.1]

theorem blk2 (l : Fin 1024) : iblk m c 2 t (ix2 (0 : Fin 1) l) = gain m c l := by
  unfold gain
  blk_ext! [iblk, V, (ix_whole t).1]

theorem blk3 (l : Fin 1024) (k : Fin 5632) : iblk m c 3 t (ix2 l k) = wIn m c l k := by
  unfold wIn
  blk_ext! [iblk, V, (ix_whole t).2.1]

theorem blk4 (k : Fin 2816) (j : Fin 1024) : iblk m c 4 t (ix2 k j) = wOut m c k j := by
  unfold wOut
  blk_ext! [iblk, V, (ix_whole t).2.2.1]

theorem blk5 (l : Fin 1024) : iblk m c 5 t (ix2 (0 : Fin 1) l) = last m c l := by
  unfold last
  blk_ext! [iblk, V, (ix_whole t).2.2.2]

/-- What a grid point leaves is its rows of the result. -/
theorem point_apply (i j : Fin 1024) (r : Fin 65536) (h : (r : ℕ) = t.val * 1024 + i) :
    out0_6 (iblk m c 0 t) (iblk m c 1 t) (iblk m c 2 t) (iblk m c 3 t) (iblk m c 4 t) (iblk m c 5 t) (ix2 i j) = resultAt m c r j := by
  refine (out_apply _ _ _ _ _ _ i j).trans ?_
  unfold resultAt
  rw [funext (blk2 m c t), funext fun l => funext (blk3 m c t l), funext fun k => funext (blk4 m c t k), funext (blk5 m c t)]
  refine congrArg (fun x => rmsRow (ffnRow x _ _ _) _ j) (funext fun l => ?_)
  exact congrArg₂ (fun x y : EReal => x + y) (blk0 m c t i l r h) (blk1 m c t i l r h)

theorem flushed_eq : (dats m 0 c).flushed 6 t = ((cfg0.win 6).blk t).view.read (Elt Ideal) (result m c) := by
  rw [Value.flushed6]
  funext y
  have e := (ix_rows t).2.2.1
  have e0 : win0_6.index t (0 : Fin 2) = t.val := congrFun e 0
  have e1 : win0_6.index t (1 : Fin 2) = 0 := congrFun e 1
  have hb0 : (((cfg0.win 6).blk t).view.emb y 0).val = win0_6.index t (0 : Fin 2) * 1024 + 1 * (y 0).val := rfl
  have hb1 : (((cfg0.win 6).blk t).view.emb y 1).val = win0_6.index t (1 : Fin 2) * 1024 + 1 * (y 1).val := rfl
  show out0_6 (iblk m c 0 t) (iblk m c 1 t) (iblk m c 2 t) (iblk m c 3 t) (iblk m c 4 t) (iblk m c 5 t)
      ((cfg0.win 6).xinj (grid0.coords t) y) = resultAt m c (((cfg0.win 6).blk t).view.emb y 0) (((cfg0.win 6).blk t).view.emb y 1)
  refine (congrArg _ (eq_ix2 _)).trans ((point_apply m c t _ _ (((cfg0.win 6).blk t).view.emb y 0) ?_).trans
    (congrArg (resultAt m c _) (Fin.ext ?_)))
  · rw [hb0, e0, Nat.one_mul]
  · rw [hb1, e1, Nat.one_mul, Nat.zero_mul, Nat.zero_add]

theorem covered (i : S65536x1024.Idx) : ∃ t : Fin cfg0.N, (cfg0.win 6).flush t = true ∧ i ∈ ((cfg0.win 6).blk t).view.set := by
  have i0 : (i 0 : ℕ) < 65536 := (i 0).isLt
  have hN : (i 0 : ℕ) / 1024 < cfg0.N := lt_of_lt_of_eq (by omega) (show cfg0.N = 64 from N_0).symm
  refine ⟨⟨_, hN⟩, (ix_rows _).2.2.2, ?_⟩
  show i ∈ ((View.whole main_v7).slice (win0_6.rect ⟨_, hN⟩)).set
  rw [View.set_slice_whole, Rect.mem_set_unit]
  exact in_rows i _ _ (ix_rows ⟨_, hN⟩).2.2.1 rfl

/-- The array after the run. -/
theorem array_eq : (dats m 0 c).arrAt 6 cfg0.N = result m c :=
  (dats m 0 c).arrAt_eq_of_cover 6 _ (fun t _ => flushed_eq m c t) covered

end Cert.FfnFinal

end
-- ==== Proof.FfnMix.lean ====
/-
  The first feed-forward kernel's two blocks: row by row the half step of the row read, and that row normalized.
-/
module

public import proofs.«01_k».proof.Proof.FfnSub
public import proofs.«01_k».proof.Proof.Gen.Kernel3Ideal.Frame

@[expose] public section

set_option maxRecDepth 8192

noncomputable section

namespace Cert.FfnMix

open Idealize.ShloMosaic Idealize.ShloMosaic.TcCoe Cert.Kernel3Ideal Cert.Kernel3Ideal.Gen
open Cert.Ffn
open scoped BigOperators

section
variable (x : FVec Ideal S256x1024 .f32) (g n : FVec Ideal S1x1024 .f32) (w1 w2 : FVec Ideal S1024x2816 .bf16)
  (v : FVec Ideal S2816x1024 .bf16)

/-- The work on a quarter: the normalized half step. -/
def quarter : FVec Ideal S256x1024 .bf16 := truncf .bf16 (sNorm (sFfn x g w1 w2 v) n) bitsLt_bf16_f32

theorem step0 : k0_pay7 x (k0_pay2 x g w1 w2) v = sFfn x g w1 w2 v := rfl

theorem step1 : k0_pay11 x (k0_pay5 (k0_pay3 g) (k0_pay4 x) w1 w2) v = sFfn x g w1 w2 v := rfl

theorem step2 : k0_pay14 x (k0_pay13 (k0_pay6 x g w1 w2) v) (Scalar.ofBits .f32 0x3F000000#32) = sFfn x g w1 w2 v := rfl

theorem step3 : k0_pay16 x (k0_pay10 (k0_pay9 x g) w1 w2) v = sFfn x g w1 w2 v := rfl

theorem quarter0 : k0_pay8 x (k0_pay2 x g w1 w2) v n = quarter x g n w1 w2 v := rfl

theorem quarter1 : k0_pay12 x (k0_pay5 (k0_pay3 g) (k0_pay4 x) w1 w2) v n = quarter x g n w1 w2 v := rfl

theorem quarter2 : k0_pay15 x (k0_pay13 (k0_pay6 x g w1 w2) v) (Scalar.ofBits .f32 0x3F000000#32) n
    = quarter x g n w1 w2 v := rfl

theorem quarter3 : k0_pay1 (k0_pay16 x (k0_pay10 (k0_pay9 x g) w1 w2) v) (k0_pay17 n)
    (k0_pay18 x (k0_pay10 (k0_pay9 x g) w1 w2) v) = quarter x g n w1 w2 v := rfl

end

section
variable (x0 : Vec Ideal S1024x1024 .f32) (g : Vec Ideal S1x1024 .f32) (w : Vec Ideal S1024x5632 .bf16)
  (v : Vec Ideal S2816x1024 .bf16) (n : Vec Ideal S1x1024 .f32)

/-- A quarter's half step, from the block's rows. -/
theorem step_apply (o : ℕ) (inb) (i j : Fin 1024) (p : S256x1024.Idx) (h0 : (i : ℕ) = o + (p 0 : ℕ)) (h1 : (j : ℕ) = (p 1 : ℕ)) :
    sFfn (View.ld (Val := Elt Ideal) (e' := .f32) x0 (Rect.unit (s := S1024x1024) ![o, 0] S256x1024.size inb))
        (View.ld (Val := Elt Ideal) (e' := .f32) g r0_1)
        (View.ld (Val := Elt Ideal) (e' := .bf16) w r0_2) (View.ld (Val := Elt Ideal) (e' := .bf16) w r0_3)
        (View.ld (Val := Elt Ideal) (e' := .bf16) v r0_6) p
      = ffnRow (fun l => x0 (ix2 i l)) (fun l => g (ix2 0 l)) (fun l k => w (ix2 l k)) (fun k j => v (ix2 k j)) j := by
  obtain ⟨r, q, rfl⟩ : ∃ (r : Fin 256) (q : Fin 1024), p = ix2 r q := ⟨p 0, p 1, eq_ix2 p⟩
  obtain rfl : j = q := Fin.ext h1
  exact sFfn_block _ g w v _ r j fun l => ld_rows x0 o inb r l i h0

/-- A quarter's normalized half step, from the block's rows. -/
theorem quarter_apply (o : ℕ) (inb) (i j : Fin 1024) (p : S256x1024.Idx) (h0 : (i : ℕ) = o + (p 0 : ℕ)) (h1 : (j : ℕ) = (p 1 : ℕ)) :
    quarter (View.ld (Val := Elt Ideal) (e' := .f32) x0 (Rect.unit (s := S1024x1024) ![o, 0] S256x1024.size inb))
        (View.ld (Val := Elt Ideal) (e' := .f32) g r0_1) (View.ld (Val := Elt Ideal) (e' := .f32) n r0_1)
        (View.ld (Val := Elt Ideal) (e' := .bf16) w r0_2) (View.ld (Val := Elt Ideal) (e' := .bf16) w r0_3)
        (View.ld (Val := Elt Ideal) (e' := .bf16) v r0_6) p
      = rmsRow (ffnRow (fun l => x0 (ix2 i l)) (fun l => g (ix2 0 l)) (fun l k => w (ix2 l k)) (fun k j => v (ix2 k j)))
          (fun l => n (ix2 0 l)) j := by
  obtain ⟨r, q, rfl⟩ : ∃ (r : Fin 256) (q : Fin 1024), p = ix2 r q := ⟨p 0, p 1, eq_ix2 p⟩
  obtain rfl : j = q := Fin.ext h1
  refine (sNorm_apply _ _ r j).trans ?_
  rw [ld_gain n]
  exact congrArg (fun f => rmsRow f _ j) (funext fun l => step_apply x0 g w v o inb i l (ix2 r l) h0 rfl)

/-- The block of the residual stream a grid point leaves, entry by entry. -/
theorem out5_apply (i j : Fin 1024) : out0_5 x0 g w v n (ix2 i j)
    = ffnRow (fun l => x0 (ix2 i l)) (fun l => g (ix2 0 l)) (fun l k => w (ix2 l k)) (fun k j => v (ix2 k j)) j := by
  unfold_out out0_5
  canon_tiles p h using cover0_5 ..
  · exact (congrFun (step3 _ _ _ _ _) p).trans (step_apply x0 g w v 768 _ i j p ‹_› ‹_›)
  · exact (congrFun (step2 _ _ _ _ _) p).trans (step_apply x0 g w v 512 _ i j p ‹_› ‹_›)
  · exact (congrFun (step1 _ _ _ _ _) p).trans (step_apply x0 g w v 256 _ i j p ‹_› ‹_›)
  · exact (congrFun (step0 _ _ _ _ _) p).trans
      (step_apply x0 g w v 0 _ i j p (‹(i : ℕ) = (p 0 : ℕ)›.trans (Nat.zero_add _).symm) ‹_›)

/-- The normalized block a grid point leaves, entry by entry. -/
theorem out6_apply (i j : Fin 1024) : out0_6 x0 g w v n (ix2 i j)
    = rmsRow (ffnRow (fun l => x0 (ix2 i l)) (fun l => g (ix2 0 l)) (fun l k => w (ix2 l k)) (fun k j => v (ix2 k j)))
        (fun l => n (ix2 0 l)) j := by
  unfold_out out0_6
  canon_tiles p h using cover0_6 ..
  · exact (congrFun (quarter3 _ _ _ _ _ _) p).trans (quarter_apply x0 g w v n 768 _ i j p ‹_› ‹_›)
  · exact (congrFun (quarter2 _ _ _ _ _ _) p).trans (quarter_apply x0 g w v n 512 _ i j p ‹_› ‹_›)
  · exact (congrFun (quarter1 _ _ _ _ _ _) p).trans (quarter_apply x0 g w v n 256 _ i j p ‹_› ‹_›)
  · exact (congrFun (quarter0 _ _ _ _ _ _) p).trans
      (quarter_apply x0 g w v n 0 _ i j p (‹(i : ℕ) = (p 0 : ℕ)›.trans (Nat.zero_add _).symm) ‹_›)

end

end Cert.FfnMix

end
-- ==== Proof.FfnMixArray.lean ====
/-
  The first feed-forward kernel's arrays after the run: grid point `t` writes the rows from `1024 * t` on of the residual stream
  after the half step (`stream`) and of those rows normalized (`normed`).
-/
module

public import proofs.«01_k».proof.Proof.FfnMix
public import proofs.«01_k».proof.Proof.Gen.Kernel3Ideal.Value
public import Idealize.ShloMosaic.Lib.Pipeline.ValueKit.Point

@[expose] public section

noncomputable section

namespace Cert.FfnMix

open Idealize.ShloMosaic Idealize.ShloMosaic.TcCoe Cert.Kernel3Ideal Cert.Kernel3Ideal.Gen Cert.Ffn

theorem ix_rows : ∀ t : Fin cfg0.N, win0_0.index t = ![t.val, 0] ∧ win0_5.index t = ![t.val, 0] ∧ win0_6.index t = ![t.val, 0]
    ∧ (cfg0.win 5).flush t = true ∧ (cfg0.win 6).flush t = true := (by decide +kernel : ∀ t : Fin grid0.N, _)

theorem ix_whole : ∀ t : Fin cfg0.N, win0_1.index t = ![0, 0] ∧ win0_2.index t = ![0, 0] ∧ win0_3.index t = ![0, 0]
    ∧ win0_4.index t = ![0, 0] := (by decide +kernel : ∀ t : Fin grid0.N, _)

theorem t_lt (t : Fin cfg0.N) : t.val < 64 := lt_of_lt_of_eq t.isLt (show cfg0.N = 64 from N_0)

variable (m : (ℓ : Loc nD τ sig) → Buf (Elt Ideal) ℓ) (c : Dev nD)

def rowIn (r : Fin 65536) (l : Fin 1024) : EReal := m ((c : Thread nD τ).loc main_arg0) (ix2 r l)
def gain (l : Fin 1024) : EReal := m ((c : Thread nD τ).loc main_arg1) (ix2 (0 : Fin 1) l)
def wIn (l : Fin 1024) (k : Fin 5632) : EReal := m ((c : Thread nD τ).loc main_arg2) (ix3 (0 : Fin 1) l k)
def wOut (k : Fin 2816) (j : Fin 1024) : EReal := m ((c : Thread nD τ).loc main_arg3) (ix3 (0 : Fin 1) k j)
def next (l : Fin 1024) : EReal := m ((c : Thread nD τ).loc main_arg4) (ix2 (0 : Fin 1) l)

/-- The residual stream after the half step, row by row. -/
def streamAt (r : Fin 65536) (j : Fin 1024) : EReal := ffnRow (rowIn m c r) (gain m c) (wIn m c) (wOut m c) j

/-- Its rows normalized. -/
def normedAt (r : Fin 65536) (j : Fin 1024) : EReal := rmsRow (streamAt m c r) (next m c) j

/-- The residual stream after the half step. -/
def stream : Buf (Elt Ideal) ((c : Thread nD τ).loc main_v8_0) := fun i : S65536x1024.Idx => streamAt m c (i 0) (i 1)

/-- The normalized rows. -/
def normed : Buf (Elt Ideal) ((c : Thread nD τ).loc main_v8_1) := fun i : S65536x1024.Idx => normedAt m c (i 0) (i 1)

variable (t : Fin cfg0.N)

theorem blk0 (i j : Fin 1024) (r : Fin 65536) (h : (r : ℕ) = t.val * 1024 + i) : iblk m c 0 t (ix2 i j) = rowIn m c r j := by
  have ht := t_lt t
  rw [show r = ⟨t.val * 1024 + i.val, by omega⟩ from Fin.ext h]
  unfold rowIn
  blk_ext! [iblk, V, (ix_rows t).1]

theorem blk1 (l : Fin 1024) : iblk m c 1 t (ix2 (0 : Fin 1) l) = gain m c l := by
  unfold gain
  blk_ext! [iblk, V, (ix_whole t).1]

theorem blk2 (l : Fin 1024) (k : Fin 5632) : iblk m c 2 t (ix2 l k) = wIn m c l k := by
  unfold wIn
  blk_ext! [iblk, V, (ix_whole t).2.1]

theorem blk3 (k : Fin 2816) (j : Fin 1024) : iblk m c 3 t (ix2 k j) = wOut m c k j := by
  unfold wOut
  blk_ext! [iblk, V, (ix_whole t).2.2.1]

theorem blk4 (l : Fin 1024) : iblk m c 4 t (ix2 (0 : Fin 1) l) = next m c l := by
  unfold next
  blk_ext! [iblk, V, (ix_whole t).2.2.2]

/-- What a grid point leaves is its rows of the stream. -/
theorem stream_point (i j : Fin 1024) (r : Fin 65536) (h : (r : ℕ) = t.val * 1024 + i) :
    out0_5 (iblk m c 0 t) (iblk m c 1 t) (iblk m c 2 t) (iblk m c 3 t) (iblk m c 4 t) (ix2 i j) = streamAt m c r j := by
  refine (out5_apply _ _ _ _ _ i j).trans ?_
  unfold streamAt
  rw [funext (blk1 m c t), funext fun l => funext (blk2 m c t l), funext fun k => funext (blk3 m c t k)]
  exact congrArg (fun x => ffnRow x _ _ _ j) (funext fun l => blk0 m c t i l r h)

/-- What a grid point leaves is its normalized rows. -/
theorem normed_point (i j : Fin 1024) (r : Fin 65536) (h : (r : ℕ) = t.val * 1024 + i) :
    out0_6 (iblk m c 0 t) (iblk m c 1 t) (iblk m c 2 t) (iblk m c 3 t) (iblk m c 4 t) (ix2 i j) = normedAt m c r j := by
  refine (out6_apply _ _ _ _ _ i j).trans ?_
  unfold normedAt
  rw [funext (blk4 m c t)]
  exact congrArg (fun x => rmsRow x _ j) (funext fun l => (out5_apply _ _ _ _ _ i l).symm.trans (stream_point m c t i l r h))

theorem flushed_stream : (dats m 0 c).flushed 5 t = ((cfg0.win 5).blk t).view.read (Elt Ideal) (stream m c) := by
  rw [Value.flushed5]
  funext y
  have e := (ix_rows t).2.1
  have e0 : win0_5.index t (0 : Fin 2) = t.val := congrFun e 0
  have e1 : win0_5.index t (1 : Fin 2) = 0 := congrFun e 1
  have hb0 : (((cfg0.win 5).blk t).view.emb y 0).val = win0_5.index t (0 : Fin 2) * 1024 + 1 * (y 0).val := rfl
  have hb1 : (((cfg0.win 5).blk t).view.emb y 1).val = win0_5.index t (1 : Fin 2) * 1024 + 1 * (y 1).val := rfl
  show out0_5 (iblk m c 0 t) (iblk m c 1 t) (iblk m c 2 t) (iblk m c 3 t) (iblk m c 4 t)
      ((cfg0.win 5).xinj (grid0.coords t) y) = streamAt m c (((cfg0.win 5).blk t).view.emb y 0) (((cfg0.win 5).blk t).view.emb y 1)
  refine (congrArg _ (eq_ix2 _)).trans ((stream_point m c t _ _ (((cfg0.win 5).blk t).view.emb y 0) ?_).trans
    (congrArg (streamAt m c _) (Fin.ext ?_)))
  · rw [hb0, e0, Nat.one_mul]
  · rw [hb1, e1, Nat.one_mul, Nat.zero_mul, Nat.zero_add]

theorem flushed_normed : (dats m 0 c).flushed 6 t = ((cfg0.win 6).blk t).view.read (Elt Ideal) (normed m c) := by
  rw [Value.flushed6]
  funext y
  have e := (ix_rows t).2.2.1
  have e0 : win0_6.index t (0 : Fin 2) = t.val := congrFun e 0
  have e1 : win0_6.index t (1 : Fin 2) = 0 := congrFun e 1
  have hb0 : (((cfg0.win 6).blk t).view.emb y 0).val = win0_6.index t (0 : Fin 2) * 1024 + 1 * (y 0).val := rfl
  have hb1 : (((cfg0.win 6).blk t).view.emb y 1).val = win0_6.index t (1 : Fin 2) * 1024 + 1 * (y 1).val := rfl
  show out0_6 (iblk m c 0 t) (iblk m c 1 t) (iblk m c 2 t) (iblk m c 3 t) (iblk m c 4 t)
      ((cfg0.win 6).xinj (grid0.coords t) y) = normedAt m c (((cfg0.win 6).blk t).view.emb y 0) (((cfg0.win 6).blk t).view.emb y 1)
  refine (congrArg _ (eq_ix2 _)).trans ((normed_point m c t _ _ (((cfg0.win 6).blk t).view.emb y 0) ?_).trans
    (congrArg (normedAt m c _) (Fin.ext ?_)))
  · rw [hb0, e0, Nat.one_mul]
  · rw [hb1, e1, Nat.one_mul, Nat.zero_mul, Nat.zero_add]

theorem point_of (i : S65536x1024.Idx) : (i 0 : ℕ) / 1024 < cfg0.N := by
  have i0 : (i 0 : ℕ) < 65536 := (i 0).isLt
  exact lt_of_lt_of_eq (by omega) (show cfg0.N = 64 from N_0).symm

theorem covered_stream (i : S65536x1024.Idx) :
    ∃ t : Fin cfg0.N, (cfg0.win 5).flush t = true ∧ i ∈ ((cfg0.win 5).blk t).view.set := by
  refine ⟨⟨_, point_of i⟩, (ix_rows _).2.2.2.1, ?_⟩
  show i ∈ ((View.whole main_v8_0).slice (win0_5.rect ⟨_, point_of i⟩)).set
  rw [View.set_slice_whole, Rect.mem_set_unit]
  exact in_rows i _ _ (ix_rows ⟨_, point_of i⟩).2.1 rfl

theorem covered_normed (i : S65536x1024.Idx) :
    ∃ t : Fin cfg0.N, (cfg0.win 6).flush t = true ∧ i ∈ ((cfg0.win 6).blk t).view.set := by
  refine ⟨⟨_, point_of i⟩, (ix_rows _).2.2.2.2, ?_⟩
  show i ∈ ((View.whole main_v8_1).slice (win0_6.rect ⟨_, point_of i⟩)).set
  rw [View.set_slice_whole, Rect.mem_set_unit]
  exact in_rows i _ _ (ix_rows ⟨_, point_of i⟩).2.2.1 rfl

/-- The residual stream after the run. -/
theorem stream_eq : (dats m 0 c).arrAt 5 cfg0.N = stream m c :=
  (dats m 0 c).arrAt_eq_of_cover 5 _ (fun t _ => flushed_stream m c t) covered_stream

/-- The normalized rows after the run. -/
theorem normed_eq : (dats m 0 c).arrAt 6 cfg0.N = normed m c :=
  (dats m 0 c).arrAt_eq_of_cover 6 _ (fun t _ => flushed_normed m c t) covered_normed

end Cert.FfnMix

end
-- ==== Proof.FfnClaims.lean ====
/-
  The claims about the two feed-forward kernels: each kernel's arrays and its reference's are the same functions of the arguments.
-/
module

public import proofs.«01_k».proof.Defs
public import proofs.«01_k».proof.Proof.FfnRef
public import proofs.«01_k».proof.Proof.FfnFinalArray
public import proofs.«01_k».proof.Proof.FfnMixArray
public import proofs.«01_k».proof.Proof.Gen.Reference3Ideal.Run
public import proofs.«01_k».proof.Proof.Gen.Kernel2.Frame
public import proofs.«01_k».proof.Proof.Gen.Kernel3.Frame
public import Idealize.ShloMosaic.Lib.Quiescent

@[expose] public section

set_option maxRecDepth 8192

noncomputable section

namespace Cert.Ffn

open Idealize.ShloMosaic Idealize.ShloMosaic.TcCoe Idealize.SL.Sem

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- The last kernel's reference as named parts. -/
theorem reference2_split (m : (ℓ : Loc Cert.Reference2Ideal.nD Cert.Reference2Ideal.τ Cert.Reference2Ideal.sig) → Buf (Elt Ideal) ℓ)
    (c : Dev Cert.Reference2Ideal.nD) : Cert.Reference2Ideal.Value.res_out0 m c
      = FfnRef.norm (FfnRef.ffn (addf (m ((c.tc : Thread Cert.Reference2Ideal.nD Cert.Reference2Ideal.τ).loc Cert.Reference2Ideal.main_arg0))
          (m ((c.tc : Thread Cert.Reference2Ideal.nD Cert.Reference2Ideal.τ).loc Cert.Reference2Ideal.main_arg1)))
        (m ((c.tc : Thread Cert.Reference2Ideal.nD Cert.Reference2Ideal.τ).loc Cert.Reference2Ideal.main_arg2))
        (m ((c.tc : Thread Cert.Reference2Ideal.nD Cert.Reference2Ideal.τ).loc Cert.Reference2Ideal.main_arg3))
        (m ((c.tc : Thread Cert.Reference2Ideal.nD Cert.Reference2Ideal.τ).loc Cert.Reference2Ideal.main_arg4)))
        (m ((c.tc : Thread Cert.Reference2Ideal.nD Cert.Reference2Ideal.τ).loc Cert.Reference2Ideal.main_arg5)) := rfl

/-- Two arrays of two axes are equal if their entries are. -/
theorem ext_rows {n0 n1 : ℕ} (x y : (⟨2, ![n0, n1]⟩ : Shape).Idx → EReal) (h : ∀ r j, x (ix2 r j) = y (ix2 r j)) : x = y := by
  funext i
  rw [eq_ix2 i]
  exact h _ _

theorem algebraic2 : Cert.algebraic_Kernel2Ideal_Reference2Ideal := fun m ρ m' ρ' _ ha =>
  ⟨fun c => FfnFinal.result m c,
    (θ_run Cert.Kernel2Ideal.defs _ _).mono (fun _ h c => ⟨(h c).1.trans (FfnFinal.array_eq m c), (h c).2⟩)
      (Cert.Kernel2Ideal.Value.run_blocks m ρ),
    (θ_run Cert.Reference2Ideal.defs _ _).mono (fun _ h c => ⟨(h c).1.trans (by
      obtain ⟨h0, h1, h2, h3, h4, h5⟩ := ha c
      refine (reference2_split m' c).trans ?_
      rw [h0, h1, h2, h3, h4, h5]
      exact ext_rows (n0 := 65536) (n1 := 1024) _ _ fun r j => FfnRef.final_apply _ _ _ _ _ _ r j), (h c).2⟩)
      (Cert.Reference2Ideal.Value.run m' ρ')⟩

section
variable (m : (ℓ : Loc Cert.Reference3Ideal.nD Cert.Reference3Ideal.τ Cert.Reference3Ideal.sig) → Buf (Elt Ideal) ℓ)
  (c : Dev Cert.Reference3Ideal.nD)

/-- The first kernel's reference for the residual stream. -/
def stream3 : FVec Ideal Cert.Reference2Ideal.S65536x1024 .f32 :=
  FfnRef.ffn (m ((c.tc : Thread Cert.Reference3Ideal.nD Cert.Reference3Ideal.τ).loc Cert.Reference3Ideal.main_arg0))
    (m ((c.tc : Thread Cert.Reference3Ideal.nD Cert.Reference3Ideal.τ).loc Cert.Reference3Ideal.main_arg1))
    (m ((c.tc : Thread Cert.Reference3Ideal.nD Cert.Reference3Ideal.τ).loc Cert.Reference3Ideal.main_arg2))
    (m ((c.tc : Thread Cert.Reference3Ideal.nD Cert.Reference3Ideal.τ).loc Cert.Reference3Ideal.main_arg3))

/-- The first kernel's reference for the normalized rows. -/
def normed3 : FVec Ideal Cert.Reference2Ideal.S65536x1024 .f32 :=
  FfnRef.norm (stream3 m c)
    (FfnRef.flat (m ((c.tc : Thread Cert.Reference3Ideal.nD Cert.Reference3Ideal.τ).loc Cert.Reference3Ideal.main_arg4)))

theorem normed3_eq : Cert.Reference3Ideal.Value.res_out1 m c = normed3 m c := rfl

theorem normed3_apply (r : Fin 65536) (j : Fin 1024) : normed3 m c (ix2 r j) = rmsRow (fun l => stream3 m c (ix2 r l))
    (fun l => m ((c.tc : Thread Cert.Reference3Ideal.nD Cert.Reference3Ideal.τ).loc Cert.Reference3Ideal.main_arg4) (ix2 (0 : Fin 1) l)) j := by
  refine (FfnRef.norm_apply _ _ r j).trans ?_
  simp only [FfnRef.flat_apply]

end

/-- Equal arguments give the same residual stream. -/
theorem stream_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (r : Fin 65536) (j : Fin 1024) : stream3 m' c (ix2 r j) = FfnMix.streamAt m c r j := by
  unfold stream3
  rw [h0, h1, h2, h3]
  exact FfnRef.ffn_apply _ _ _ _ r j

theorem algebraic3 : Cert.algebraic_Kernel3Ideal_Reference3Ideal := fun m ρ m' ρ' _ ha =>
  ⟨fun c => FfnMix.stream m c, fun c => FfnMix.normed m c,
    (θ_run Cert.Kernel3Ideal.defs _ _).mono (fun _ h c =>
      ⟨(h c).1.trans (FfnMix.stream_eq m c), (h c).2.1.trans (FfnMix.normed_eq m c), (h c).2.2⟩)
      (Cert.Kernel3Ideal.Value.run_blocks m ρ),
    (θ_run Cert.Reference3Ideal.defs _ _).mono (fun _ h c => by
      obtain ⟨h0, h1, h2, h3, h4⟩ := ha c
      have e := stream_agree m m' c h0 h1 h2 h3
      refine ⟨(show _ = stream3 m' c from (h c).1).trans (ext_rows (n0 := 65536) (n1 := 1024) _ _ e),
        (h c).2.1.trans ((normed3_eq m' c).trans (ext_rows (n0 := 65536) (n1 := 1024) _ _ fun r j => ?_)), (h c).2.2⟩
      refine (normed3_apply m' c r j).trans ?_
      rw [funext (e r), h4]
      rfl)
      (Cert.Reference3Ideal.Value.run m' ρ')⟩

end Cert.Ffn

end
-- ==== Proof.MixSpec.lean ====
/-
  The first stage of the mixers, row by row, as functions of the rows of its input and of the weights: the projections (`lin`), the
  gates, the decay's logarithm and its running sum over a chunk of 64 rows (`run`), and the spatial gating of a chunk of 128 rows.
-/
module

public import Idealize.ShloMosaic.Lib.Pointwise

@[expose] public section

noncomputable section

namespace Cert.MixIn

open Idealize.ShloMosaic
open scoped BigOperators

/-- A column of a projection of a row. -/
def lin (h w : Fin 1024 → EReal) : EReal := ∑ l : Fin 1024, h l * w l

/-- A function on 64 rows, continued by zero. -/
def pad (f : Fin 64 → EReal) (k : ℕ) : EReal := if h : k < 64 then f ⟨k, h⟩ else 0

/-- The sum over the rows up to and including row `p`. -/
def run (f : Fin 64 → EReal) (p : ℕ) : EReal := ∑ k ∈ Finset.range (p + 1), pad f k

/-- The logarithm of the decay of one row: the logarithm of the logistic function, over 16. -/
def logDecay (x : EReal) : EReal :=
  Ideal.div (-(max (-x) 0 + Ideal.log1p (Ideal.exp (-max x (-x))))) (Ideal.ofBits FTy.f32 0x41800000#32)

/-- The gaussian error linear unit. -/
def gelu (x : EReal) : EReal :=
  Ideal.ofBits FTy.f32 0x3F000000#32 * x * (1 + Ideal.erf (x * Ideal.ofBits FTy.f32 0x3F3504F3#32))

/-- The mean of a row. -/
def mean (x : Fin 1024 → EReal) : EReal := Ideal.div (∑ l : Fin 1024, x l) (Ideal.ofBits FTy.f32 0x44800000#32)

/-- A row less its mean, over the root of its variance, scaled and shifted. -/
def layerNorm (x g b : Fin 1024 → EReal) (j : Fin 1024) : EReal :=
  (x j - mean x) * Ideal.rsqrt (mean (fun l => (x l - mean x) * (x l - mean x)) + Ideal.ofBits FTy.f32 0x358637BD#32) * g j + b j

/-- The gating of row `i` of a chunk: the rows up to and including row `i`, weighted, plus the bias. -/
def spatial (w : Fin 128 → Fin 128 → EReal) (b : Fin 128 → EReal) (v : Fin 128 → EReal) (i : Fin 128) : EReal :=
  (∑ j : Fin 128, (if j ≤ i then w i j else 0) * v j) + b i

/-- The gate of a row. -/
def gate (h w : Fin 1024 → EReal) (b : EReal) : EReal := Ideal.logistic (lin h w + b)

/-- The low-rank projection that the decay is read from. -/
def lowRank (h : Fin 1024 → EReal) (w : Fin 16 → Fin 1024 → EReal) (a : Fin 16 → EReal) (b : EReal) : EReal :=
  (∑ r : Fin 16, lin h (w r) * a r) + b

/-- The running sum of the decays' logarithms of a chunk. -/
def chunk (x : Fin 64 → EReal) (p : ℕ) : EReal := run (fun j => logDecay (x j)) p

/-- A query scaled. -/
def scaled (q : EReal) : EReal := q * Ideal.ofBits FTy.f32 0x3DB504F3#32

/-- A query of row `p` of a chunk, decayed from the chunk's middle. -/
def qIn (q : EReal) (x : Fin 64 → EReal) (p : ℕ) : EReal := scaled q * Ideal.exp (chunk x p - chunk x 31)

/-- A key, decayed to the chunk's middle. -/
def kIn (k : EReal) (x : Fin 64 → EReal) (p : ℕ) : EReal := k * Ideal.exp (chunk x 31 - chunk x p)

/-- A query, decayed from the chunk's start. -/
def qOut (q : EReal) (x : Fin 64 → EReal) (p : ℕ) : EReal := scaled q * Ideal.exp (chunk x p)

/-- A key, decayed to the chunk's end. -/
def kEnd (k : EReal) (x : Fin 64 → EReal) (p : ℕ) : EReal := k * Ideal.exp (chunk x 63 - chunk x p)

/-- The decay over the chunk. -/
def decayed (x : Fin 64 → EReal) : EReal := Ideal.exp (chunk x 63)

/-! ## Two bases of the exponential -/

/-- The factor between the two bases. -/
def base : ℝ := (Real.log 2)⁻¹

theorem base_pos : 0 < base := inv_pos.mpr (Real.log_pos (by norm_num))

theorem exp2_base (y : EReal) : Ideal.exp2 ((base : EReal) * y) = Ideal.exp y := by
  induction y using EReal.rec with
  | bot => rw [EReal.coe_mul_bot_of_pos base_pos]; rfl
  | top => rw [EReal.coe_mul_top_of_pos base_pos]; rfl
  | coe r =>
    rw [← EReal.coe_mul]
    show ((Real.rpow 2 (base * r) : ℝ) : EReal) = (Real.exp r : EReal)
    refine congrArg _ ?_
    show (2 : ℝ) ^ (base * r) = Real.exp r
    rw [Real.rpow_def_of_pos (by norm_num)]
    unfold base
    rw [← mul_assoc, mul_inv_cancel₀ (Real.log_pos (by norm_num)).ne', one_mul]

theorem base_add (x y : EReal) : (base : EReal) * x + (base : EReal) * y = (base : EReal) * (x + y) :=
  (EReal.left_distrib_of_nonneg_of_ne_top (EReal.coe_nonneg.mpr base_pos.le) (EReal.coe_ne_top _) x y).symm

theorem base_sub (x y : EReal) : (base : EReal) * x - (base : EReal) * y = (base : EReal) * (x - y) := by
  rw [sub_eq_add_neg, ← mul_neg, base_add, ← sub_eq_add_neg]

theorem base_run (f : Fin 64 → EReal) (p : ℕ) : run (fun j => (base : EReal) * f j) p = (base : EReal) * run f p := by
  unfold run
  induction p + 1 with
  | zero => simp
  | succ n ih =>
    rw [Finset.sum_range_succ, Finset.sum_range_succ, ih, ← base_add]
    refine congrArg _ ?_
    unfold pad
    split
    · rfl
    · rw [mul_zero]

theorem sixteen : Ideal.ofBits FTy.f32 0x41800000#32 = ((16 : ℝ) : EReal) := by
  simp [Ideal.ofBits, Ideal.ieee, -EReal.coe_mul]
  norm_num

/-- The two ways of writing the logarithm of the logistic function. -/
theorem logSig_eq (x : EReal) : min x 0 - Ideal.log (1 + Ideal.exp (0 - max x (-x)))
    = -(max (-x) 0 + Ideal.log1p (Ideal.exp (-max x (-x)))) := by
  rw [zero_sub]
  unfold Ideal.log1p
  have hb : ∃ r : ℝ, Ideal.log (1 + Ideal.exp (-max x (-x))) = (r : EReal) := by
    have h1 : Ideal.log (1 + Ideal.exp ⊥) = ((Real.log 1 : ℝ) : EReal) := by
      rw [show Ideal.exp ⊥ = 0 from rfl, add_zero]
      exact if_neg (by norm_num)
    induction x using EReal.rec with
    | bot => exact ⟨_, by rw [EReal.neg_bot, max_eq_right bot_le, EReal.neg_top]; exact h1⟩
    | top => exact ⟨_, by rw [EReal.neg_top, max_eq_left bot_le, EReal.neg_top]; exact h1⟩
    | coe r =>
      refine ⟨Real.log (1 + Real.exp (-max r (-r))), ?_⟩
      rw [← EReal.coe_neg, ← EReal.coe_strictMono.monotone.map_max, ← EReal.coe_neg]
      show Ideal.log (((1 : ℝ) : EReal) + ((Real.exp _ : ℝ) : EReal)) = _
      rw [← EReal.coe_add]
      exact if_neg (not_le.mpr (by positivity))
  obtain ⟨r, hr⟩ := hb
  rw [hr, EReal.neg_add (.inr (EReal.coe_ne_top r)) (.inr (EReal.coe_ne_bot r))]
  refine congrArg (· - (r : EReal)) ?_
  rcases le_total x 0 with h | h
  · rw [min_eq_left h, max_eq_left (EReal.le_neg_of_le_neg (by rwa [neg_zero])), neg_neg]
  · rw [min_eq_right h, max_eq_right (EReal.neg_le_of_neg_le (by rwa [neg_zero])), neg_zero]

/-- The kernel's form of the decay's logarithm, in base two. -/
theorem logDecay_eq (x : EReal) : (min x 0 - Ideal.log (1 + Ideal.exp (0 - max x (-x)))) * (((Real.log 2)⁻¹ * 16⁻¹ : ℝ) : EReal)
    = (base : EReal) * logDecay x := by
  unfold logDecay
  rw [logSig_eq, sixteen, Ideal.div_coe (by norm_num), EReal.coe_mul, mul_comm, mul_assoc]
  refine congrArg _ ?_
  rw [mul_comm, one_div]

end Cert.MixIn

end
-- ==== Proof.MixModel.lean ====
/-
  The nine results of the mixers' input kernel as functions of its arguments, entry by entry.
-/
module

public import proofs.«01_k».proof.Proof.MixSpec

@[expose] public section

noncomputable section

namespace Cert.MixIn

open Idealize.ShloMosaic
open scoped BigOperators

/-- The arguments: the rows, the projection, the gates' bias, the layer norm's gain and bias, the spatial weights and bias, the
    decay's second projection and bias, the first mixer's projection. -/
structure Args where
  h : Fin 65536 → Fin 1024 → EReal
  w : Fin 1024 → Fin 7184 → EReal
  bg : Fin 2048 → EReal
  lg : Fin 1024 → EReal
  lb : Fin 1024 → EReal
  ws : Fin 8 → Fin 128 → Fin 128 → EReal
  bs : Fin 8 → Fin 128 → EReal
  wa : Fin 16 → Fin 512 → EReal
  ba : Fin 512 → EReal
  wp : Fin 1024 → Fin 1024 → EReal

/-- A projection times its logistic. -/
def gated (x : EReal) : EReal := x * Ideal.logistic x

namespace Args

variable (a : Args)

/-- The projection of row `r`, column `q`. -/
def proj (r : Fin 65536) (q : Fin 7184) : EReal := lin (a.h r) (fun l => a.w l q)

/-- The projection the decay of row `r` is read from. -/
def rate (r : Fin 65536) (c : Fin 512) : EReal :=
  lowRank (a.h r) (fun k l => a.w l (⟨5120 + k, by omega⟩ : Fin 7184)) (fun k => a.wa k c) (a.ba c)

/-- The same of the 64 rows of chunk `n`. -/
def rates (n : Fin 1024) (c : Fin 512) (j : Fin 64) : EReal := a.rate (⟨64 * n + j, by omega⟩ : Fin 65536) c

/-- The chunk row `r` lies in. -/
def of (r : Fin 65536) : Fin 1024 := ⟨r / 64, by omega⟩

/-- The two gates of row `r`. -/
def gates (r : Fin 65536) (q : Fin 2048) : EReal := gate (a.h r) (fun l => a.w l (⟨5136 + q, by omega⟩ : Fin 7184)) (a.bg q)

/-- The gating operand of row `r`. -/
def gating (r : Fin 65536) (j : Fin 1024) : EReal :=
  layerNorm (fun l => gelu (a.proj r (⟨1024 + l, by omega⟩ : Fin 7184))) a.lg a.lb j

/-- The spatial gating of row `r`: of the 128 rows of its chunk, with the weights of the column's group. -/
def spatialAt (r : Fin 65536) (q : Fin 1024) : EReal :=
  spatial (a.ws (⟨q / 128, by omega⟩ : Fin 8)) (a.bs (⟨q / 128, by omega⟩ : Fin 8))
    (fun l => a.gating (⟨128 * (r / 128) + l, by omega⟩ : Fin 65536) q) (⟨r % 128, by omega⟩ : Fin 128)

/-- The first mixer's result, gated. -/
def mixed (r : Fin 65536) (j : Fin 1024) : EReal :=
  a.gates r (⟨j, by omega⟩ : Fin 2048)
    * lin (fun q => gelu (a.proj r (⟨q, by omega⟩ : Fin 7184)) * a.spatialAt r q) (fun q => a.wp q j)

/-- The second mixer's gate. -/
def gateB (r : Fin 65536) (j : Fin 1024) : EReal := a.gates r (⟨1024 + j, by omega⟩ : Fin 2048)

/-- The queries decayed from the middle of their chunk. -/
def queryIn (r : Fin 65536) (j : Fin 512) : EReal := qIn (a.proj r (⟨2048 + j, by omega⟩ : Fin 7184)) (a.rates (of r) j) (r % 64)

/-- The keys decayed to the middle of their chunk. -/
def keyIn (r : Fin 65536) (j : Fin 512) : EReal := kIn (a.proj r (⟨2560 + j, by omega⟩ : Fin 7184)) (a.rates (of r) j) (r % 64)

/-- The queries decayed from the start of their chunk. -/
def queryOut (r : Fin 65536) (j : Fin 512) : EReal := qOut (a.proj r (⟨2048 + j, by omega⟩ : Fin 7184)) (a.rates (of r) j) (r % 64)

/-- The keys decayed to the end of their chunk. -/
def keyEnd (r : Fin 65536) (j : Fin 512) : EReal := kEnd (a.proj r (⟨2560 + j, by omega⟩ : Fin 7184)) (a.rates (of r) j) (r % 64)

/-- The decay over each chunk. -/
def decay (n : Fin 1024) (j : Fin 512) : EReal := decayed (a.rates n j)

/-- The values. -/
def value (r : Fin 65536) (j : Fin 1024) : EReal := a.proj r (⟨3072 + j, by omega⟩ : Fin 7184)

/-- The gated read-out. -/
def readOut (r : Fin 65536) (j : Fin 1024) : EReal := gated (a.proj r (⟨4096 + j, by omega⟩ : Fin 7184))

end Args

end Cert.MixIn

end
-- ==== Proof.MixCum.lean ====
/-
  The reference's running sum: a sum over a window of 64 rows that ends at the row, zero before the chunk's first row.
-/
module

public import proofs.«01_k».proof.Proof.MixModel
public import proofs.«01_k».proof.Proof.Gen.Reference4Ideal.Run

@[expose] public section

set_option maxRecDepth 8192

noncomputable section

namespace Cert.MixIn

open Idealize.ShloMosaic Idealize.ShloMosaic.TcCoe
open Cert.Reference4Ideal Cert.Reference4Ideal.Gen
open scoped BigOperators

/-- A left fold of additions is a sum. -/
theorem fold_add {n : ℕ} (g : Fin n → EReal) (v : EReal) : (List.finRange n).foldl (fun r k => r + g k) v = v + ∑ k : Fin n, g k := by
  rw [Fin.sum_univ_def]
  induction List.finRange n generalizing v with
  | nil => simp
  | cons a l ih => rw [List.foldl_cons, ih, List.map_cons, List.sum_cons, add_assoc]

/-- A window of one by 64 by one: its middle axis. -/
def line : Fin 64 ≃ (⟨3, ![1, 64, 1]⟩ : Shape).Idx where
  toFun k := ix3 0 k 0
  invFun y := y 1
  left_inv k := rfl
  right_inv y := by
    refine Eq.trans ?_ (eq_ix3 y).symm
    exact congrArg₂ (fun a b => ix3 a (y 1) b) (Subsingleton.elim (α := Fin 1) _ _) (Subsingleton.elim (α := Fin 1) _ _)

/-- Of the 64 rows that end at row `p`, those before row 0 count for nothing. -/
theorem window_sum (f : Fin 64 → EReal) (p : ℕ) (hp : p < 64) :
    ∑ k : Fin 64, (if 63 ≤ p + (k : ℕ) then pad f (p + k - 63) else 0) = run f p := by
  rw [Fin.sum_univ_eq_sum_range (fun k => if 63 ≤ p + k then pad f (p + k - 63) else 0) 64,
    show 64 = (63 - p) + (p + 1) by omega, Finset.sum_range_add]
  have hz : ∑ k ∈ Finset.range (63 - p), (if 63 ≤ p + k then pad f (p + k - 63) else 0) = 0 :=
    Finset.sum_eq_zero fun k hk => if_neg (by have := Finset.mem_range.mp hk; omega)
  rw [hz, zero_add]
  unfold run
  refine Finset.sum_congr rfl fun k hk => ?_
  rw [if_pos (by omega)]
  exact congrArg (pad f) (by omega)

/-- A windowed sum from zero, as a sum over the window's entries. -/
theorem window_fold {s t u : Shape} (window strides lo hi : Fin s.rank → ℕ) (x : s.Idx → EReal) (h : s.ReduceWindows window strides lo hi t)
    (hu : 0 < u.numel) (j : t.Idx) (g : (⟨s.rank, window⟩ : Shape).Idx → EReal)
    (hg : ∀ y, g y = if hin : ∀ a, lo a ≤ (j (a.cast h.1.symm)).val * strides a + (y a).val
      ∧ (j (a.cast h.1.symm)).val * strides a + (y a).val - lo a < s.size a
      then x (fun a => ⟨(j (a.cast h.1.symm)).val * strides a + (y a).val - lo a, (hin a).2⟩) else 0) :
    Host.reduceWindow (u := u) (fun a b : EReal => a + b) window strides lo hi x (fun _ => 0) h hu j = ∑ y, g y := by
  rw [← Equiv.sum_comp (⟨s.rank, window⟩ : Shape).rowMajor.symm]
  refine Eq.trans ?_ (zero_add _)
  rw [← fold_add]
  unfold Host.reduceWindow
  dsimp only
  refine congrArg (fun f => List.foldl f (0 : EReal) _) (funext fun r => funext fun k => congrArg (r + ·) ?_)
  rw [hg]
  split <;> rfl

/-- What the window's row `y` adds to entry `(n, p, c)`. -/
def windowTerm (x : FVec Ideal S1024x64x512 .f32) (n : Fin 1024) (p : Fin 64) (c : Fin 512) (y : (⟨3, ![1, 64, 1]⟩ : Shape).Idx) : EReal :=
  let q : Fin 3 → ℕ := fun a => (ix3 n p c a).val * (![1, 1, 1] : Fin 3 → ℕ) a + (y a).val
  if h : ∀ a, (![0, 63, 0] : Fin 3 → ℕ) a ≤ q a ∧ q a - (![0, 63, 0] : Fin 3 → ℕ) a < S1024x64x512.size a then
    x (fun a => ⟨q a - (![0, 63, 0] : Fin 3 → ℕ) a, (h a).2⟩) else 0

theorem windowTerm_line (x : FVec Ideal S1024x64x512 .f32) (n : Fin 1024) (p : Fin 64) (c : Fin 512) (k : Fin 64) :
    windowTerm x n p c (line k) = if 63 ≤ (p : ℕ) + k then pad (fun j => x (ix3 n j c)) (p + k - 63) else 0 := by
  have hp := p.isLt
  have hk := k.isLt
  have hn := n.isLt
  have hc := c.isLt
  unfold windowTerm
  dsimp only
  split
  · next h =>
    have h1 : 63 ≤ (p : ℕ) * 1 + k := (h 1).1
    rw [if_pos (by omega), pad, dif_pos (show (p : ℕ) + k - 63 < 64 by omega)]
    refine congrArg x (funext fun a => Fin.ext ?_)
    match a with
    | ⟨0, _⟩ => show (n : ℕ) * 1 + 0 - 0 = n; omega
    | ⟨1, _⟩ => show (p : ℕ) * 1 + k - 63 = p + k - 63; omega
    | ⟨2, _⟩ => show (c : ℕ) * 1 + 0 - 0 = c; omega
  · next h =>
    rw [if_neg]
    intro h1
    refine h fun a => ?_
    match a with
    | ⟨0, _⟩ => show 0 ≤ (n : ℕ) * 1 + 0 ∧ (n : ℕ) * 1 + 0 - 0 < 1024; omega
    | ⟨1, _⟩ => show 63 ≤ (p : ℕ) * 1 + k ∧ (p : ℕ) * 1 + k - 63 < 64; omega
    | ⟨2, _⟩ => show 0 ≤ (c : ℕ) * 1 + 0 ∧ (c : ℕ) * 1 + 0 - 0 < 512; omega

theorem cum_apply (x : FVec Ideal S1024x64x512 .f32) (init : FVec Ideal S_ .f32) (h0 : ∀ i, init i = 0) (n : Fin 1024) (p : Fin 64)
    (c : Fin 512) : Host.reduceWindowAdd ![1, 64, 1] ![1, 1, 1] ![0, 63, 0] ![0, 0, 0] x init
      reduceWindows_S1024x64x512_S1024x64x512_w1s1p0_0_w64s1p63_0_w1s1p0_0 h_S_ (ix3 n p c) = run (fun j => x (ix3 n j c)) p := by
  have hw : Host.reduceWindowAdd ![1, 64, 1] ![1, 1, 1] ![0, 63, 0] ![0, 0, 0] x init
      reduceWindows_S1024x64x512_S1024x64x512_w1s1p0_0_w64s1p63_0_w1s1p0_0 h_S_ (ix3 n p c)
      = Host.reduceWindow (t := S1024x64x512) (u := S_) (fun a b : EReal => a + b) ![1, 64, 1] ![1, 1, 1] ![0, 63, 0] ![0, 0, 0] x (fun _ => 0)
        reduceWindows_S1024x64x512_S1024x64x512_w1s1p0_0_w64s1p63_0_w1s1p0_0 h_S_ (ix3 n p c) := by
    rw [← h0 (Shape.Idx.first h_S_)]
    rfl
  refine hw.trans ?_
  rw [window_fold _ _ _ _ x _ _ _ (windowTerm x n p c) (fun y => rfl), ← window_sum _ _ p.isLt, ← Equiv.sum_comp line]
  exact Finset.sum_congr rfl fun k _ => windowTerm_line x n p c k

end Cert.MixIn

end
-- ==== Proof.MixHost.lean ====
/-
  What the mixers' input kernel's host operations leave: the weights laid out as the kernel reads them.
-/
module

public import proofs.«01_k».proof.Proof.MixModel
public import proofs.«01_k».proof.Proof.Gen.Kernel4Ideal.Value
public import Idealize.ShloMosaic.Lib.Pipeline.ValueKit.Point
public import Idealize.ShloMosaic.Lib.Pipeline.ValueKit.Tiles

@[expose] public section

set_option maxRecDepth 8192

noncomputable section

namespace Cert.MixIn

open Idealize.ShloMosaic Idealize.ShloMosaic.TcCoe Cert.Kernel4Ideal Cert.Kernel4Ideal.Gen

variable (m : (ℓ : Loc nD τ sig) → Buf (Elt Ideal) ℓ) (c : Dev nD)

/-- An argument in memory. -/
abbrev arg (b : Ref sig .tc) : Buf (Elt Ideal) ((c : Thread nD τ).loc b) := m ((c : Thread nD τ).loc b)

theorem V_proj : V m c main_v1 = truncf (F := Ideal) .bf16
    (shapeCast S1024x7184 (arg m c main_arg1) shapeCasts_S1x1024x7184_S1024x7184) bitsLt_bf16_f32 := rfl

theorem V_gates : V m c main_v4 = extractStridedSlice S1024x2048 ![0, 5136] (truncf (F := Ideal) .bf16
    (shapeCast S1024x7184 (arg m c main_arg1) shapeCasts_S1x1024x7184_S1024x7184) bitsLt_bf16_f32) slices_S1024x7184_S1024x2048_0_5136 := rfl

theorem V_biasG : V m c main_v6 = shapeCast S1x2048 (shapeCast S2048 (arg m c main_arg2) shapeCasts_S1x2048_S2048) shapeCasts_S2048_S1x2048 := rfl

theorem V_gain : V m c main_v8 = shapeCast S1x1024 (shapeCast S1024 (arg m c main_arg3) shapeCasts_S1x1024_S1024) shapeCasts_S1024_S1x1024 := rfl

theorem V_bias : V m c main_v10 = shapeCast S1x1024 (shapeCast S1024 (arg m c main_arg4) shapeCasts_S1x1024_S1024) shapeCasts_S1024_S1x1024 := rfl

theorem V_biasA : V m c main_v25 = shapeCast S1x512 (shapeCast S512 (arg m c main_arg8) shapeCasts_S1x512_S512) shapeCasts_S512_S1x512 := rfl

theorem V_projA : V m c main_v20 = truncf (F := Ideal) .bf16
    (shapeCast S1024x1024 (arg m c main_arg9) shapeCasts_S1x1024x1024_S1024x1024) bitsLt_bf16_f32 := rfl

theorem V_alpha : V m c main_v23 = Idealize.ShloMosaic.pad S128x512 ![0, 0] ![112, 0] ![0, 0] (truncf (F := Ideal) .bf16
    (shapeCast S16x512 (arg m c main_arg7) shapeCasts_S1x16x512_S16x512) bitsLt_bf16_f32) (sitofp (F := Ideal) .bf16 (constantI S_ 32 0#32))
    pads_S16x512_S128x512_01120_000 h_S_ := rfl

theorem V_biasS : V m c main_v18 = shapeCast S128x1024 (broadcastInDim S128x8x128 ![0, 1] bcast_S128x8_S128x8x128_0_1
    (transpose S128x8 [1, 0] (shapeCast S8x128 (arg m c main_arg6) shapeCasts_S1x8x128_S8x128) transposes_S8x128_S128x8_1_0))
    shapeCasts_S128x8x128_S128x1024 := rfl

/-- The mask of the entries on and below the diagonal. -/
def tril : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

theorem V_spatial : V m c main_v14 = truncf (F := Ideal) .bf16 (select (broadcastInDim S8x128x128 ![0, 1, 2] bcast_S1x128x128_S8x128x128_0_1_2
    (broadcastInDim S1x128x128 ![1, 2] bcast_S128x128_S1x128x128_1_2 tril))
    (shapeCast S8x128x128 (arg m c main_arg5) shapeCasts_S1x8x128x128_S8x128x128)
    (broadcastInDim S8x128x128 ![] bcast_S_S8x128x128 (constant S_ .f32 0x00000000#32))) bitsLt_bf16_f32 := rfl

/-- The arguments in memory. -/
def args : Args where
  h r l := arg m c main_arg0 (ix2 r l)
  w l q := arg m c main_arg1 (ix3 (0 : Fin 1) l q)
  bg q := arg m c main_arg2 (ix2 (0 : Fin 1) q)
  lg l := arg m c main_arg3 (ix2 (0 : Fin 1) l)
  lb l := arg m c main_arg4 (ix2 (0 : Fin 1) l)
  ws g i l := arg m c main_arg5 (ix4 (0 : Fin 1) g i l)
  bs g i := arg m c main_arg6 (ix3 (0 : Fin 1) g i)
  wa k j := arg m c main_arg7 (ix3 (0 : Fin 1) k j)
  ba j := arg m c main_arg8 (ix2 (0 : Fin 1) j)
  wp q j := arg m c main_arg9 (ix3 (0 : Fin 1) q j)

theorem proj_read (x : FVec Ideal S1x1024x7184 .f32) (l : Fin 1024) (q : Fin 7184) :
    (truncf .bf16 (shapeCast S1024x7184 x shapeCasts_S1x1024x7184_S1024x7184) bitsLt_bf16_f32 : FVec Ideal S1024x7184 .bf16) (ix2 l q)
      = x (ix3 0 l q) := by
  pointwise!

theorem gates_read (x : FVec Ideal S1x1024x7184 .f32) (l : Fin 1024) (q : Fin 2048) :
    (extractStridedSlice S1024x2048 ![0, 5136] (truncf .bf16 (shapeCast S1024x7184 x shapeCasts_S1x1024x7184_S1024x7184) bitsLt_bf16_f32)
      slices_S1024x7184_S1024x2048_0_5136 : FVec Ideal S1024x2048 .bf16) (ix2 l q) = x (ix3 0 l (⟨5136 + q, by omega⟩ : Fin 7184)) := by
  pointwise!

theorem projA_read (x : FVec Ideal S1x1024x1024 .f32) (q j : Fin 1024) :
    (truncf .bf16 (shapeCast S1024x1024 x shapeCasts_S1x1024x1024_S1024x1024) bitsLt_bf16_f32 : FVec Ideal S1024x1024 .bf16) (ix2 q j)
      = x (ix3 0 q j) := by
  pointwise!

theorem alpha_read (x : FVec Ideal S1x16x512 .f32) (z : FVec Ideal S_ .bf16) (k : Fin 16) (j : Fin 512) :
    (Idealize.ShloMosaic.pad S128x512 ![0, 0] ![112, 0] ![0, 0] (truncf .bf16 (shapeCast S16x512 x shapeCasts_S1x16x512_S16x512) bitsLt_bf16_f32)
      z pads_S16x512_S128x512_01120_000 h_S_ : FVec Ideal S128x512 .bf16) (ix2 (⟨k, by omega⟩ : Fin 128) j) = x (ix3 0 k j) := by
  pointwise!

theorem biasS_read (x : FVec Ideal S1x8x128 .f32) (i : Fin 128) (q : Fin 1024) :
    (shapeCast S128x1024 (broadcastInDim S128x8x128 ![0, 1] bcast_S128x8_S128x8x128_0_1
      (transpose S128x8 [1, 0] (shapeCast S8x128 x shapeCasts_S1x8x128_S8x128) transposes_S8x128_S128x8_1_0))
      shapeCasts_S128x8x128_S128x1024 : FVec Ideal S128x1024 .f32) (ix2 i q) = x (ix3 0 (⟨q / 128, by omega⟩ : Fin 8) i) := by
  pointwise!

theorem tril_apply (i l : Fin 128) (x y : EReal) : Scalar.select (tril (ix2 i l)) x y = if l ≤ i then x else y := by
  pointwise! [tril]
  rw [show IntOp.addi (BitVec.ofNat 32 (i : ℕ)) 0#32 = BitVec.ofNat 32 (i : ℕ) from BitVec.add_zero _,
    WordCmp.cmpi_sge_ofNat (by omega) (by omega)]
  by_cases h : l ≤ i
  · rw [if_pos h, decide_eq_true (show (l : ℕ) ≤ i from h)]; rfl
  · rw [if_neg h, decide_eq_false (show ¬(l : ℕ) ≤ i from h)]; rfl

theorem spatial_read (k : IVec S128x128 1) (x : FVec Ideal S1x8x128x128 .f32) (g : Fin 8) (i l : Fin 128) :
    (truncf .bf16 (select (broadcastInDim S8x128x128 ![0, 1, 2] bcast_S1x128x128_S8x128x128_0_1_2
      (broadcastInDim S1x128x128 ![1, 2] bcast_S128x128_S1x128x128_1_2 k)) (shapeCast S8x128x128 x shapeCasts_S1x8x128x128_S8x128x128)
      (broadcastInDim S8x128x128 ![] bcast_S_S8x128x128 (constant S_ .f32 0x00000000#32))) bitsLt_bf16_f32 : FVec Ideal S8x128x128 .bf16) (ix3 g i l)
      = Scalar.select (k (ix2 i l)) (x (ix4 0 g i l)) 0 := by
  pointwise!

theorem row_read {n : ℕ} (x : FVec Ideal ⟨2, ![1, n]⟩ .f32) (h : (⟨2, ![1, n]⟩ : Shape).ShapeCasts ⟨1, ![n]⟩)
    (h' : (⟨1, ![n]⟩ : Shape).ShapeCasts ⟨2, ![1, n]⟩) (l : Fin n) :
    shapeCast ⟨2, ![1, n]⟩ (shapeCast ⟨1, ![n]⟩ x h) h' (ix2 0 l) = x (ix2 0 l) := by
  pointwise!

theorem proj_at (l : Fin 1024) (q : Fin 7184) : V m c main_v1 (ix2 l q) = (args m c).w l q :=
  (congrFun (V_proj m c) _).trans (proj_read _ l q)

theorem gates_at (l : Fin 1024) (q : Fin 2048) : V m c main_v4 (ix2 l q) = (args m c).w l (⟨5136 + q, by omega⟩ : Fin 7184) :=
  (congrFun (V_gates m c) _).trans (gates_read _ l q)

theorem biasG_at (q : Fin 2048) : V m c main_v6 (ix2 (0 : Fin 1) q) = (args m c).bg q :=
  (congrFun (V_biasG m c) _).trans (row_read _ _ _ q)

theorem gain_at (l : Fin 1024) : V m c main_v8 (ix2 (0 : Fin 1) l) = (args m c).lg l :=
  (congrFun (V_gain m c) _).trans (row_read _ _ _ l)

theorem bias_at (l : Fin 1024) : V m c main_v10 (ix2 (0 : Fin 1) l) = (args m c).lb l :=
  (congrFun (V_bias m c) _).trans (row_read _ _ _ l)

theorem biasA_at (j : Fin 512) : V m c main_v25 (ix2 (0 : Fin 1) j) = (args m c).ba j :=
  (congrFun (V_biasA m c) _).trans (row_read _ _ _ j)

theorem projA_at (q j : Fin 1024) : V m c main_v20 (ix2 q j) = (args m c).wp q j :=
  (congrFun (V_projA m c) _).trans (projA_read _ q j)

theorem alpha_at (k : Fin 16) (j : Fin 512) : V m c main_v23 (ix2 (⟨k, by omega⟩ : Fin 128) j) = (args m c).wa k j :=
  (congrFun (V_alpha m c) _).trans (alpha_read _ _ k j)

theorem biasS_at (i : Fin 128) (q : Fin 1024) : V m c main_v18 (ix2 i q) = (args m c).bs (⟨q / 128, by omega⟩ : Fin 8) i :=
  (congrFun (V_biasS m c) _).trans (biasS_read _ i q)

theorem spatial_at (g : Fin 8) (i l : Fin 128) : V m c main_v14 (ix3 g i l) = if l ≤ i then (args m c).ws g i l else 0 :=
  (congrFun (V_spatial m c) _).trans ((spatial_read _ _ g i l).trans (tril_apply i l _ _))

end Cert.MixIn

end
-- ==== Proof.MixRef.lean ====
/-
  The reference of the mixers' first stage as a few operations on whole arrays, each read entry by entry: the projections, the
  gates, the layer norm, the spatial gating and the logarithms of the decays.
-/
module

public import proofs.«01_k».proof.Proof.MixCum
public import proofs.«01_k».proof.Proof.MixHost

@[expose] public section

set_option maxRecDepth 8192

noncomputable section

namespace Cert.MixRef

open Idealize.ShloMosaic Idealize.ShloMosaic.TcCoe
open Cert.Reference4Ideal Cert.Reference4Ideal.Gen
open Cert.MixIn (lin run logDecay gelu mean layerNorm spatial gate lowRank gated)
open scoped BigOperators

/-- All projections of every row. -/
def projs (h : FVec Ideal S65536x1024 .bf16) (w : FVec Ideal S1x1024x7184 .f32) : FVec Ideal S65536x7184 .f32 :=
  Host.dotGeneral dot_S65536x1024_S1024x7184_S65536x7184_1_0_0_1_n_n none (extf .f32 h bitsLt_bf16_f32) (shapeCast _ w shapeCasts_S1x1024x7184_S1024x7184)

/-- Both gates of every row. -/
def gates (z : FVec Ideal S65536x7184 .f32) (b : FVec Ideal S1x2048 .f32) : FVec Ideal S65536x2048 .f32 :=
  Host.divf (broadcastInDim S65536x2048 ![] bcast_S_S65536x2048 (constant S_ .f32 0x3F800000#32)) (addf (broadcastInDim S65536x2048 ![] bcast_S_S65536x2048 (constant S_ .f32 0x3F800000#32)) (Host.exp (Host.negf (addf (extractStridedSlice S65536x2048 ![0, 5136] z slices_S65536x7184_S65536x2048_0_5136) (broadcastInDim S65536x2048 ![0, 1] bcast_S1x2048_S65536x2048_0_1 (broadcastInDim S1x2048 ![1] bcast_S2048_S1x2048_1 (shapeCast _ b shapeCasts_S1x2048_S2048)))))))

/-- The gaussian error linear unit of every entry. -/
def gelus (x : FVec Ideal S65536x1024 .f32) : FVec Ideal S65536x1024 .f32 :=
  mulf (mulf (broadcastInDim S65536x1024 ![] bcast_S_S65536x1024 (constant S_ .f32 0x3F000000#32)) x) (addf (broadcastInDim S65536x1024 ![] bcast_S_S65536x1024 (constant S_ .f32 0x3F800000#32)) (Host.erf (mulf x (broadcastInDim S65536x1024 ![] bcast_S_S65536x1024 (constant S_ .f32 0x3F3504F3#32)))))

/-- The mean of every row. -/
def means (x : FVec Ideal S65536x1024 .f32) : FVec Ideal S65536x1 .f32 :=
  Host.divf (broadcastInDim S65536x1 ![0] bcast_S65536_S65536x1_0 (Host.reduceAdd x (constant S_ .f32 0x00000000#32) reducesTo_S65536x1024_S65536_d1 h_S_)) (broadcastInDim S65536x1 ![] bcast_S_S65536x1 (constant S_ .f32 0x44800000#32))

/-- Every row less its mean. -/
def centered (x : FVec Ideal S65536x1024 .f32) (u : FVec Ideal S65536x1 .f32) : FVec Ideal S65536x1024 .f32 :=
  subf x (broadcastInDim S65536x1024 ![0, 1] bcast_S65536x1_S65536x1024_0_1 u)

/-- Every row over the root of its variance, scaled and shifted. -/
def spread (d : FVec Ideal S65536x1024 .f32) (v : FVec Ideal S65536x1 .f32) (g b : FVec Ideal S1x1024 .f32) : FVec Ideal S65536x1024 .f32 :=
  addf (mulf (mulf d (broadcastInDim S65536x1024 ![0, 1] bcast_S65536x1_S65536x1024_0_1 (Host.rsqrt (addf v (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast _ g shapeCasts_S1x1024_S1024)))) (broadcastInDim S65536x1024 ![0, 1] bcast_S1x1024_S65536x1024_0_1 (broadcastInDim S1x1024 ![1] bcast_S1024_S1x1024_1 (shapeCast _ b shapeCasts_S1x1024_S1024)))

/-- The layer norm of every row. -/
def norms (x : FVec Ideal S65536x1024 .f32) (g b : FVec Ideal S1x1024 .f32) : FVec Ideal S65536x1024 .f32 :=
  spread (centered x (means x)) (means (mulf (centered x (means x)) (centered x (means x)))) g b

/-- The spatial weights, on and below the diagonal. -/
def weights (k : IVec S128x128 1) (w : FVec Ideal S1x8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 k)) (shapeCast _ w shapeCasts_S1x8x128x128_S8x128x128) (broadcastInDim S8x128x128 ![] bcast_S_S8x128x128 (constant S_ .f32 0x00000000#32))

/-- The mask of the entries on and below the diagonal. -/
def tril : IVec S128x128 1 :=
  select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))

/-- The weighted rows of every chunk of 128. -/
def weighted (v : FVec Ideal S65536x1024 .f32) (w : FVec Ideal S8x128x128 .f32) : FVec Ideal S8x512x128x128 .f32 :=
  Host.dotGeneral dot_S512x128x8x128_S8x128x128_S8x512x128x128_1_2_03_1_2_0 none (shapeCast _ v shapeCasts_S65536x1024_S512x128x8x128) w

/-- The gating: the weighted rows laid out by rows again, plus the bias. -/
def gatings (y : FVec Ideal S8x512x128x128 .f32) (b : FVec Ideal S1x8x128 .f32) : FVec Ideal S65536x1024 .f32 :=
  shapeCast _ (addf (transpose S512x128x8x128 [1, 3, 0, 2] y transposes_S8x512x128x128_S512x128x8x128_1_3_0_2) (broadcastInDim S512x128x8x128 ![0, 1, 2, 3] bcast_S1x128x8x1_S512x128x8x128_0_1_2_3 (broadcastInDim S1x128x8x1 ![1, 2] bcast_S128x8_S1x128x8x1_1_2 (transpose S128x8 [1, 0] (shapeCast _ b shapeCasts_S1x8x128_S8x128) transposes_S8x128_S128x8_1_0)))) shapeCasts_S512x128x8x128_S65536x1024

/-- The first mixer's result, gated. -/
def mix (g : FVec Ideal S65536x2048 .f32) (u s : FVec Ideal S65536x1024 .f32) (p : FVec Ideal S1x1024x1024 .f32) : FVec Ideal S65536x1024 .f32 :=
  mulf (extractStridedSlice S65536x1024 ![0, 0] g slices_S65536x2048_S65536x1024_0_0) (Host.dotGeneral dot_S65536x1024_S1024x1024_S65536x1024_1_0_0_1_n_n none (mulf u s) (shapeCast _ p shapeCasts_S1x1024x1024_S1024x1024))

/-- The negated projection that the decays are read from. -/
def negRates (z : FVec Ideal S65536x7184 .f32) (a : FVec Ideal S1x16x512 .f32) (b : FVec Ideal S1x512 .f32) : FVec Ideal S65536x512 .f32 :=
  Host.negf (addf (Host.dotGeneral dot_S65536x16_S16x512_S65536x512_1_0_0_1_n_n none (extractStridedSlice S65536x16 ![0, 5120] z slices_S65536x7184_S65536x16_0_5120) (shapeCast _ a shapeCasts_S1x16x512_S16x512)) (broadcastInDim S65536x512 ![0, 1] bcast_S1x512_S65536x512_0_1 (broadcastInDim S1x512 ![1] bcast_S512_S1x512_1 (shapeCast _ b shapeCasts_S1x512_S512))))

/-- The difference that the softplus of `y` is read from. -/
def offZero (y : FVec Ideal S65536x512 .f32) : FVec Ideal S65536x512 .f32 :=
  subf y (broadcastInDim S65536x512 ![] bcast_S_S65536x512 (constant S_ .f32 0x00000000#32))

/-- The logarithms of the decays, by chunks. -/
def logs (y d : FVec Ideal S65536x512 .f32) : FVec Ideal S1024x64x512 .f32 :=
  shapeCast _ (Host.divf (Host.negf (select (cmpf .une d d) (addf y (broadcastInDim S65536x512 ![] bcast_S_S65536x512 (constant S_ .f32 0x00000000#32))) (addf (maximumf y (broadcastInDim S65536x512 ![] bcast_S_S65536x512 (constant S_ .f32 0x00000000#32))) (Host.log1p (Host.exp (Host.negf (Host.absf d))))))) (broadcastInDim S65536x512 ![] bcast_S_S65536x512 (constant S_ .f32 0x41800000#32))) shapeCasts_S65536x512_S1024x64x512

/-- Their running sums over each chunk. -/
def sums (l : FVec Ideal S1024x64x512 .f32) : FVec Ideal S1024x64x512 .f32 :=
  Host.reduceWindowAdd ![1, 64, 1] ![1, 1, 1] ![0, 63, 0] ![0, 0, 0] l (broadcastInDim S_ ![] bcast_S_S_ (constant S_ .f32 0x00000000#32)) reduceWindows_S1024x64x512_S1024x64x512_w1s1p0_0_w64s1p63_0_w1s1p0_0 h_S_

/-! ## Entry by entry -/

theorem projs_apply (h : FVec Ideal S65536x1024 .bf16) (w : FVec Ideal S1x1024x7184 .f32) (r : Fin 65536) (q : Fin 7184) :
    projs h w (ix2 r q) = lin (fun l => h (ix2 r l)) (fun l => w (ix3 0 l q)) := by
  unfold lin
  pointwise [projs]

theorem gates_apply (z : FVec Ideal S65536x7184 .f32) (b : FVec Ideal S1x2048 .f32) (r : Fin 65536) (q : Fin 2048) :
    gates z b (ix2 r q) = Ideal.logistic (z (ix2 r (⟨5136 + q, by omega⟩ : Fin 7184)) + b (ix2 0 q)) := by
  unfold Ideal.logistic
  pointwise! [gates]

theorem gelus_apply (x : FVec Ideal S65536x1024 .f32) (r : Fin 65536) (j : Fin 1024) : gelus x (ix2 r j) = gelu (x (ix2 r j)) := by
  unfold gelu
  pointwise! [gelus]

theorem means_apply (x : FVec Ideal S65536x1024 .f32) (r : Fin 65536) : means x (ix2 r 0) = mean (fun l => x (ix2 r l)) := by
  unfold mean
  pointwise [means]

theorem centered_apply (x : FVec Ideal S65536x1024 .f32) (u : FVec Ideal S65536x1 .f32) (r : Fin 65536) (j : Fin 1024) :
    centered x u (ix2 r j) = x (ix2 r j) - u (ix2 r 0) := by
  pointwise! [centered]

theorem spread_apply (d : FVec Ideal S65536x1024 .f32) (v : FVec Ideal S65536x1 .f32) (g b : FVec Ideal S1x1024 .f32) (r : Fin 65536)
    (j : Fin 1024) : spread d v g b (ix2 r j)
      = d (ix2 r j) * Ideal.rsqrt (v (ix2 r 0) + Ideal.ofBits FTy.f32 0x358637BD#32) * g (ix2 0 j) + b (ix2 0 j) := by
  pointwise! [spread]

theorem norms_apply (x : FVec Ideal S65536x1024 .f32) (g b : FVec Ideal S1x1024 .f32) (r : Fin 65536) (j : Fin 1024) :
    norms x g b (ix2 r j) = layerNorm (fun l => x (ix2 r l)) (fun l => g (ix2 0 l)) (fun l => b (ix2 0 l)) j := by
  unfold norms layerNorm
  rw [spread_apply, means_apply, centered_apply, means_apply]
  have e : (fun l => mulf (centered x (means x)) (centered x (means x)) (ix2 r l))
      = fun l => (x (ix2 r l) - mean fun l => x (ix2 r l)) * (x (ix2 r l) - mean fun l => x (ix2 r l)) := funext fun l => by
    refine Eq.trans (b := centered x (means x) (ix2 r l) * centered x (means x) (ix2 r l)) rfl ?_
    rw [centered_apply, means_apply]
  rw [e]

theorem tril_apply (i l : Fin 128) (x y : EReal) : Scalar.select (tril (ix2 i l)) x y = if l ≤ i then x else y :=
  MixIn.tril_apply i l x y

theorem weights_apply (k : IVec S128x128 1) (w : FVec Ideal S1x8x128x128 .f32) (g : Fin 8) (i l : Fin 128) :
    weights k w (ix3 g i l) = Scalar.select (k (ix2 i l)) (w (ix4 0 g i l)) 0 := by
  pointwise! [weights]

theorem weighted_apply (v : FVec Ideal S65536x1024 .f32) (w : FVec Ideal S8x128x128 .f32) (g : Fin 8) (n : Fin 512) (c i : Fin 128) :
    weighted v w (ix4 g n c i)
      = ∑ l : Fin 128, v (ix2 (⟨128 * n + l, by omega⟩ : Fin 65536) (⟨128 * g + c, by omega⟩ : Fin 1024)) * w (ix3 g i l) := by
  pointwise! [weighted]

theorem gatings_apply (y : FVec Ideal S8x512x128x128 .f32) (b : FVec Ideal S1x8x128 .f32) (r : Fin 65536) (q : Fin 1024) :
    gatings y b (ix2 r q) = y (ix4 (⟨q / 128, by omega⟩ : Fin 8) (⟨r / 128, by omega⟩ : Fin 512) (⟨q % 128, by omega⟩ : Fin 128)
      (⟨r % 128, by omega⟩ : Fin 128)) + b (ix3 0 (⟨q / 128, by omega⟩ : Fin 8) (⟨r % 128, by omega⟩ : Fin 128)) := by
  pointwise! [gatings]

theorem mix_apply (g : FVec Ideal S65536x2048 .f32) (u s : FVec Ideal S65536x1024 .f32) (p : FVec Ideal S1x1024x1024 .f32) (r : Fin 65536)
    (j : Fin 1024) : mix g u s p (ix2 r j)
      = g (ix2 r (⟨j, by omega⟩ : Fin 2048)) * lin (fun q => u (ix2 r q) * s (ix2 r q)) (fun q => p (ix3 0 q j)) := by
  unfold lin
  pointwise! [mix]

theorem negRates_apply (z : FVec Ideal S65536x7184 .f32) (a : FVec Ideal S1x16x512 .f32) (b : FVec Ideal S1x512 .f32) (r : Fin 65536)
    (j : Fin 512) : negRates z a b (ix2 r j)
      = -((∑ k : Fin 16, z (ix2 r (⟨5120 + k, by omega⟩ : Fin 7184)) * a (ix3 0 k j)) + b (ix2 0 j)) := by
  pointwise! [negRates]

theorem logs_apply (y d : FVec Ideal S65536x512 .f32) (n : Fin 1024) (p : Fin 64) (j : Fin 512) (x : EReal)
    (hy : y (ix2 (⟨64 * n + p, by omega⟩ : Fin 65536) j) = -x) (hd : d = offZero y) : logs y d (ix3 n p j) = logDecay x := by
  subst hd
  have h : logs y (offZero y) (ix3 n p j) = Ideal.div (-(Scalar.select (FloatOps.cmpf (F := Ideal) .une (y (ix2 (⟨64 * n + p, by omega⟩ : Fin 65536) j) - 0) (y (ix2 (⟨64 * n + p, by omega⟩ : Fin 65536) j) - 0))
      (y (ix2 (⟨64 * n + p, by omega⟩ : Fin 65536) j) + 0) (max (y (ix2 (⟨64 * n + p, by omega⟩ : Fin 65536) j)) 0
        + Ideal.log1p (Ideal.exp (-max (y (ix2 (⟨64 * n + p, by omega⟩ : Fin 65536) j) - 0) (-(y (ix2 (⟨64 * n + p, by omega⟩ : Fin 65536) j) - 0)))))))
      (Ideal.ofBits FTy.f32 0x41800000#32) := by
    pointwise! [logs, offZero]
  rw [h, hy]
  have hc : FloatOps.cmpf (F := Ideal) (φ := .f32) .une (-x - 0) (-x - 0) = 0#1 := by
    simp [FloatOps.cmpf, Ideal.cmp]
  rw [hc, sub_zero, neg_neg, max_comm (-x) x]
  rfl

theorem sums_apply (l : FVec Ideal S1024x64x512 .f32) (n : Fin 1024) (p : Fin 64) (j : Fin 512) :
    sums l (ix3 n p j) = run (fun k => l (ix3 n k j)) p :=
  MixIn.cum_apply _ _ (fun i => by pointwise!) n p j

end Cert.MixRef

end
-- ==== Proof.MixRead.lean ====
/-
  The nine results of the reference of the mixers' first stage, entry by entry: the same functions of the arguments as the kernel's.
-/
module

public import proofs.«01_k».proof.Proof.MixRef

@[expose] public section

set_option maxRecDepth 8192

noncomputable section

namespace Cert.MixRef

open Idealize.ShloMosaic Idealize.ShloMosaic.TcCoe
open Cert.Reference4Ideal Cert.Reference4Ideal.Gen
open Cert.MixIn (Args lin run logDecay gelu mean layerNorm spatial gate lowRank gated scaled chunk qIn kIn qOut kEnd decayed)
open scoped BigOperators

/-- Columns of the projections. -/
def wide (o : ℕ) (h : Shape.Slices S65536x7184 ![0, o] S65536x1024) (z : FVec Ideal S65536x7184 .f32) : FVec Ideal S65536x1024 .f32 :=
  extractStridedSlice S65536x1024 ![0, o] z h

/-- The queries by chunks, scaled. -/
def queries (z : FVec Ideal S65536x7184 .f32) : FVec Ideal S1024x64x512 .f32 :=
  mulf (shapeCast _ (extractStridedSlice S65536x512 ![0, 2048] z slices_S65536x7184_S65536x512_0_2048) shapeCasts_S65536x512_S1024x64x512) (broadcastInDim S1024x64x512 ![] bcast_S_S1024x64x512 (constant S_ .f32 0x3DB504F3#32))

/-- The keys by chunks. -/
def keys (z : FVec Ideal S65536x7184 .f32) : FVec Ideal S1024x64x512 .f32 :=
  shapeCast _ (extractStridedSlice S65536x512 ![0, 2560] z slices_S65536x7184_S65536x512_0_2560) shapeCasts_S65536x512_S1024x64x512

/-- The middle row of every chunk. -/
def middle (s : FVec Ideal S1024x64x512 .f32) : FVec Ideal S1024x1x512 .f32 :=
  extractStridedSlice S1024x1x512 ![0, 31, 0] s slices_S1024x64x512_S1024x1x512_0_31_0

/-- The last row of every chunk. -/
def final (s : FVec Ideal S1024x64x512 .f32) : FVec Ideal S1024x1x512 .f32 :=
  extractStridedSlice S1024x1x512 ![0, 63, 0] s slices_S1024x64x512_S1024x1x512_0_63_0

/-- A row of every chunk as an array of chunks. -/
def over (s : FVec Ideal S1024x1x512 .f32) : FVec Ideal S1024x64x512 .f32 :=
  broadcastInDim S1024x64x512 ![0, 1, 2] bcast_S1024x1x512_S1024x64x512_0_1_2 s

/-- Chunks times the exponential of chunks, by rows. -/
def times (q s : FVec Ideal S1024x64x512 .f32) : FVec Ideal S65536x512 .bf16 :=
  truncf .bf16 (shapeCast S65536x512 (mulf q (Host.exp s)) shapeCasts_S1024x64x512_S65536x512 : FVec Ideal S65536x512 .f32) bitsLt_bf16_f32

theorem wide_apply (o : ℕ) (h : Shape.Slices S65536x7184 ![0, o] S65536x1024) (ho : o + 1024 ≤ 7184) (z : FVec Ideal S65536x7184 .f32)
    (r : Fin 65536) (j : Fin 1024) : wide o h z (ix2 r j) = z (ix2 r (⟨o + j, by omega⟩ : Fin 7184)) := by
  pointwise! [wide]

theorem queries_apply (z : FVec Ideal S65536x7184 .f32) (n : Fin 1024) (p : Fin 64) (j : Fin 512) : queries z (ix3 n p j)
    = scaled (z (ix2 (⟨64 * n + p, by omega⟩ : Fin 65536) (⟨2048 + j, by omega⟩ : Fin 7184))) := by
  unfold scaled
  pointwise! [queries]

theorem keys_apply (z : FVec Ideal S65536x7184 .f32) (n : Fin 1024) (p : Fin 64) (j : Fin 512) : keys z (ix3 n p j)
    = z (ix2 (⟨64 * n + p, by omega⟩ : Fin 65536) (⟨2560 + j, by omega⟩ : Fin 7184)) := by
  pointwise! [keys]

theorem middle_apply (s : FVec Ideal S1024x64x512 .f32) (n : Fin 1024) (p : Fin 64) (j : Fin 512) :
    over (middle s) (ix3 n p j) = s (ix3 n 31 j) := by
  pointwise! [over, middle]

theorem final_apply (s : FVec Ideal S1024x64x512 .f32) (n : Fin 1024) (p : Fin 64) (j : Fin 512) :
    over (final s) (ix3 n p j) = s (ix3 n 63 j) := by
  pointwise! [over, final]

theorem times_apply (q s : FVec Ideal S1024x64x512 .f32) (r : Fin 65536) (j : Fin 512) : times q s (ix2 r j)
    = q (ix3 (⟨r / 64, by omega⟩ : Fin 1024) (⟨r % 64, by omega⟩ : Fin 64) j)
      * Ideal.exp (s (ix3 (⟨r / 64, by omega⟩ : Fin 1024) (⟨r % 64, by omega⟩ : Fin 64) j)) := by
  pointwise! [times]

theorem subf_apply (x y : FVec Ideal S1024x64x512 .f32) (i : S1024x64x512.Idx) : subf x y i = x i - y i := rfl

/-- The arguments out of ten arrays. -/
def argsOf (x0 : FVec Ideal S65536x1024 .bf16) (x1 : FVec Ideal S1x1024x7184 .f32) (x2 : FVec Ideal S1x2048 .f32)
    (x3 x4 : FVec Ideal S1x1024 .f32) (x5 : FVec Ideal S1x8x128x128 .f32) (x6 : FVec Ideal S1x8x128 .f32) (x7 : FVec Ideal S1x16x512 .f32)
    (x8 : FVec Ideal S1x512 .f32) (x9 : FVec Ideal S1x1024x1024 .f32) : Args where
  h r l := x0 (ix2 r l)
  w l q := x1 (ix3 0 l q)
  bg q := x2 (ix2 0 q)
  lg l := x3 (ix2 0 l)
  lb l := x4 (ix2 0 l)
  ws g i l := x5 (ix4 0 g i l)
  bs g i := x6 (ix3 0 g i)
  wa k j := x7 (ix3 0 k j)
  ba j := x8 (ix2 0 j)
  wp q j := x9 (ix3 0 q j)

section
variable (x0 : FVec Ideal S65536x1024 .bf16) (x1 : FVec Ideal S1x1024x7184 .f32) (x2 : FVec Ideal S1x2048 .f32)
  (x3 x4 : FVec Ideal S1x1024 .f32) (x5 : FVec Ideal S1x8x128x128 .f32) (x6 : FVec Ideal S1x8x128 .f32) (x7 : FVec Ideal S1x16x512 .f32)
  (x8 : FVec Ideal S1x512 .f32) (x9 : FVec Ideal S1x1024x1024 .f32)

/-- The gating operand, from the projections. -/
def operand (z : FVec Ideal S65536x7184 .f32) : FVec Ideal S65536x1024 .f32 :=
  gatings (weighted (norms (gelus (wide 1024 slices_S65536x7184_S65536x1024_0_1024 z)) x3 x4) (weights tril x5)) x6

/-- The running sums, from the projections. -/
def decays (z : FVec Ideal S65536x7184 .f32) : FVec Ideal S1024x64x512 .f32 :=
  sums (logs (negRates z x7 x8) (offZero (negRates z x7 x8)))

theorem proj_at (r : Fin 65536) (q : Fin 7184) : projs x0 x1 (ix2 r q) = (argsOf x0 x1 x2 x3 x4 x5 x6 x7 x8 x9).proj r q :=
  projs_apply x0 x1 r q

theorem gates_at (r : Fin 65536) (q : Fin 2048) : gates (projs x0 x1) x2 (ix2 r q) = (argsOf x0 x1 x2 x3 x4 x5 x6 x7 x8 x9).gates r q := by
  rw [gates_apply, projs_apply]
  rfl

theorem operand_at (r : Fin 65536) (q : Fin 1024) :
    operand x3 x4 x5 x6 (projs x0 x1) (ix2 r q) = (argsOf x0 x1 x2 x3 x4 x5 x6 x7 x8 x9).spatialAt r q := by
  unfold operand
  rw [gatings_apply, weighted_apply]
  refine congrArg (· + _) (Finset.sum_congr rfl fun l _ => ?_)
  rw [weights_apply, tril_apply, norms_apply, mul_comm]
  refine congrArg₂ (· * ·) rfl ?_
  simp only [gelus_apply, wide_apply _ _ (show 1024 + 1024 ≤ 7184 by norm_num), projs_apply]
  exact congrArg (fun k : Fin 1024 => (argsOf x0 x1 x2 x3 x4 x5 x6 x7 x8 x9).gating (⟨128 * (r / 128) + l, by omega⟩ : Fin 65536) k)
    (Fin.ext (show 128 * ((q : ℕ) / 128) + q % 128 = q by omega))

theorem decays_at (n : Fin 1024) (p : Fin 64) (j : Fin 512) :
    decays x7 x8 (projs x0 x1) (ix3 n p j) = chunk ((argsOf x0 x1 x2 x3 x4 x5 x6 x7 x8 x9).rates n j) p := by
  unfold decays chunk
  rw [sums_apply]
  refine congrArg (run · p) (funext fun k => logs_apply _ _ n k j _ ?_ rfl)
  rw [negRates_apply]
  simp only [projs_apply]
  rfl

theorem mixed_at (r : Fin 65536) (j : Fin 1024) :
    mix (gates (projs x0 x1) x2) (gelus (wide 0 slices_S65536x7184_S65536x1024_0_0 (projs x0 x1))) (operand x3 x4 x5 x6 (projs x0 x1)) x9 (ix2 r j)
      = (argsOf x0 x1 x2 x3 x4 x5 x6 x7 x8 x9).mixed r j := by
  rw [mix_apply, gates_at x0 x1 x2 x3 x4 x5 x6 x7 x8 x9]
  unfold Args.mixed
  refine congrArg₂ (· * ·) rfl (congrArg₂ lin (funext fun q => ?_) rfl)
  rw [operand_at x0 x1 x2 x3 x4 x5 x6 x7 x8 x9, gelus_apply, wide_apply _ _ (by norm_num), proj_at x0 x1 x2 x3 x4 x5 x6 x7 x8 x9]
  exact congrArg (fun k : Fin 7184 => gelu ((argsOf x0 x1 x2 x3 x4 x5 x6 x7 x8 x9).proj r k) * _) (Fin.ext (Nat.zero_add _))

theorem gateB_at (r : Fin 65536) (j : Fin 1024) :
    extractStridedSlice S65536x1024 ![0, 1024] (gates (projs x0 x1) x2) slices_S65536x2048_S65536x1024_0_1024 (ix2 r j)
      = (argsOf x0 x1 x2 x3 x4 x5 x6 x7 x8 x9).gateB r j := by
  refine Eq.trans (b := gates (projs x0 x1) x2 (ix2 r (⟨1024 + j, by omega⟩ : Fin 2048))) ?_ (gates_at x0 x1 x2 x3 x4 x5 x6 x7 x8 x9 r _)
  generalize gates (projs x0 x1) x2 = g
  pointwise!

theorem queries_at (r : Fin 65536) (j : Fin 512) :
    queries (projs x0 x1) (ix3 (⟨r / 64, by omega⟩ : Fin 1024) (⟨r % 64, by omega⟩ : Fin 64) j)
      = scaled ((argsOf x0 x1 x2 x3 x4 x5 x6 x7 x8 x9).proj r (⟨2048 + j, by omega⟩ : Fin 7184)) := by
  rw [queries_apply, proj_at x0 x1 x2 x3 x4 x5 x6 x7 x8 x9]
  exact congrArg (fun k : Fin 65536 => scaled ((argsOf x0 x1 x2 x3 x4 x5 x6 x7 x8 x9).proj k _)) (Fin.ext (Nat.div_add_mod r 64))

theorem keys_at (r : Fin 65536) (j : Fin 512) :
    keys (projs x0 x1) (ix3 (⟨r / 64, by omega⟩ : Fin 1024) (⟨r % 64, by omega⟩ : Fin 64) j)
      = (argsOf x0 x1 x2 x3 x4 x5 x6 x7 x8 x9).proj r (⟨2560 + j, by omega⟩ : Fin 7184) := by
  rw [keys_apply, proj_at x0 x1 x2 x3 x4 x5 x6 x7 x8 x9]
  exact congrArg (fun k : Fin 65536 => (argsOf x0 x1 x2 x3 x4 x5 x6 x7 x8 x9).proj k _) (Fin.ext (Nat.div_add_mod r 64))

theorem queryIn_at (r : Fin 65536) (j : Fin 512) :
    times (queries (projs x0 x1)) (subf (decays x7 x8 (projs x0 x1)) (over (middle (decays x7 x8 (projs x0 x1))))) (ix2 r j)
      = (argsOf x0 x1 x2 x3 x4 x5 x6 x7 x8 x9).queryIn r j := by
  rw [times_apply, queries_at x0 x1 x2 x3 x4 x5 x6 x7 x8 x9, subf_apply, middle_apply, decays_at x0 x1 x2 x3 x4 x5 x6 x7 x8 x9,
    decays_at x0 x1 x2 x3 x4 x5 x6 x7 x8 x9]
  rfl

theorem keyIn_at (r : Fin 65536) (j : Fin 512) :
    times (keys (projs x0 x1)) (subf (over (middle (decays x7 x8 (projs x0 x1)))) (decays x7 x8 (projs x0 x1))) (ix2 r j)
      = (argsOf x0 x1 x2 x3 x4 x5 x6 x7 x8 x9).keyIn r j := by
  rw [times_apply, keys_at x0 x1 x2 x3 x4 x5 x6 x7 x8 x9, subf_apply, middle_apply, decays_at x0 x1 x2 x3 x4 x5 x6 x7 x8 x9,
    decays_at x0 x1 x2 x3 x4 x5 x6 x7 x8 x9]
  rfl

theorem queryOut_at (r : Fin 65536) (j : Fin 512) :
    times (queries (projs x0 x1)) (decays x7 x8 (projs x0 x1)) (ix2 r j) = (argsOf x0 x1 x2 x3 x4 x5 x6 x7 x8 x9).queryOut r j := by
  rw [times_apply, queries_at x0 x1 x2 x3 x4 x5 x6 x7 x8 x9, decays_at x0 x1 x2 x3 x4 x5 x6 x7 x8 x9]
  rfl

theorem keyEnd_at (r : Fin 65536) (j : Fin 512) :
    times (keys (projs x0 x1)) (subf (over (final (decays x7 x8 (projs x0 x1)))) (decays x7 x8 (projs x0 x1))) (ix2 r j)
      = (argsOf x0 x1 x2 x3 x4 x5 x6 x7 x8 x9).keyEnd r j := by
  rw [times_apply, keys_at x0 x1 x2 x3 x4 x5 x6 x7 x8 x9, subf_apply, final_apply, decays_at x0 x1 x2 x3 x4 x5 x6 x7 x8 x9,
    decays_at x0 x1 x2 x3 x4 x5 x6 x7 x8 x9]
  rfl

theorem last_apply (s : FVec Ideal S1024x64x512 .f32) (n : Fin 1024) (j : Fin 512) :
    (shapeCast S1024x512 (Host.exp (final s)) shapeCasts_S1024x1x512_S1024x512 : FVec Ideal S1024x512 .f32) (ix2 n j)
      = Ideal.exp (s (ix3 n 63 j)) := by
  pointwise! [final]

theorem decay_at (n : Fin 1024) (j : Fin 512) :
    (shapeCast S1024x512 (Host.exp (final (decays x7 x8 (projs x0 x1)))) shapeCasts_S1024x1x512_S1024x512 : FVec Ideal S1024x512 .f32) (ix2 n j)
      = (argsOf x0 x1 x2 x3 x4 x5 x6 x7 x8 x9).decay n j := by
  rw [last_apply, decays_at x0 x1 x2 x3 x4 x5 x6 x7 x8 x9]
  rfl

theorem value_at (r : Fin 65536) (j : Fin 1024) : wide 3072 slices_S65536x7184_S65536x1024_0_3072 (projs x0 x1) (ix2 r j)
    = (argsOf x0 x1 x2 x3 x4 x5 x6 x7 x8 x9).value r j := by
  rw [wide_apply _ _ (by norm_num), proj_at x0 x1 x2 x3 x4 x5 x6 x7 x8 x9]
  rfl

/-- An array times its logistic. -/
def swish (x : FVec Ideal S65536x1024 .f32) : FVec Ideal S65536x1024 .f32 :=
  mulf x (Host.divf (broadcastInDim S65536x1024 ![] bcast_S_S65536x1024 (constant S_ .f32 0x3F800000#32)) (addf (broadcastInDim S65536x1024 ![] bcast_S_S65536x1024 (constant S_ .f32 0x3F800000#32)) (Host.exp (Host.negf x))))

theorem swish_apply (x : FVec Ideal S65536x1024 .f32) (r : Fin 65536) (j : Fin 1024) : swish x (ix2 r j) = gated (x (ix2 r j)) := by
  unfold gated Ideal.logistic
  pointwise! [swish]

theorem readOut_at (r : Fin 65536) (j : Fin 1024) : swish (wide 4096 slices_S65536x7184_S65536x1024_0_4096 (projs x0 x1)) (ix2 r j)
    = (argsOf x0 x1 x2 x3 x4 x5 x6 x7 x8 x9).readOut r j := by
  rw [swish_apply, wide_apply _ _ (by norm_num), proj_at x0 x1 x2 x3 x4 x5 x6 x7 x8 x9]
  rfl

end

end Cert.MixRef

end
-- ==== Proof.MixScan.lean ====
/-
  The kernel's running sum over a chunk of 64 rows: within each eight rows three steps of adding the rows one, two and four above,
  then to each eight rows the last sum of the eight before.
-/
module

public import proofs.«01_k».proof.Proof.MixSpec
public import proofs.«01_k».proof.Proof.Gen.Kernel4Ideal.Frame

@[expose] public section

set_option maxRecDepth 8192

noncomputable section

namespace Cert.MixIn

open Idealize.ShloMosaic Idealize.ShloMosaic.TcCoe Cert.Kernel4Ideal Cert.Kernel4Ideal.Gen
open scoped BigOperators

/-- A step of the sum within eight rows: each row plus the row `d` above it, where there is one. -/
def step (d : BitVec 32) (x : FVec Ideal S64x8x512 .f32) : FVec Ideal S64x8x512 .f32 :=
  addf x (select (cmpi .sge (iota .tc S64x8x512 32 [1] iota_S64x8x512_d1_w32) (broadcast S64x8x512 d))
    (dynamicRotate 1 d none x rotates_S64x8x512_d1) (broadcast S64x8x512 (Scalar.ofBits .f32 0x00000000#32)))

/-- The sum within eight rows. -/
def eight (x : FVec Ideal S64x8x512 .f32) : FVec Ideal S64x8x512 .f32 := step 4#32 (step 2#32 (step 1#32 x))

theorem eight_apply (x : FVec Ideal S64x8x512 .f32) (g : Fin 64) (s : Fin 8) (c : Fin 512) (f : ℕ → EReal)
    (h : ∀ k : Fin 8, x (ix3 g k c) = f k) : eight x (ix3 g s c) = ∑ k ∈ Finset.range (s + 1), f k := by
  have h0 := h 0
  have h1 := h 1
  have h2 := h 2
  have h3 := h 3
  have h4 := h 4
  have h5 := h 5
  have h6 := h 6
  have h7 := h 7
  unfold eight
  fin_cases s <;> pointwise [step] <;> simp [Scalar.select, IntOp.cmpi, Finset.sum_range_succ, h0, h1, h2, h3, h4, h5, h6, h7] <;> abel

/-- The sums of eight rows, from the eight's sums alone and the sums of the eight rows before. -/
def carry (y : FVec Ideal S8x1x8x512 .f32) (p : FVec Ideal S8x8x512 .f32) : FVec Ideal S8x8x512 .f32 :=
  addf (shapeCast S8x8x512 y shapeCasts_S8x1x8x512_S8x8x512)
    (broadcastTo S8x8x512 (extractStridedSlice S8x1x512 ![0, 7, 0] p slices_S8x8x512_o0_7_0_S8x1x512) broadcasts_S8x1x512_S8x8x512)

theorem carry_apply (y : FVec Ideal S8x1x8x512 .f32) (p : FVec Ideal S8x8x512 .f32) (n s : Fin 8) (c : Fin 512) :
    carry y p (ix3 n s c) = y (ix4 n 0 s c) + p (ix3 n 7 c) := by
  pointwise [carry]

/-- Sums of eight rows each, in the rows of the chunk. -/
def rows (g0 g1 g2 g3 g4 g5 g6 g7 : FVec Ideal S8x8x512 .f32) : FVec Ideal S8x64x512 .f32 :=
  k0_pay28 g6 g7 (shapeCast S8x1x8x512 g0 shapeCasts_S8x8x512_S8x1x8x512) (shapeCast S8x1x8x512 g1 shapeCasts_S8x8x512_S8x1x8x512)
    (shapeCast S8x1x8x512 g2 shapeCasts_S8x8x512_S8x1x8x512) (shapeCast S8x1x8x512 g3 shapeCasts_S8x8x512_S8x1x8x512)
    (shapeCast S8x1x8x512 g4 shapeCasts_S8x8x512_S8x1x8x512) (shapeCast S8x1x8x512 g5 shapeCasts_S8x8x512_S8x1x8x512)

theorem rows_apply (g : Fin 8 → FVec Ideal S8x8x512 .f32) (n q : Fin 8) (p : Fin 64) (c : Fin 512) (hq : (p : ℕ) / 8 = q) :
    rows (g 0) (g 1) (g 2) (g 3) (g 4) (g 5) (g 6) (g 7) (ix3 n p c) = g q (ix3 n (⟨p % 8, by omega⟩ : Fin 8) c) := by
  pointwise [rows, k0_pay28]
  fin_cases q <;> simp [hq]

/-- The eight rows `i` of each chunk. -/
def part (y : FVec Ideal S8x8x8x512 .f32) (i : ℕ) (h : S8x8x8x512.Slices ![0, i, 0, 0] S8x1x8x512) : FVec Ideal S8x1x8x512 .f32 :=
  extractStridedSlice S8x1x8x512 ![0, i, 0, 0] y h

theorem part_apply (y : FVec Ideal S8x8x8x512 .f32) (i : Fin 8) (h) (n s : Fin 8) (c : Fin 512) :
    part y i h (ix4 n 0 s c) = y (ix4 n i s c) := by
  pointwise [part]

/-- The first eight rows' sums. -/
def first (y : FVec Ideal S8x8x8x512 .f32) : FVec Ideal S8x8x512 .f32 :=
  shapeCast S8x8x512 (part y 0 slices_S8x8x8x512_o0_0_0_0_S8x1x8x512) shapeCasts_S8x1x8x512_S8x8x512

/-- The sums of the eight rows `1`, with those before. -/
def sum1 (y : FVec Ideal S8x8x8x512 .f32) := carry (part y 1 slices_S8x8x8x512_o0_1_0_0_S8x1x8x512) (first y)

/-- The sums of the eight rows `2`, with those before. -/
def sum2 (y : FVec Ideal S8x8x8x512 .f32) := carry (part y 2 slices_S8x8x8x512_o0_2_0_0_S8x1x8x512) (sum1 y)

/-- The sums of the eight rows `3`, with those before. -/
def sum3 (y : FVec Ideal S8x8x8x512 .f32) := carry (part y 3 slices_S8x8x8x512_o0_3_0_0_S8x1x8x512) (sum2 y)

/-- The sums of the eight rows `4`, with those before. -/
def sum4 (y : FVec Ideal S8x8x8x512 .f32) := carry (part y 4 slices_S8x8x8x512_o0_4_0_0_S8x1x8x512) (sum3 y)

/-- The sums of the eight rows `5`, with those before. -/
def sum5 (y : FVec Ideal S8x8x8x512 .f32) := carry (part y 5 slices_S8x8x8x512_o0_5_0_0_S8x1x8x512) (sum4 y)

/-- The sums of the eight rows `6`, with those before. -/
def sum6 (y : FVec Ideal S8x8x8x512 .f32) := carry (part y 6 slices_S8x8x8x512_o0_6_0_0_S8x1x8x512) (sum5 y)

/-- The sums of the eight rows `7`, with those before. -/
def sum7 (y : FVec Ideal S8x8x8x512 .f32) := carry (part y 7 slices_S8x8x8x512_o0_7_0_0_S8x1x8x512) (sum6 y)

/-- The sums of each eight rows of the chunk. -/
def sums (y : FVec Ideal S8x8x8x512 .f32) : Fin 8 → FVec Ideal S8x8x512 .f32 :=
  ![first y, sum1 y, sum2 y, sum3 y, sum4 y, sum5 y, sum6 y, sum7 y]

/-- One more eight rows. -/
theorem carry_sum (y : FVec Ideal S8x8x8x512 .f32) (p : FVec Ideal S8x8x512 .f32) (i : Fin 8) (h) (n s : Fin 8) (c : Fin 512)
    (f : ℕ → EReal) (hy : ∀ s : Fin 8, y (ix4 n i s c) = ∑ k ∈ Finset.range (s + 1), f (8 * i + k))
    (hp : p (ix3 n 7 c) = ∑ k ∈ Finset.range (8 * i), f k) :
    carry (part y i h) p (ix3 n s c) = ∑ k ∈ Finset.range (8 * i + s + 1), f k := by
  rw [carry_apply, part_apply, hy, hp, Nat.add_assoc, Finset.sum_range_add _ (8 * (i : ℕ)) (s + 1), add_comm]

theorem sums_apply (y : FVec Ideal S8x8x8x512 .f32) (n : Fin 8) (c : Fin 512) (f : ℕ → EReal)
    (hy : ∀ i s : Fin 8, y (ix4 n i s c) = ∑ k ∈ Finset.range (s + 1), f (8 * i + k)) (i s : Fin 8) :
    sums y i (ix3 n s c) = ∑ k ∈ Finset.range (8 * i + s + 1), f k := by
  have h0 : ∀ s : Fin 8, first y (ix3 n s c) = ∑ k ∈ Finset.range (8 * 0 + s + 1), f k := fun s => by
    have e : first y (ix3 n s c) = part y (0 : Fin 8) slices_S8x8x8x512_o0_0_0_0_S8x1x8x512 (ix4 n 0 s c) := by
      pointwise [first]
    rw [e, part_apply, hy]
    simp
  have h1 : ∀ s : Fin 8, sum1 y (ix3 n s c) = ∑ k ∈ Finset.range (8 * 1 + s + 1), f k := fun s =>
    carry_sum y (first y) 1 slices_S8x8x8x512_o0_1_0_0_S8x1x8x512 n s c f (hy 1) (h0 7)
  have h2 : ∀ s : Fin 8, sum2 y (ix3 n s c) = ∑ k ∈ Finset.range (8 * 2 + s + 1), f k := fun s =>
    carry_sum y (sum1 y) 2 slices_S8x8x8x512_o0_2_0_0_S8x1x8x512 n s c f (hy 2) (h1 7)
  have h3 : ∀ s : Fin 8, sum3 y (ix3 n s c) = ∑ k ∈ Finset.range (8 * 3 + s + 1), f k := fun s =>
    carry_sum y (sum2 y) 3 slices_S8x8x8x512_o0_3_0_0_S8x1x8x512 n s c f (hy 3) (h2 7)
  have h4 : ∀ s : Fin 8, sum4 y (ix3 n s c) = ∑ k ∈ Finset.range (8 * 4 + s + 1), f k := fun s =>
    carry_sum y (sum3 y) 4 slices_S8x8x8x512_o0_4_0_0_S8x1x8x512 n s c f (hy 4) (h3 7)
  have h5 : ∀ s : Fin 8, sum5 y (ix3 n s c) = ∑ k ∈ Finset.range (8 * 5 + s + 1), f k := fun s =>
    carry_sum y (sum4 y) 5 slices_S8x8x8x512_o0_5_0_0_S8x1x8x512 n s c f (hy 5) (h4 7)
  have h6 : ∀ s : Fin 8, sum6 y (ix3 n s c) = ∑ k ∈ Finset.range (8 * 6 + s + 1), f k := fun s =>
    carry_sum y (sum5 y) 6 slices_S8x8x8x512_o0_6_0_0_S8x1x8x512 n s c f (hy 6) (h5 7)
  have h7 : ∀ s : Fin 8, sum7 y (ix3 n s c) = ∑ k ∈ Finset.range (8 * 7 + s + 1), f k := fun s =>
    carry_sum y (sum6 y) 7 slices_S8x8x8x512_o0_7_0_0_S8x1x8x512 n s c f (hy 7) (h6 7)
  fin_cases i
  exacts [h0 s, h1 s, h2 s, h3 s, h4 s, h5 s, h6 s, h7 s]

/-- The running sum over each chunk of 64 rows. -/
def scan (x : FVec Ideal S64x8x512 .f32) : FVec Ideal S8x64x512 .f32 :=
  rows (sums (shapeCast S8x8x8x512 (eight x) shapeCasts_S64x8x512_S8x8x8x512) 0) (sums (shapeCast S8x8x8x512 (eight x) shapeCasts_S64x8x512_S8x8x8x512) 1)
    (sums (shapeCast S8x8x8x512 (eight x) shapeCasts_S64x8x512_S8x8x8x512) 2) (sums (shapeCast S8x8x8x512 (eight x) shapeCasts_S64x8x512_S8x8x8x512) 3)
    (sums (shapeCast S8x8x8x512 (eight x) shapeCasts_S64x8x512_S8x8x8x512) 4) (sums (shapeCast S8x8x8x512 (eight x) shapeCasts_S64x8x512_S8x8x8x512) 5)
    (sums (shapeCast S8x8x8x512 (eight x) shapeCasts_S64x8x512_S8x8x8x512) 6) (sums (shapeCast S8x8x8x512 (eight x) shapeCasts_S64x8x512_S8x8x8x512) 7)

theorem scan_apply (x : FVec Ideal S64x8x512 .f32) (n : Fin 8) (p : Fin 64) (c : Fin 512) (f : Fin 64 → EReal)
    (h : ∀ i k : Fin 8, x (ix3 (⟨8 * n + i, by omega⟩ : Fin 64) k c) = f ⟨8 * i + k, by omega⟩) : scan x (ix3 n p c) = run f p := by
  refine (rows_apply (fun i => sums (shapeCast S8x8x8x512 (eight x) shapeCasts_S64x8x512_S8x8x8x512) i) n ⟨p / 8, by omega⟩ p c rfl).trans ?_
  refine (sums_apply _ n c (pad f) (fun i s => ?_) _ _).trans ?_
  · refine Eq.trans ?_ (eight_apply x (⟨8 * n + i, by omega⟩ : Fin 64) s c (fun k => pad f (8 * i + k)) fun k => ?_)
    · pointwise
      refine congrArg _ (congrArg (fun g => ix3 g s c) (Fin.ext ?_))
      show (n : ℕ) * 8 + i = 8 * (n : ℕ) + i
      omega
    · rw [h]
      show _ = pad f (8 * i + k)
      rw [pad, dif_pos (show 8 * (i : ℕ) + k < 64 by omega)]
  · unfold run
    refine congrArg (fun m => ∑ k ∈ Finset.range (m + 1), pad f k) ?_
    show 8 * ((p : ℕ) / 8) + p % 8 = p
    omega

/-- The rows' values in eights. -/
def eights (x : FVec Ideal S512x512 .f32) : FVec Ideal S64x8x512 .f32 := shapeCast S64x8x512 x shapeCasts_S512x512_S64x8x512

theorem chunk_apply (x : FVec Ideal S512x512 .f32) (n : Fin 8) (p : Fin 64) (c : Fin 512) :
    scan (eights x) (ix3 n p c) = run (fun j => x (ix2 (⟨64 * n + j, by omega⟩ : Fin 512) c)) p :=
  scan_apply _ n p c _ fun i k => by
    pointwise [eights]
    refine congrArg _ (congrArg (fun g => ix2 g c) (Fin.ext ?_))
    show (8 * (n : ℕ) + i) * 8 + k = 64 * (n : ℕ) + (8 * i + k)
    omega

/-- The kernel's running sum is this one. -/
theorem scan_eq (x : FVec Ideal S64x8x512 .f32) (i : IVec S64x8x512 32) (hi : i = iota .tc S64x8x512 32 [1] iota_S64x8x512_d1_w32) :
    k0_pay28 (k0_pay20 i (step 1#32 x) k0_pay12) (k0_pay21 i (step 1#32 x) k0_pay12) (k0_pay22 i (step 1#32 x) k0_pay12)
      (k0_pay23 i (step 1#32 x) k0_pay12) (k0_pay24 i (step 1#32 x) k0_pay12) (k0_pay25 i (step 1#32 x) k0_pay12)
      (k0_pay26 i (step 1#32 x) k0_pay12) (k0_pay27 i (step 1#32 x) k0_pay12) = scan x := by
  subst hi
  rfl

end Cert.MixIn

end
-- ==== Proof.MixDecay.lean ====
/-
  The kernel's decayed queries and keys, and the decay of each chunk, entry by entry.
-/
module

public import proofs.«01_k».proof.Proof.MixScan

@[expose] public section

set_option maxRecDepth 8192

noncomputable section

namespace Cert.MixIn

open Idealize.ShloMosaic Idealize.ShloMosaic.TcCoe Cert.Kernel4Ideal Cert.Kernel4Ideal.Gen
open scoped BigOperators

/-- The named constant. -/
theorem log2e_tau : Named.named (F := Ideal) Cert.Kernel4Ideal.κ "log2e_tau" (φ := .f32) 0x3DB8AA3B#32
    = (((Real.log 2)⁻¹ * 16⁻¹ : ℝ) : EReal) :=
  IdealRules.named_const.ideal_named_scalar _ _ _ _ rfl

/-- The logarithm of the decay of each row, in base two. -/
def dlog (x : FVec Ideal S512x512 .f32) : FVec Ideal S512x512 .f32 :=
  mulf (subf (minimumf x (broadcast S512x512 (Scalar.ofBits .f32 0x00000000#32)))
    (log (addf (broadcast S512x512 (Scalar.ofBits .f32 0x3F800000#32))
      (exp (subf (broadcast S512x512 (Scalar.ofBits .f32 0x00000000#32)) (absf x))))))
    (broadcast S512x512 (Named.named Cert.Kernel4Ideal.κ "log2e_tau" 0x3DB8AA3B#32))

theorem dlog_apply (x : FVec Ideal S512x512 .f32) (i c : Fin 512) : dlog x (ix2 i c) = (base : EReal) * logDecay (x (ix2 i c)) := by
  rw [← logDecay_eq, ← log2e_tau]
  pointwise [dlog]
  rfl

theorem pay11_eq (x : FVec Ideal S512x512 .f32) : k0_pay11 x = step 1#32 (eights (dlog x)) := rfl

/-- The running sums of the kernel. -/
def sumsOf (x : FVec Ideal S512x512 .f32) : FVec Ideal S8x64x512 .f32 := scan (eights (dlog x))

theorem sumsOf_apply (x : FVec Ideal S512x512 .f32) (n : Fin 8) (p : Fin 64) (c : Fin 512) :
    sumsOf x (ix3 n p c) = (base : EReal) * chunk (fun j => x (ix2 (⟨64 * n + j, by omega⟩ : Fin 512) c)) p := by
  unfold sumsOf chunk
  rw [chunk_apply, ← base_run]
  simp only [dlog_apply]

section
variable (q : FVec Ideal S512x1024 .f32) (a b : FVec Ideal S8x8x512 .f32) (c d e f g h : FVec Ideal S8x1x8x512 .f32)

theorem pay34_apply (i j : Fin 512) : k0_pay34 q a b c d e f g h (ix2 i j)
    = scaled (q (ix2 i (⟨j, by omega⟩ : Fin 1024)))
      * Ideal.exp2 (k0_pay28 a b c d e f g h (ix3 (⟨i / 64, by omega⟩ : Fin 8) (⟨i % 64, by omega⟩ : Fin 64) j)
        - k0_pay28 a b c d e f g h (ix3 (⟨i / 64, by omega⟩ : Fin 8) 31 j)) := by
  unfold scaled
  pointwise! [k0_pay34, k0_pay29, k0_pay32]

theorem pay35_apply (i j : Fin 512) : k0_pay35 q a b c d e f g h (ix2 i j)
    = q (ix2 i (⟨512 + j, by omega⟩ : Fin 1024))
      * Ideal.exp2 (k0_pay28 a b c d e f g h (ix3 (⟨i / 64, by omega⟩ : Fin 8) 31 j)
        - k0_pay28 a b c d e f g h (ix3 (⟨i / 64, by omega⟩ : Fin 8) (⟨i % 64, by omega⟩ : Fin 64) j)) := by
  pointwise! [k0_pay35, k0_pay29, k0_pay33]

theorem pay36_apply (i j : Fin 512) : k0_pay36 q a b c d e f g h (ix2 i j)
    = scaled (q (ix2 i (⟨j, by omega⟩ : Fin 1024)))
      * Ideal.exp2 (k0_pay28 a b c d e f g h (ix3 (⟨i / 64, by omega⟩ : Fin 8) (⟨i % 64, by omega⟩ : Fin 64) j)) := by
  unfold scaled
  pointwise! [k0_pay36, k0_pay32]

theorem pay37_apply (i j : Fin 512) : k0_pay37 q a b c d e f g h (ix2 i j)
    = q (ix2 i (⟨512 + j, by omega⟩ : Fin 1024))
      * Ideal.exp2 (k0_pay28 a b c d e f g h (ix3 (⟨i / 64, by omega⟩ : Fin 8) 63 j)
        - k0_pay28 a b c d e f g h (ix3 (⟨i / 64, by omega⟩ : Fin 8) (⟨i % 64, by omega⟩ : Fin 64) j)) := by
  pointwise! [k0_pay37, k0_pay30, k0_pay33]

theorem pay31_apply (n : Fin 8) (j : Fin 512) : k0_pay31 a b c d e f g h (ix2 n j)
    = Ideal.exp2 (k0_pay28 a b c d e f g h (ix3 n 63 j)) := by
  pointwise! [k0_pay31, k0_pay30]

end

end Cert.MixIn

end
-- ==== Proof.MixLin.lean ====
/-
  The kernel's projections of a block of 512 rows, entry by entry, and the blocks that are no more than a projection: the second
  gate, the values and the gated read-out.
-/
module

public import proofs.«01_k».proof.Proof.MixDecay
public import proofs.«01_k».proof.Proof.MixModel
public import Idealize.ShloMosaic.Lib.Pipeline.ValueKit.Tiles

@[expose] public section

set_option maxRecDepth 8192

noncomputable section

namespace Cert.MixIn

open Idealize.ShloMosaic Idealize.ShloMosaic.TcCoe Cert.Kernel4Ideal Cert.Kernel4Ideal.Gen
open scoped BigOperators

/-- A projection of the block's rows on 1024 columns. -/
theorem pay6_apply (x : Vec Ideal S512x1024 .bf16) (w : Vec Ideal S1024x1024 .bf16) (i : Fin 512) (j : Fin 1024) :
    k0_pay6 x w (ix2 i j) = lin (fun l => x (ix2 i l)) (fun l => w (ix2 l j)) := by
  unfold lin
  pointwise [k0_pay6]

theorem pay7_apply (x : Vec Ideal S512x1024 .bf16) (w : Vec Ideal S1024x2048 .bf16) (b : Vec Ideal S1x2048 .f32) (i : Fin 512)
    (j : Fin 2048) : k0_pay7 x w b (ix2 i j) = gate (fun l => x (ix2 i l)) (fun l => w (ix2 l j)) (b (ix2 0 j)) := by
  unfold gate lin
  pointwise [k0_pay7]

theorem pay8_apply (x : Vec Ideal S512x1024 .bf16) (w : Vec Ideal S1024x2048 .bf16) (b : Vec Ideal S1x2048 .f32) (i : Fin 512)
    (j : Fin 1024) : k0_pay8 x w b (ix2 i j) = k0_pay7 x w b (ix2 i (⟨1024 + j, by omega⟩ : Fin 2048)) := by
  pointwise [k0_pay8]

theorem pay5_apply (x : Vec Ideal S512x1024 .bf16) (w : Vec Ideal S1024x1024 .bf16) (i : Fin 512) (j : Fin 1024) :
    k0_pay5 x w (ix2 i j) = gated (lin (fun l => x (ix2 i l)) (fun l => w (ix2 l j))) := by
  unfold gated lin
  pointwise [k0_pay5]

theorem pay3_apply (x : Vec Ideal S512x1024 .bf16) (w : Vec Ideal S1024x1024 .bf16) (i : Fin 512) (j : Fin 1024) :
    k0_pay3 x w (ix2 i j) = lin (fun l => x (ix2 i l)) (fun l => w (ix2 l j)) := by
  unfold lin
  pointwise [k0_pay3]

/-- Of a sum over 128 lanes all but the first 16 are zero. -/
theorem sum_lanes (f : Fin 128 → EReal) (h : ∀ r : Fin 128, 16 ≤ (r : ℕ) → f r = 0) :
    ∑ r : Fin 128, f r = ∑ r : Fin 16, f ⟨r, by omega⟩ := by
  refine (Fin.sum_univ_add (a := 16) (b := 112) (f : Fin (16 + 112) → EReal)).trans ?_
  have hz : ∑ r : Fin 112, f (Fin.natAdd 16 r : Fin (16 + 112)) = 0 :=
    Finset.sum_eq_zero fun r _ => h (Fin.natAdd 16 r) (Nat.le_add_right 16 r)
  rw [hz, add_zero]
  rfl

/-- The mask of the lanes below 16. -/
theorem lane (r : Fin 128) (x y : EReal) :
    Scalar.select (IntOp.cmpi CmpIPredicate.slt (BitVec.ofNat 32 r) 16#32) x y = if (r : ℕ) < 16 then x else y := by
  have h : ∀ r : Fin 128, IntOp.cmpi CmpIPredicate.slt (BitVec.ofNat 32 r) 16#32 = if (r : ℕ) < 16 then 1#1 else 0#1 := by decide
  rw [h]
  split <;> rfl

theorem pay4_apply (x : Vec Ideal S512x1024 .bf16) (w : Vec Ideal S1024x128 .bf16) (a : Vec Ideal S128x512 .bf16)
    (b : Vec Ideal S1x512 .f32) (i c : Fin 512) : k0_pay4 x w a b (ix2 i c)
      = lowRank (fun l => x (ix2 i l)) (fun r l => w (ix2 l (⟨r, by omega⟩ : Fin 128)))
          (fun r => a (ix2 (⟨r, by omega⟩ : Fin 128) c)) (b (ix2 0 c)) := by
  unfold lowRank lin
  pointwise [k0_pay4]
  rw [sum_lanes]
  · refine congrArg (· + _) (Finset.sum_congr rfl fun r _ => ?_)
    rw [lane, if_pos r.isLt]
  · intro r hr
    rw [lane, if_neg (not_lt.mpr hr)]

/-- The whole of an array is what a read of all of it gives. -/
theorem ld_all {e : EltTy} {n m : ℕ} (x : Vec Ideal ⟨2, ![n, m]⟩ e) (inb) :
    View.ld (Val := Elt Ideal) x (Rect.unit (s := ⟨2, ![n, m]⟩) ![0, 0] (⟨2, ![n, m]⟩ : Shape).size inb) = x := by
  refine funext fun y => View.ld_unit_apply_of (Val := Elt Ideal) x _ _ _ y y fun b => ?_
  match b with
  | ⟨0, _⟩ => exact (Nat.zero_add _).symm
  | ⟨1, _⟩ => exact (Nat.zero_add _).symm

/-- Columns of an array, from column `o` on. -/
theorem ld_cols {e : EltTy} {n m k : ℕ} (x : Vec Ideal ⟨2, ![n, m]⟩ e) (o : ℕ) (inb) (l : Fin n) (j : Fin k) (q : Fin m)
    (h : (q : ℕ) = o + j) : View.ld (Val := Elt Ideal) x (Rect.unit (s := ⟨2, ![n, m]⟩) ![0, o] (⟨2, ![n, k]⟩ : Shape).size inb) (ix2 l j)
      = x (ix2 l q) := by
  refine View.ld_unit_apply_of (Val := Elt Ideal) x _ _ _ (ix2 l j) (ix2 l q) fun b => ?_
  match b with
  | ⟨0, _⟩ => show (l : ℕ) = 0 + l; omega
  | ⟨1, _⟩ => exact h

/-- Two index pairs with equal entries. -/
theorem ix2_of {n m : ℕ} (p : Shape.Idx ⟨2, ![n, m]⟩) (i : Fin n) (j : Fin m) (hi : (i : ℕ) = (p 0 : ℕ)) (hj : (j : ℕ) = (p 1 : ℕ)) :
    p = ix2 i j := (eq_ix2 p).trans (congrArg₂ ix2 (Fin.ext hi.symm) (Fin.ext hj.symm))

section
variable (x0 : Vec Ideal S512x1024 .bf16) (x1 : Vec Ideal S1024x7184 .bf16) (x2 : Vec Ideal S1024x2048 .bf16)
  (x3 : Vec Ideal S128x512 .bf16) (x4 : Vec Ideal S1x512 .f32) (x5 : Vec Ideal S1x2048 .f32) (x6 x7 : Vec Ideal S1x1024 .f32)
  (x8 : Vec Ideal S8x128x128 .bf16) (x9 : Vec Ideal S128x1024 .f32) (x10 : Vec Ideal S1024x1024 .bf16)

/-- Column `q` of the projection of row `i` of the block. -/
def col (i : Fin 512) (q : Fin 7184) : EReal := lin (fun l => x0 (ix2 i l)) (fun l => x1 (ix2 l q))

theorem lin_cols (o : ℕ) (inb) (i : Fin 512) (j : Fin 1024) (q : Fin 7184) (h : (q : ℕ) = o + j) :
    lin (fun l => View.ld (Val := Elt Ideal) (e' := .bf16) x0 r0_0 (ix2 i l))
      (fun l => View.ld (Val := Elt Ideal) (e' := .bf16) x1 (Rect.unit (s := S1024x7184) ![0, o] S1024x1024.size inb) (ix2 l j))
      = col x0 x1 i q := by
  unfold col
  rw [show View.ld (Val := Elt Ideal) (e' := .bf16) x0 r0_0 = x0 from ld_all x0 _]
  exact congrArg _ (funext fun l => ld_cols x1 o inb l j q h)

/-- The second gate's block. -/
theorem out12_apply (i : Fin 512) (j : Fin 1024) : out0_12 x0 x1 x2 x3 x4 x5 x6 x7 x8 x9 x10 (ix2 i j)
    = gate (fun l => x0 (ix2 i l)) (fun l => x2 (ix2 l (⟨1024 + j, by omega⟩ : Fin 2048))) (x5 (ix2 0 (⟨1024 + j, by omega⟩ : Fin 2048))) := by
  unfold_out out0_12
  canon_tiles p h using cover0_12 ..
  rw [ix2_of p i j h0 h1]
  exact (pay8_apply _ _ _ i j).trans ((pay7_apply _ _ _ i _).trans (by rw [ld_all, ld_all, ld_all]))

/-- The values' block. -/
theorem out18_apply (i : Fin 512) (j : Fin 1024) : out0_18 x0 x1 x2 x3 x4 x5 x6 x7 x8 x9 x10 (ix2 i j)
    = col x0 x1 i ⟨3072 + j, by omega⟩ := by
  unfold_out out0_18
  canon_tiles p h using cover0_18 ..
  rw [ix2_of p i j h0 h1]
  exact (pay3_apply _ _ i j).trans (lin_cols x0 x1 3072 _ i j _ rfl)

/-- The gated read-out's block. -/
theorem out19_apply (i : Fin 512) (j : Fin 1024) : out0_19 x0 x1 x2 x3 x4 x5 x6 x7 x8 x9 x10 (ix2 i j)
    = gated (col x0 x1 i ⟨4096 + j, by omega⟩) := by
  unfold_out out0_19
  canon_tiles p h using cover0_19 ..
  rw [ix2_of p i j h0 h1]
  exact (pay5_apply _ _ i j).trans (congrArg gated (lin_cols x0 x1 4096 _ i j _ rfl))

end

end Cert.MixIn

end
-- ==== Proof.MixOut.lean ====
/-
  The kernel's blocks that carry the decay: queries and keys decayed to the middle, the start and the end of their chunk of 64 rows,
  and the decay over each chunk.
-/
module

public import proofs.«01_k».proof.Proof.MixLin

@[expose] public section

set_option maxRecDepth 8192

noncomputable section

namespace Cert.MixIn

open Idealize.ShloMosaic Idealize.ShloMosaic.TcCoe Cert.Kernel4Ideal Cert.Kernel4Ideal.Gen
open scoped BigOperators

section
variable (x0 : Vec Ideal S512x1024 .bf16) (x1 : Vec Ideal S1024x7184 .bf16) (x2 : Vec Ideal S1024x2048 .bf16)
  (x3 : Vec Ideal S128x512 .bf16) (x4 : Vec Ideal S1x512 .f32) (x5 : Vec Ideal S1x2048 .f32) (x6 x7 : Vec Ideal S1x1024 .f32)
  (x8 : Vec Ideal S8x128x128 .bf16) (x9 : Vec Ideal S128x1024 .f32) (x10 : Vec Ideal S1024x1024 .bf16)

/-- The projection the decay of row `i` is read from. -/
def rate (i c : Fin 512) : EReal :=
  lowRank (fun l => x0 (ix2 i l)) (fun r l => x1 (ix2 l (⟨5120 + r, by omega⟩ : Fin 7184)))
    (fun r => x3 (ix2 (⟨r, by omega⟩ : Fin 128) c)) (x4 (ix2 0 c))

/-- The same of the rows of chunk `n` of the block. -/
def rates (n : ℕ) (hn : n < 8) (c : Fin 512) (j : Fin 64) : EReal :=
  rate x0 x1 x3 x4 (⟨64 * n + j, by omega⟩ : Fin 512) c

/-- The kernel's array of these projections. -/
def pre : FVec Ideal S512x512 .f32 := k0_pay4 (View.ld x0 r0_0) (View.ld x1 r0_1) (View.ld x3 r0_3) (View.ld x4 r0_4)

theorem pre_apply (i c : Fin 512) : pre x0 x1 x3 x4 (ix2 i c) = rate x0 x1 x3 x4 i c := by
  unfold pre rate
  refine (pay4_apply _ _ _ _ i c).trans ?_
  rw [show View.ld (Val := Elt Ideal) (e' := .bf16) x0 r0_0 = x0 from ld_all x0 _,
    show View.ld (Val := Elt Ideal) (e' := .bf16) x3 r0_3 = x3 from ld_all x3 _,
    show View.ld (Val := Elt Ideal) (e' := .f32) x4 r0_4 = x4 from ld_all x4 _]
  refine congrArg (fun w => lowRank _ w _ _) (funext fun r => funext fun l => ?_)
  exact ld_cols x1 5120 _ l _ _ rfl

/-- The kernel's way to its running sums. -/
theorem sums_eq (z : FVec Ideal S512x512 .f32) (i : IVec S64x8x512 32) (hi : i = iota .tc S64x8x512 32 [1] iota_S64x8x512_d1_w32) :
    k0_pay28 (k0_pay20 i (k0_pay11 z) k0_pay12) (k0_pay21 i (k0_pay11 z) k0_pay12) (k0_pay22 i (k0_pay11 z) k0_pay12)
      (k0_pay23 i (k0_pay11 z) k0_pay12) (k0_pay24 i (k0_pay11 z) k0_pay12) (k0_pay25 i (k0_pay11 z) k0_pay12)
      (k0_pay26 i (k0_pay11 z) k0_pay12) (k0_pay27 i (k0_pay11 z) k0_pay12) = sumsOf z :=
  scan_eq (eights (dlog z)) i hi

theorem pre_sums (n : Fin 8) (p : Fin 64) (c : Fin 512) :
    sumsOf (pre x0 x1 x3 x4) (ix3 n p c) = (base : EReal) * chunk (rates x0 x1 x3 x4 n n.isLt c) p := by
  rw [sumsOf_apply]
  simp only [pre_apply]
  rfl

theorem proj_apply (i : Fin 512) (j : Fin 1024) :
    k0_pay9 (View.ld (Val := Elt Ideal) (e' := .bf16) x0 r0_0) (View.ld (Val := Elt Ideal) (e' := .bf16) x1 r0_9) (ix2 i j)
      = col x0 x1 i ⟨2048 + j, by omega⟩ :=
  (pay6_apply _ _ i j).trans (lin_cols x0 x1 2048 _ i j _ rfl)

/-- The queries decayed from the middle of their chunk. -/
theorem out13_apply (i j : Fin 512) : out0_13 x0 x1 x2 x3 x4 x5 x6 x7 x8 x9 x10 (ix2 i j)
    = qIn (col x0 x1 i ⟨2048 + j, by omega⟩) (rates x0 x1 x3 x4 (i / 64) (by omega) j) (i % 64) := by
  unfold_out out0_13
  canon_tiles p h using cover0_13 ..
  rw [ix2_of p i j h0 h1]
  refine (pay34_apply _ _ _ _ _ _ _ _ _ i j).trans ?_
  rw [sums_eq _ _ rfl, proj_apply]
  exact congrArg (scaled _ * ·) ((congrArg Ideal.exp2 ((congrArg₂ (· - ·) (pre_sums ..) (pre_sums ..)).trans (base_sub _ _))).trans (exp2_base _))

/-- The keys decayed to the middle of their chunk. -/
theorem out14_apply (i j : Fin 512) : out0_14 x0 x1 x2 x3 x4 x5 x6 x7 x8 x9 x10 (ix2 i j)
    = kIn (col x0 x1 i ⟨2560 + j, by omega⟩) (rates x0 x1 x3 x4 (i / 64) (by omega) j) (i % 64) := by
  unfold_out out0_14
  canon_tiles p h using cover0_14 ..
  rw [ix2_of p i j h0 h1]
  refine (pay35_apply _ _ _ _ _ _ _ _ _ i j).trans ?_
  rw [sums_eq _ _ rfl, proj_apply]
  exact congrArg₂ (· * ·) (congrArg (col x0 x1 i) (Fin.ext (Nat.add_assoc 2048 512 j).symm)) ((congrArg Ideal.exp2 ((congrArg₂ (· - ·) (pre_sums ..) (pre_sums ..)).trans (base_sub _ _))).trans (exp2_base _))

/-- The queries decayed from the start of their chunk. -/
theorem out15_apply (i j : Fin 512) : out0_15 x0 x1 x2 x3 x4 x5 x6 x7 x8 x9 x10 (ix2 i j)
    = qOut (col x0 x1 i ⟨2048 + j, by omega⟩) (rates x0 x1 x3 x4 (i / 64) (by omega) j) (i % 64) := by
  unfold_out out0_15
  canon_tiles p h using cover0_15 ..
  rw [ix2_of p i j h0 h1]
  refine (pay36_apply _ _ _ _ _ _ _ _ _ i j).trans ?_
  rw [sums_eq _ _ rfl, proj_apply]
  exact congrArg (scaled _ * ·) ((congrArg Ideal.exp2 (pre_sums ..)).trans (exp2_base _))

/-- The keys decayed to the end of their chunk. -/
theorem out16_apply (i j : Fin 512) : out0_16 x0 x1 x2 x3 x4 x5 x6 x7 x8 x9 x10 (ix2 i j)
    = kEnd (col x0 x1 i ⟨2560 + j, by omega⟩) (rates x0 x1 x3 x4 (i / 64) (by omega) j) (i % 64) := by
  unfold_out out0_16
  canon_tiles p h using cover0_16 ..
  rw [ix2_of p i j h0 h1]
  refine (pay37_apply _ _ _ _ _ _ _ _ _ i j).trans ?_
  rw [sums_eq _ _ rfl, proj_apply]
  exact congrArg₂ (· * ·) (congrArg (col x0 x1 i) (Fin.ext (Nat.add_assoc 2048 512 j).symm)) ((congrArg Ideal.exp2 ((congrArg₂ (· - ·) (pre_sums ..) (pre_sums ..)).trans (base_sub _ _))).trans (exp2_base _))

/-- The decay over each chunk. -/
theorem out17_apply (n : Fin 8) (j : Fin 512) : out0_17 x0 x1 x2 x3 x4 x5 x6 x7 x8 x9 x10 (ix2 n j)
    = decayed (rates x0 x1 x3 x4 n n.isLt j) := by
  unfold_out out0_17
  canon_tiles p h using cover0_17 ..
  rw [ix2_of p n j h0 h1]
  refine (pay31_apply _ _ _ _ _ _ _ _ n j).trans ?_
  rw [sums_eq _ _ rfl]
  exact (congrArg Ideal.exp2 (pre_sums ..)).trans (exp2_base _)

end

end Cert.MixIn

end
-- ==== Proof.MixSpatial.lean ====
/-
  The kernel's spatial gating of a block of 512 rows: four chunks of 128 rows, eight groups of 128 columns, each group with its own
  128 by 128 weights.
-/
module

public import proofs.«01_k».proof.Proof.MixLin

@[expose] public section

set_option maxRecDepth 8192

noncomputable section

namespace Cert.MixIn

open Idealize.ShloMosaic Idealize.ShloMosaic.TcCoe Cert.Kernel4Ideal Cert.Kernel4Ideal.Gen
open scoped BigOperators

theorem slices (n : Fin 4) (g : Fin 8) : S512x1024.Slices ![128 * (n : ℕ), 128 * (g : ℕ)] S128x128 := by
  revert n g
  decide

/-- The weighted rows of chunk `n`, of the columns of group `g`. -/
def piece (v : FVec Ideal S512x1024 .bf16) (w : Vec Ideal S1x128x128 .bf16) (n : Fin 4) (g : Fin 8) : FVec Ideal S128x128 .f32 :=
  matmul dot_S128x128_S128x128_S128x128_1_0_0_1_n_n none (shapeCast S128x128 w shapeCasts_S1x128x128_S128x128 : FVec Ideal S128x128 .bf16)
    (extractStridedSlice S128x128 ![128 * (n : ℕ), 128 * (g : ℕ)] v (slices n g)) (constant S128x128 .f32 0x00000000#32)

theorem piece_apply (v : FVec Ideal S512x1024 .bf16) (w : Vec Ideal S1x128x128 .bf16) (n : Fin 4) (g : Fin 8) (i j : Fin 128) :
    piece v w n g (ix2 i j)
      = ∑ l : Fin 128, w (ix3 0 i l) * v (ix2 (⟨128 * n + l, by omega⟩ : Fin 512) (⟨128 * g + j, by omega⟩ : Fin 1024)) := by
  pointwise! [piece]

/-- Eight groups of columns side by side. -/
def groups (p : Fin 8 → FVec Ideal S128x128 .f32) : FVec Ideal S128x1024 .f32 :=
  concatenate S128x1024 1 [⟨S128x128, p 0⟩, ⟨S128x128, p 1⟩, ⟨S128x128, p 2⟩, ⟨S128x128, p 3⟩, ⟨S128x128, p 4⟩, ⟨S128x128, p 5⟩, ⟨S128x128, p 6⟩, ⟨S128x128, p 7⟩] concatenates_S128x128_S128x128_S128x128_S128x128_S128x128_S128x128_S128x128_S128x128_S128x1024_d1

theorem groups_apply (p : Fin 8 → FVec Ideal S128x128 .f32) (i : Fin 128) (g : Fin 8) (j : Fin 128) (q : Fin 1024)
    (hq : (q : ℕ) = 128 * g + j) : groups p (ix2 i q) = p g (ix2 i j) := by
  pointwise! [groups]
  have hg := g.isLt
  have hj := j.isLt
  split_ifs <;> exact congrArg₂ (fun (a : Fin 8) (b : Fin 128) => p a (ix2 i b)) (Fin.ext (by simp only [Fin.isValue, Fin.coe_ofNat_eq_mod]; omega)) (Fin.ext (by simp only [Fin.isValue]; omega))

/-- Four chunks of rows one under the other. -/
def chunks (p : Fin 4 → FVec Ideal S128x1024 .f32) : FVec Ideal S512x1024 .f32 :=
  concatenate S512x1024 0 [⟨S128x1024, p 0⟩, ⟨S128x1024, p 1⟩, ⟨S128x1024, p 2⟩, ⟨S128x1024, p 3⟩] concatenates_S128x1024_S128x1024_S128x1024_S128x1024_S512x1024_d0

theorem chunks_apply (p : Fin 4 → FVec Ideal S128x1024 .f32) (n : Fin 4) (i : Fin 128) (j : Fin 1024) (r : Fin 512)
    (hr : (r : ℕ) = 128 * n + i) : chunks p (ix2 r j) = p n (ix2 i j) := by
  pointwise! [chunks]
  have hn := n.isLt
  have hi := i.isLt
  split_ifs <;> exact congrArg₂ (fun (a : Fin 4) (b : Fin 128) => p a (ix2 b j)) (Fin.ext (by simp only [Fin.isValue, Fin.coe_ofNat_eq_mod]; omega)) (Fin.ext (by simp only [Fin.isValue]; omega))

/-- The spatial gating of a block. -/
def mixed (v : FVec Ideal S512x1024 .bf16) (w : Fin 8 → Vec Ideal S1x128x128 .bf16) (b : Vec Ideal S128x1024 .f32) :
    FVec Ideal S512x1024 .f32 :=
  chunks fun n => addf (groups fun g => piece v (w g) n g) (shapeCast S128x1024 b shapeCasts_S128x1024_S128x1024)

theorem mixed_apply (v : FVec Ideal S512x1024 .bf16) (w : Fin 8 → Vec Ideal S1x128x128 .bf16) (b : Vec Ideal S128x1024 .f32)
    (r : Fin 512) (q : Fin 1024) : mixed v w b (ix2 r q)
      = (∑ l : Fin 128, w (⟨q / 128, by omega⟩ : Fin 8) (ix3 0 (⟨r % 128, by omega⟩ : Fin 128) l)
          * v (ix2 (⟨128 * (r / 128) + l, by omega⟩ : Fin 512) q)) + b (ix2 (⟨r % 128, by omega⟩ : Fin 128) q) := by
  unfold mixed
  rw [chunks_apply _ ⟨r / 128, by omega⟩ ⟨r % 128, by omega⟩ q r (Nat.div_add_mod _ _).symm]
  pointwise! []
  rw [groups_apply _ _ ⟨q / 128, by omega⟩ ⟨q % 128, by omega⟩ q (Nat.div_add_mod _ _).symm, piece_apply]
  refine congrArg (· + _) (Finset.sum_congr rfl fun l _ => ?_)
  exact congrArg (fun c => _ * v (ix2 _ c)) (Fin.ext (Nat.div_add_mod _ _))

/-- The normalized gating operand. -/
theorem pay39_apply (z : FVec Ideal S512x1024 .f32) (g b : Vec Ideal S1x1024 .f32) (i : Fin 512) (j : Fin 1024) :
    k0_pay39 z k0_pay38 g b (ix2 i j)
      = layerNorm (fun l => gelu (z (ix2 i l))) (fun l => g (ix2 0 l)) (fun l => b (ix2 0 l)) j := by
  unfold layerNorm mean gelu
  pointwise! [k0_pay39, k0_pay38]

/-- The last chunk's bias and what follows it. -/
def tail (t : FVec Ideal S512x2048 .f32) (z : FVec Ideal S512x1024 .f32) (s : FVec Ideal S512x1024 .f32)
    (w : Vec Ideal S1024x1024 .bf16) : FVec Ideal S512x1024 .bf16 :=
  truncf .bf16 (mulf (extractStridedSlice S512x1024 ![0, 0] t slices_S512x2048_o0_0_S512x1024)
    (matmul dot_S512x1024_S1024x1024_S512x1024_1_0_0_1_n_n none (truncf .bf16
      (mulf (mulf (mulf (broadcast S512x1024 (Scalar.ofBits .f32 0x3F000000#32)) z)
        (addf (broadcast S512x1024 (Scalar.ofBits .f32 0x3F800000#32)) (erf (mulf z (broadcast S512x1024 (Scalar.ofBits .f32 0x3F3504F3#32)))))) s)
        bitsLt_bf16_f32) (shapeCast S1024x1024 w shapeCasts_S1024x1024_S1024x1024 : FVec Ideal S1024x1024 .bf16) (constant S512x1024 .f32 0x00000000#32))) bitsLt_bf16_f32

theorem tail_apply (t : FVec Ideal S512x2048 .f32) (z : FVec Ideal S512x1024 .f32) (s : FVec Ideal S512x1024 .f32)
    (w : Vec Ideal S1024x1024 .bf16) (i : Fin 512) (j : Fin 1024) : tail t z s w (ix2 i j)
      = t (ix2 i (⟨j, by omega⟩ : Fin 2048)) * lin (fun l => gelu (z (ix2 i l)) * s (ix2 i l)) (fun l => w (ix2 l j)) := by
  unfold lin gelu
  pointwise! [tail]

/-- The weights of group `g`. -/
def weights (x8 : Vec Ideal S8x128x128 .bf16) : Fin 8 → Vec Ideal S1x128x128 .bf16 :=
  ![View.ld x8 r0_14, View.ld x8 r0_15, View.ld x8 r0_16, View.ld x8 r0_17, View.ld x8 r0_18, View.ld x8 r0_19, View.ld x8 r0_20,
    View.ld x8 r0_21]

theorem ld_weights (x8 : Vec Ideal S8x128x128 .bf16) (o : ℕ) (inb) (g : Fin 8) (i l : Fin 128) (h : (g : ℕ) = o) :
    View.ld (Val := Elt Ideal) (e' := .bf16) x8 (Rect.unit (s := S8x128x128) ![o, 0, 0] S1x128x128.size inb) (ix3 0 i l) = x8 (ix3 g i l) := by
  refine View.ld_unit_apply_of (Val := Elt Ideal) x8 _ _ _ (ix3 0 i l) (ix3 g i l) fun b => ?_
  match b with
  | ⟨0, _⟩ => exact h
  | ⟨1, _⟩ => show (i : ℕ) = 0 + i; omega
  | ⟨2, _⟩ => show (l : ℕ) = 0 + l; omega

theorem weights_apply (x8 : Vec Ideal S8x128x128 .bf16) (g : Fin 8) (i l : Fin 128) : weights x8 g (ix3 0 i l) = x8 (ix3 g i l) := by
  fin_cases g <;> exact ld_weights x8 _ _ _ i l rfl

section
variable (x0 : Vec Ideal S512x1024 .bf16) (x1 : Vec Ideal S1024x7184 .bf16) (x2 : Vec Ideal S1024x2048 .bf16)
  (x3 : Vec Ideal S128x512 .bf16) (x4 : Vec Ideal S1x512 .f32) (x5 : Vec Ideal S1x2048 .f32) (x6 x7 : Vec Ideal S1x1024 .f32)
  (x8 : Vec Ideal S8x128x128 .bf16) (x9 : Vec Ideal S128x1024 .f32) (x10 : Vec Ideal S1024x1024 .bf16)

/-- The gating operand of a row of the block. -/
def gating (i : Fin 512) (j : Fin 1024) : EReal :=
  layerNorm (fun l => gelu (col x0 x1 i ⟨1024 + l, by omega⟩)) (fun l => x6 (ix2 0 l)) (fun l => x7 (ix2 0 l)) j

theorem gating_eq (i : Fin 512) (j : Fin 1024) :
    k0_pay39 (k0_pay6 (View.ld (Val := Elt Ideal) (e' := .bf16) x0 r0_0) (View.ld (Val := Elt Ideal) (e' := .bf16) x1 r0_6)) k0_pay38
      (View.ld (Val := Elt Ideal) (e' := .f32) x6 r0_13) (View.ld (Val := Elt Ideal) (e' := .f32) x7 r0_13) (ix2 i j)
      = gating x0 x1 x6 x7 i j := by
  refine (pay39_apply _ _ _ i j).trans ?_
  rw [show View.ld (Val := Elt Ideal) (e' := .f32) x6 r0_13 = x6 from ld_all x6 _,
    show View.ld (Val := Elt Ideal) (e' := .f32) x7 r0_13 = x7 from ld_all x7 _]
  refine congrArg (fun f => layerNorm f _ _ j) (funext fun l => congrArg gelu ?_)
  exact (pay6_apply _ _ i l).trans (lin_cols x0 x1 1024 _ i l _ rfl)

/-- The spatial gating of row `i` of the block at column `q`. -/
def spatialAt (i : Fin 512) (q : Fin 1024) : EReal :=
  (∑ l : Fin 128, x8 (ix3 (⟨q / 128, by omega⟩ : Fin 8) (⟨i % 128, by omega⟩ : Fin 128) l)
      * gating x0 x1 x6 x7 (⟨128 * (i / 128) + l, by omega⟩ : Fin 512) q) + x9 (ix2 (⟨i % 128, by omega⟩ : Fin 128) q)

/-- The block of the first mixer's gated result. -/
theorem out11_apply (i : Fin 512) (j : Fin 1024) : out0_11 x0 x1 x2 x3 x4 x5 x6 x7 x8 x9 x10 (ix2 i j)
    = gate (fun l => x0 (ix2 i l)) (fun l => x2 (ix2 l (⟨j, by omega⟩ : Fin 2048))) (x5 (ix2 0 (⟨j, by omega⟩ : Fin 2048)))
      * lin (fun q => gelu (col x0 x1 i ⟨q, by omega⟩) * spatialAt x0 x1 x6 x7 x8 x9 i q) (fun q => x10 (ix2 q j)) := by
  unfold_out out0_11
  canon_tiles p h using cover0_11 ..
  rw [ix2_of p i j h0 h1]
  refine Eq.trans (show _ = tail (k0_pay7 (View.ld x0 r0_0) (View.ld x2 r0_7) (View.ld x5 r0_8))
    (k0_pay10 (View.ld x0 r0_0) (View.ld x1 r0_10)) (mixed (k0_pay39 (k0_pay6 (View.ld x0 r0_0) (View.ld x1 r0_6)) k0_pay38
      (View.ld x6 r0_13) (View.ld x7 r0_13)) (weights x8) (View.ld x9 r0_22)) (View.ld x10 r0_23) (ix2 i j) from rfl) ?_
  refine (tail_apply _ _ _ _ i j).trans (congrArg₂ (· * ·) ((pay7_apply _ _ _ i _).trans (by rw [ld_all, ld_all, ld_all]))
    (congrArg₂ lin (funext fun q => congrArg₂ (· * ·) (congrArg gelu ?_) ?_)
      (funext fun q => congrFun (show View.ld (Val := Elt Ideal) (e' := .bf16) x10 r0_23 = x10 from ld_all x10 _) _)))
  · exact (pay6_apply _ _ i q).trans (lin_cols x0 x1 0 _ i q _ (Nat.zero_add _).symm)
  · refine (mixed_apply _ _ _ i q).trans (congrArg₂ (· + ·) (Finset.sum_congr rfl fun l _ => congrArg₂ (· * ·) (weights_apply x8 _ _ l) ?_) ?_)
    · exact gating_eq x0 x1 x6 x7 _ q
    · exact congrFun (show View.ld (Val := Elt Ideal) (e' := .f32) x9 r0_22 = x9 from ld_all x9 _) _

end

end Cert.MixIn

end
-- ==== Proof.MixBlocks.lean ====
/-
  The blocks the mixers' input kernel reads, as functions of its arguments: rows from `512 * t` on, and the weights, some of them
  prepared on the host (the gates' columns cut out, the decay's projection continued by zero rows, the spatial weights masked, the
  spatial bias repeated over each group's columns).
-/
module

public import proofs.«01_k».proof.Proof.MixHost

@[expose] public section

set_option maxRecDepth 8192

noncomputable section

namespace Cert.MixIn

open Idealize.ShloMosaic Idealize.ShloMosaic.TcCoe Cert.Kernel4Ideal Cert.Kernel4Ideal.Gen

theorem ix_in : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0, 0] ∧ win0_9.index t = ![0, 0] ∧ win0_10.index t = ![0, 0] :=
  (by decide +kernel : ∀ t : Fin grid0.N, _)

theorem t_lt (t : Fin cfg0.N) : t.val < 128 := lt_of_lt_of_eq t.isLt (show cfg0.N = 128 from N_0)

variable (m : (ℓ : Loc nD τ sig) → Buf (Elt Ideal) ℓ) (c : Dev nD)

variable (t : Fin cfg0.N)

theorem blk0 (i : Fin 512) (l : Fin 1024) (r : Fin 65536) (h : (r : ℕ) = t.val * 512 + i) :
    iblk m c 0 t (ix2 i l) = (args m c).h r l := by
  have ht := t_lt t
  rw [show r = ⟨t.val * 512 + i.val, by omega⟩ from Fin.ext h]
  unfold args
  blk_ext! [iblk, V, (ix_in t).1]

theorem blk1 (l : Fin 1024) (q : Fin 7184) : iblk m c 1 t (ix2 l q) = (args m c).w l q := by
  refine Eq.trans (show _ = V m c main_v1 (ix2 l q) from ?_) (proj_at m c l q)
  blk_ext [iblk, (ix_in t).2.1]

theorem blk2 (l : Fin 1024) (q : Fin 2048) : iblk m c 2 t (ix2 l q) = (args m c).w l (⟨5136 + q, by omega⟩ : Fin 7184) := by
  refine Eq.trans (show _ = V m c main_v4 (ix2 l q) from ?_) (gates_at m c l q)
  blk_ext [iblk, (ix_in t).2.2.1]

theorem blk3 (k : Fin 16) (j : Fin 512) : iblk m c 3 t (ix2 (⟨k, by omega⟩ : Fin 128) j) = (args m c).wa k j := by
  refine Eq.trans (show _ = V m c main_v23 (ix2 (⟨k, by omega⟩ : Fin 128) j) from ?_) (alpha_at m c k j)
  blk_ext [iblk, (ix_in t).2.2.2.1]

theorem blk4 (j : Fin 512) : iblk m c 4 t (ix2 (0 : Fin 1) j) = (args m c).ba j := by
  refine Eq.trans (show _ = V m c main_v25 (ix2 (0 : Fin 1) j) from ?_) (biasA_at m c j)
  blk_ext [iblk, (ix_in t).2.2.2.2.1]

theorem blk5 (q : Fin 2048) : iblk m c 5 t (ix2 (0 : Fin 1) q) = (args m c).bg q := by
  refine Eq.trans (show _ = V m c main_v6 (ix2 (0 : Fin 1) q) from ?_) (biasG_at m c q)
  blk_ext [iblk, (ix_in t).2.2.2.2.2.1]

theorem blk6 (l : Fin 1024) : iblk m c 6 t (ix2 (0 : Fin 1) l) = (args m c).lg l := by
  refine Eq.trans (show _ = V m c main_v8 (ix2 (0 : Fin 1) l) from ?_) (gain_at m c l)
  blk_ext [iblk, (ix_in t).2.2.2.2.2.2.1]

theorem blk7 (l : Fin 1024) : iblk m c 7 t (ix2 (0 : Fin 1) l) = (args m c).lb l := by
  refine Eq.trans (show _ = V m c main_v10 (ix2 (0 : Fin 1) l) from ?_) (bias_at m c l)
  blk_ext [iblk, (ix_in t).2.2.2.2.2.2.2.1]

theorem blk8 (g : Fin 8) (i l : Fin 128) : iblk m c 8 t (ix3 g i l) = if l ≤ i then (args m c).ws g i l else 0 := by
  refine Eq.trans (show _ = V m c main_v14 (ix3 g i l) from ?_) (spatial_at m c g i l)
  blk_ext [iblk, (ix_in t).2.2.2.2.2.2.2.2.1]

theorem blk9 (i : Fin 128) (q : Fin 1024) : iblk m c 9 t (ix2 i q) = (args m c).bs (⟨q / 128, by omega⟩ : Fin 8) i := by
  refine Eq.trans (show _ = V m c main_v18 (ix2 i q) from ?_) (biasS_at m c i q)
  blk_ext [iblk, (ix_in t).2.2.2.2.2.2.2.2.2.1]

theorem blk10 (q j : Fin 1024) : iblk m c 10 t (ix2 q j) = (args m c).wp q j := by
  refine Eq.trans (show _ = V m c main_v20 (ix2 q j) from ?_) (projA_at m c q j)
  blk_ext [iblk, (ix_in t).2.2.2.2.2.2.2.2.2.2]

end Cert.MixIn

end
-- ==== Proof.MixPoint.lean ====
/-
  The mixers' input kernel's blocks as rows of its nine results: grid point `t` writes the rows from `512 * t` on, and of the decay
  over the chunks the rows from `8 * t` on.
-/
module

public import proofs.«01_k».proof.Proof.MixOut
public import proofs.«01_k».proof.Proof.MixSpatial
public import proofs.«01_k».proof.Proof.MixBlocks

@[expose] public section

set_option maxRecDepth 8192

noncomputable section

namespace Cert.MixIn

open Idealize.ShloMosaic Idealize.ShloMosaic.TcCoe Cert.Kernel4Ideal Cert.Kernel4Ideal.Gen
open scoped BigOperators

variable (m : (ℓ : Loc nD τ sig) → Buf (Elt Ideal) ℓ) (c : Dev nD) (t : Fin cfg0.N)

theorem col_eq (i : Fin 512) (q : Fin 7184) (r : Fin 65536) (h : (r : ℕ) = t.val * 512 + i) :
    col (iblk m c 0 t) (iblk m c 1 t) i q = (args m c).proj r q :=
  congrArg₂ lin (funext fun l => blk0 m c t i l r h) (funext fun l => blk1 m c t l q)

theorem rate_eq (i j : Fin 512) (r : Fin 65536) (h : (r : ℕ) = t.val * 512 + i) :
    rate (iblk m c 0 t) (iblk m c 1 t) (iblk m c 3 t) (iblk m c 4 t) i j = (args m c).rate r j := by
  unfold rate Args.rate
  rw [funext fun l => blk0 m c t i l r h, funext fun k : Fin 16 => blk3 m c t k j, blk4 m c t j]
  exact congrArg (fun w => lowRank _ w _ _) (funext fun k => funext fun l => blk1 m c t l _)

theorem rates_eq (n : ℕ) (hn : n < 8) (j : Fin 512) (k : Fin 1024) (h : (k : ℕ) = t.val * 8 + n) :
    rates (iblk m c 0 t) (iblk m c 1 t) (iblk m c 3 t) (iblk m c 4 t) n hn j = (args m c).rates k j :=
  funext fun l => rate_eq m c t _ j _ (by show 64 * (k : ℕ) + (l : ℕ) = t.val * 512 + (64 * n + l); omega)

theorem gate_eq (i : Fin 512) (q : Fin 2048) (r : Fin 65536) (h : (r : ℕ) = t.val * 512 + i) :
    gate (fun l => iblk m c 0 t (ix2 i l)) (fun l => iblk m c 2 t (ix2 l q)) (iblk m c 5 t (ix2 (0 : Fin 1) q)) = (args m c).gates r q := by
  unfold Args.gates
  rw [funext fun l => blk0 m c t i l r h, funext fun l => blk2 m c t l q, blk5 m c t q]

theorem gating_rows (i : Fin 512) (j : Fin 1024) (r : Fin 65536) (h : (r : ℕ) = t.val * 512 + i) :
    gating (iblk m c 0 t) (iblk m c 1 t) (iblk m c 6 t) (iblk m c 7 t) i j = (args m c).gating r j := by
  unfold gating Args.gating
  rw [funext fun l => blk6 m c t l, funext fun l => blk7 m c t l]
  exact congrArg (fun x => layerNorm x _ _ j) (funext fun l => congrArg gelu (col_eq m c t i _ r h))

theorem spatial_rows (i : Fin 512) (q : Fin 1024) (r : Fin 65536) (h : (r : ℕ) = t.val * 512 + i) :
    spatialAt (iblk m c 0 t) (iblk m c 1 t) (iblk m c 6 t) (iblk m c 7 t) (iblk m c 8 t) (iblk m c 9 t) i q
      = (args m c).spatialAt r q := by
  unfold spatialAt Args.spatialAt spatial
  have hm : (⟨(i : ℕ) % 128, by omega⟩ : Fin 128) = ⟨(r : ℕ) % 128, by omega⟩ := Fin.ext (by show (i : ℕ) % 128 = (r : ℕ) % 128; omega)
  rw [hm, blk9 m c t]
  refine congrArg (· + _) (Finset.sum_congr rfl fun l _ => congrArg₂ (· * ·) (blk8 m c t _ _ l) (gating_rows m c t _ q _ ?_))
  show 128 * ((r : ℕ) / 128) + (l : ℕ) = t.val * 512 + (128 * ((i : ℕ) / 128) + l)
  omega

theorem chunk_of (i : Fin 512) (r : Fin 65536) (h : (r : ℕ) = t.val * 512 + i) : (Args.of r : ℕ) = t.val * 8 + (i : ℕ) / 64 := by
  show (r : ℕ) / 64 = _
  omega

theorem row_of (i : Fin 512) (r : Fin 65536) (h : (r : ℕ) = t.val * 512 + i) : (i : ℕ) % 64 = (r : ℕ) % 64 := by omega

section
variable (i : Fin 512) (r : Fin 65536) (h : (r : ℕ) = t.val * 512 + i)
include h

theorem mixed_point (j : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j)
      = (args m c).mixed r j :=
  (out11_apply _ _ _ _ _ _ _ _ _ _ _ i j).trans (congrArg₂ (· * ·) (gate_eq m c t i _ r h)
    (congrArg₂ lin (funext fun q => congrArg₂ (· * ·) (congrArg gelu (col_eq m c t i _ r h)) (spatial_rows m c t i q r h))
      (funext fun q => blk10 m c t q j)))

theorem gateB_point (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j)
      = (args m c).gateB r j :=
  (out12_apply _ _ _ _ _ _ _ _ _ _ _ i j).trans (gate_eq m c t i _ r h)

theorem queryIn_point (j : Fin 512) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j)
      = (args m c).queryIn r j :=
  (out13_apply _ _ _ _ _ _ _ _ _ _ _ i j).trans (by
    rw [col_eq m c t i _ r h, rates_eq m c t _ _ j _ (chunk_of t i r h), row_of t i r h]
    rfl)

theorem keyIn_point (j : Fin 512) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j)
      = (args m c).keyIn r j :=
  (out14_apply _ _ _ _ _ _ _ _ _ _ _ i j).trans (by
    rw [col_eq m c t i _ r h, rates_eq m c t _ _ j _ (chunk_of t i r h), row_of t i r h]
    rfl)

theorem queryOut_point (j : Fin 512) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j)
      = (args m c).queryOut r j :=
  (out15_apply _ _ _ _ _ _ _ _ _ _ _ i j).trans (by
    rw [col_eq m c t i _ r h, rates_eq m c t _ _ j _ (chunk_of t i r h), row_of t i r h]
    rfl)

theorem keyEnd_point (j : Fin 512) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j)
      = (args m c).keyEnd r j :=
  (out16_apply _ _ _ _ _ _ _ _ _ _ _ i j).trans (by
    rw [col_eq m c t i _ r h, rates_eq m c t _ _ j _ (chunk_of t i r h), row_of t i r h]
    rfl)

theorem value_point (j : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j)
      = (args m c).value r j :=
  (out18_apply _ _ _ _ _ _ _ _ _ _ _ i j).trans (col_eq m c t i _ r h)

theorem readOut_point (j : Fin 1024) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j)
      = (args m c).readOut r j :=
  (out19_apply _ _ _ _ _ _ _ _ _ _ _ i j).trans (congrArg gated (col_eq m c t i _ r h))

end

theorem decay_point (n : Fin 8) (j : Fin 512) (k : Fin 1024) (h : (k : ℕ) = t.val * 8 + n) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 n j)
      = (args m c).decay k j :=
  (out17_apply _ _ _ _ _ _ _ _ _ _ _ n j).trans (congrArg decayed (rates_eq m c t _ _ j _ h))

end Cert.MixIn

end
-- ==== Proof.MixArray.lean ====
/-
  The mixers' input kernel's nine arrays after the run.
-/
module

public import proofs.«01_k».proof.Proof.MixPoint

@[expose] public section

set_option maxRecDepth 8192

noncomputable section

namespace Cert.MixIn

open Idealize.ShloMosaic Idealize.ShloMosaic.TcCoe Cert.Kernel4Ideal Cert.Kernel4Ideal.Gen

theorem ix_out : ∀ t : Fin cfg0.N, (win0_11.index t = ![t.val, 0] ∧ (cfg0.win 11).flush t = true)
    ∧ (win0_12.index t = ![t.val, 0] ∧ (cfg0.win 12).flush t = true)
    ∧ (win0_13.index t = ![t.val, 0] ∧ (cfg0.win 13).flush t = true)
    ∧ (win0_14.index t = ![t.val, 0] ∧ (cfg0.win 14).flush t = true)
    ∧ (win0_15.index t = ![t.val, 0] ∧ (cfg0.win 15).flush t = true)
    ∧ (win0_16.index t = ![t.val, 0] ∧ (cfg0.win 16).flush t = true)
    ∧ (win0_17.index t = ![t.val, 0] ∧ (cfg0.win 17).flush t = true)
    ∧ (win0_18.index t = ![t.val, 0] ∧ (cfg0.win 18).flush t = true)
    ∧ (win0_19.index t = ![t.val, 0] ∧ (cfg0.win 19).flush t = true) := (by decide +kernel : ∀ t : Fin grid0.N, _)

/-- An entry of a block whose rows are those of `f` from `t * b` on. -/
theorem block_entry {b n R : ℕ} (f : Fin R → Fin n → EReal) (t : ℕ) (o : (⟨2, ![b, n]⟩ : Shape).Idx → EReal)
    (h : ∀ (i : Fin b) (j : Fin n) (r : Fin R), (r : ℕ) = t * b + i → o (ix2 i j) = f r j) (y : (⟨2, ![b, n]⟩ : Shape).Idx)
    (r : Fin R) (q : Fin n) (w0 w1 : ℕ) (e0 : w0 = t) (e1 : w1 = 0) (hr : (r : ℕ) = w0 * b + 1 * (y 0 : ℕ))
    (hq : (q : ℕ) = w1 * n + 1 * (y 1 : ℕ)) : o y = f r q := by
  rw [e0, Nat.one_mul] at hr
  rw [e1, Nat.one_mul, Nat.zero_mul, Nat.zero_add] at hq
  refine (congrArg o (eq_ix2 y)).trans ((h (y 0) (y 1) r hr).trans (congrArg (f r) (Fin.ext hq.symm)))

/-- Entry `i` lies in the block of `b` rows numbered `i 0 / b`. -/
theorem in_block {b n R : ℕ} (hb : 0 < b) (i : (⟨2, ![R, n]⟩ : Shape).Idx) (ix : Fin 2 → ℕ) (t : ℕ) (e : ix = ![t, 0]) (ht : t = (i 0 : ℕ) / b) :
    ∀ a : Fin 2, ix a * (![b, n] : Fin 2 → ℕ) a ≤ (i a : ℕ) ∧ (i a : ℕ) < ix a * (![b, n] : Fin 2 → ℕ) a + (![b, n] : Fin 2 → ℕ) a := by
  intro a
  subst e ht
  match a with
  | ⟨0, _⟩ =>
    show (i 0 : ℕ) / b * b ≤ (i 0 : ℕ) ∧ (i 0 : ℕ) < (i 0 : ℕ) / b * b + b
    exact ⟨Nat.div_mul_le_self _ _, Nat.lt_div_mul_add hb⟩
  | ⟨1, _⟩ =>
    show 0 * n ≤ (i 1 : ℕ) ∧ (i 1 : ℕ) < 0 * n + n
    have := (i 1).isLt
    exact ⟨by omega, by rw [Nat.zero_mul, Nat.zero_add]; exact this⟩

variable (m : (ℓ : Loc nD τ sig) → Buf (Elt Ideal) ℓ) (c : Dev nD)

/-- The array of `mixed`. -/
def mixedOf : Buf (Elt Ideal) ((c : Thread nD τ).loc main_v28_0) := fun i : S65536x1024.Idx => (args m c).mixed (i 0) (i 1)

theorem mixed_flushed (t : Fin cfg0.N) : (dats m 0 c).flushed 11 t = ((cfg0.win 11).blk t).view.read (Elt Ideal) (mixedOf m c) := by
  rw [Value.flushed11]
  funext y
  exact block_entry (args m c).mixed t.val _ (fun i j r h => mixed_point m c t i r h j)
    ((cfg0.win 11).xinj (grid0.coords t) y) (((cfg0.win 11).blk t).view.emb y 0) (((cfg0.win 11).blk t).view.emb y 1) _ _
    (congrFun (ix_out _).1.1 0) (congrFun (ix_out _).1.1 1) rfl rfl

theorem mixed_covered (i : S65536x1024.Idx) : ∃ t : Fin cfg0.N, (cfg0.win 11).flush t = true ∧ i ∈ ((cfg0.win 11).blk t).view.set := by
  have i0 : (i 0 : ℕ) < 65536 := (i 0).isLt
  have hN : (i 0 : ℕ) / 512 < cfg0.N := lt_of_lt_of_eq (by omega) (show cfg0.N = 128 from N_0).symm
  refine ⟨⟨_, hN⟩, (ix_out _).1.2, ?_⟩
  show i ∈ ((View.whole main_v28_0).slice (win0_11.rect ⟨_, hN⟩)).set
  rw [View.set_slice_whole, Rect.mem_set_unit]
  exact in_block (by decide) i _ _ (ix_out _).1.1 rfl

theorem mixed_eq : (dats m 0 c).arrAt 11 cfg0.N = mixedOf m c :=
  (dats m 0 c).arrAt_eq_of_cover 11 _ (fun t _ => mixed_flushed m c t) mixed_covered

/-- The array of `gateB`. -/
def gateBOf : Buf (Elt Ideal) ((c : Thread nD τ).loc main_v28_1) := fun i : S65536x1024.Idx => (args m c).gateB (i 0) (i 1)

theorem gateB_flushed (t : Fin cfg0.N) : (dats m 0 c).flushed 12 t = ((cfg0.win 12).blk t).view.read (Elt Ideal) (gateBOf m c) := by
  rw [Value.flushed12]
  funext y
  exact block_entry (args m c).gateB t.val _ (fun i j r h => gateB_point m c t i r h j)
    ((cfg0.win 12).xinj (grid0.coords t) y) (((cfg0.win 12).blk t).view.emb y 0) (((cfg0.win 12).blk t).view.emb y 1) _ _
    (congrFun (ix_out _).2.1.1 0) (congrFun (ix_out _).2.1.1 1) rfl rfl

theorem gateB_covered (i : S65536x1024.Idx) : ∃ t : Fin cfg0.N, (cfg0.win 12).flush t = true ∧ i ∈ ((cfg0.win 12).blk t).view.set := by
  have i0 : (i 0 : ℕ) < 65536 := (i 0).isLt
  have hN : (i 0 : ℕ) / 512 < cfg0.N := lt_of_lt_of_eq (by omega) (show cfg0.N = 128 from N_0).symm
  refine ⟨⟨_, hN⟩, (ix_out _).2.1.2, ?_⟩
  show i ∈ ((View.whole main_v28_1).slice (win0_12.rect ⟨_, hN⟩)).set
  rw [View.set_slice_whole, Rect.mem_set_unit]
  exact in_block (by decide) i _ _ (ix_out _).2.1.1 rfl

theorem gateB_eq : (dats m 0 c).arrAt 12 cfg0.N = gateBOf m c :=
  (dats m 0 c).arrAt_eq_of_cover 12 _ (fun t _ => gateB_flushed m c t) gateB_covered

/-- The array of `queryIn`. -/
def queryInOf : Buf (Elt Ideal) ((c : Thread nD τ).loc main_v28_2) := fun i : S65536x512.Idx => (args m c).queryIn (i 0) (i 1)

theorem queryIn_flushed (t : Fin cfg0.N) : (dats m 0 c).flushed 13 t = ((cfg0.win 13).blk t).view.read (Elt Ideal) (queryInOf m c) := by
  rw [Value.flushed13]
  funext y
  exact block_entry (args m c).queryIn t.val _ (fun i j r h => queryIn_point m c t i r h j)
    ((cfg0.win 13).xinj (grid0.coords t) y) (((cfg0.win 13).blk t).view.emb y 0) (((cfg0.win 13).blk t).view.emb y 1) _ _
    (congrFun (ix_out _).2.2.1.1 0) (congrFun (ix_out _).2.2.1.1 1) rfl rfl

theorem queryIn_covered (i : S65536x512.Idx) : ∃ t : Fin cfg0.N, (cfg0.win 13).flush t = true ∧ i ∈ ((cfg0.win 13).blk t).view.set := by
  have i0 : (i 0 : ℕ) < 65536 := (i 0).isLt
  have hN : (i 0 : ℕ) / 512 < cfg0.N := lt_of_lt_of_eq (by omega) (show cfg0.N = 128 from N_0).symm
  refine ⟨⟨_, hN⟩, (ix_out _).2.2.1.2, ?_⟩
  show i ∈ ((View.whole main_v28_2).slice (win0_13.rect ⟨_, hN⟩)).set
  rw [View.set_slice_whole, Rect.mem_set_unit]
  exact in_block (by decide) i _ _ (ix_out _).2.2.1.1 rfl

theorem queryIn_eq : (dats m 0 c).arrAt 13 cfg0.N = queryInOf m c :=
  (dats m 0 c).arrAt_eq_of_cover 13 _ (fun t _ => queryIn_flushed m c t) queryIn_covered

/-- The array of `keyIn`. -/
def keyInOf : Buf (Elt Ideal) ((c : Thread nD τ).loc main_v28_3) := fun i : S65536x512.Idx => (args m c).keyIn (i 0) (i 1)

theorem keyIn_flushed (t : Fin cfg0.N) : (dats m 0 c).flushed 14 t = ((cfg0.win 14).blk t).view.read (Elt Ideal) (keyInOf m c) := by
  rw [Value.flushed14]
  funext y
  exact block_entry (args m c).keyIn t.val _ (fun i j r h => keyIn_point m c t i r h j)
    ((cfg0.win 14).xinj (grid0.coords t) y) (((cfg0.win 14).blk t).view.emb y 0) (((cfg0.win 14).blk t).view.emb y 1) _ _
    (congrFun (ix_out _).2.2.2.1.1 0) (congrFun (ix_out _).2.2.2.1.1 1) rfl rfl

theorem keyIn_covered (i : S65536x512.Idx) : ∃ t : Fin cfg0.N, (cfg0.win 14).flush t = true ∧ i ∈ ((cfg0.win 14).blk t).view.set := by
  have i0 : (i 0 : ℕ) < 65536 := (i 0).isLt
  have hN : (i 0 : ℕ) / 512 < cfg0.N := lt_of_lt_of_eq (by omega) (show cfg0.N = 128 from N_0).symm
  refine ⟨⟨_, hN⟩, (ix_out _).2.2.2.1.2, ?_⟩
  show i ∈ ((View.whole main_v28_3).slice (win0_14.rect ⟨_, hN⟩)).set
  rw [View.set_slice_whole, Rect.mem_set_unit]
  exact in_block (by decide) i _ _ (ix_out _).2.2.2.1.1 rfl

theorem keyIn_eq : (dats m 0 c).arrAt 14 cfg0.N = keyInOf m c :=
  (dats m 0 c).arrAt_eq_of_cover 14 _ (fun t _ => keyIn_flushed m c t) keyIn_covered

/-- The array of `queryOut`. -/
def queryOutOf : Buf (Elt Ideal) ((c : Thread nD τ).loc main_v28_4) := fun i : S65536x512.Idx => (args m c).queryOut (i 0) (i 1)

theorem queryOut_flushed (t : Fin cfg0.N) : (dats m 0 c).flushed 15 t = ((cfg0.win 15).blk t).view.read (Elt Ideal) (queryOutOf m c) := by
  rw [Value.flushed15]
  funext y
  exact block_entry (args m c).queryOut t.val _ (fun i j r h => queryOut_point m c t i r h j)
    ((cfg0.win 15).xinj (grid0.coords t) y) (((cfg0.win 15).blk t).view.emb y 0) (((cfg0.win 15).blk t).view.emb y 1) _ _
    (congrFun (ix_out _).2.2.2.2.1.1 0) (congrFun (ix_out _).2.2.2.2.1.1 1) rfl rfl

theorem queryOut_covered (i : S65536x512.Idx) : ∃ t : Fin cfg0.N, (cfg0.win 15).flush t = true ∧ i ∈ ((cfg0.win 15).blk t).view.set := by
  have i0 : (i 0 : ℕ) < 65536 := (i 0).isLt
  have hN : (i 0 : ℕ) / 512 < cfg0.N := lt_of_lt_of_eq (by omega) (show cfg0.N = 128 from N_0).symm
  refine ⟨⟨_, hN⟩, (ix_out _).2.2.2.2.1.2, ?_⟩
  show i ∈ ((View.whole main_v28_4).slice (win0_15.rect ⟨_, hN⟩)).set
  rw [View.set_slice_whole, Rect.mem_set_unit]
  exact in_block (by decide) i _ _ (ix_out _).2.2.2.2.1.1 rfl

theorem queryOut_eq : (dats m 0 c).arrAt 15 cfg0.N = queryOutOf m c :=
  (dats m 0 c).arrAt_eq_of_cover 15 _ (fun t _ => queryOut_flushed m c t) queryOut_covered

/-- The array of `keyEnd`. -/
def keyEndOf : Buf (Elt Ideal) ((c : Thread nD τ).loc main_v28_5) := fun i : S65536x512.Idx => (args m c).keyEnd (i 0) (i 1)

theorem keyEnd_flushed (t : Fin cfg0.N) : (dats m 0 c).flushed 16 t = ((cfg0.win 16).blk t).view.read (Elt Ideal) (keyEndOf m c) := by
  rw [Value.flushed16]
  funext y
  exact block_entry (args m c).keyEnd t.val _ (fun i j r h => keyEnd_point m c t i r h j)
    ((cfg0.win 16).xinj (grid0.coords t) y) (((cfg0.win 16).blk t).view.emb y 0) (((cfg0.win 16).blk t).view.emb y 1) _ _
    (congrFun (ix_out _).2.2.2.2.2.1.1 0) (congrFun (ix_out _).2.2.2.2.2.1.1 1) rfl rfl

theorem keyEnd_covered (i : S65536x512.Idx) : ∃ t : Fin cfg0.N, (cfg0.win 16).flush t = true ∧ i ∈ ((cfg0.win 16).blk t).view.set := by
  have i0 : (i 0 : ℕ) < 65536 := (i 0).isLt
  have hN : (i 0 : ℕ) / 512 < cfg0.N := lt_of_lt_of_eq (by omega) (show cfg0.N = 128 from N_0).symm
  refine ⟨⟨_, hN⟩, (ix_out _).2.2.2.2.2.1.2, ?_⟩
  show i ∈ ((View.whole main_v28_5).slice (win0_16.rect ⟨_, hN⟩)).set
  rw [View.set_slice_whole, Rect.mem_set_unit]
  exact in_block (by decide) i _ _ (ix_out _).2.2.2.2.2.1.1 rfl

theorem keyEnd_eq : (dats m 0 c).arrAt 16 cfg0.N = keyEndOf m c :=
  (dats m 0 c).arrAt_eq_of_cover 16 _ (fun t _ => keyEnd_flushed m c t) keyEnd_covered

/-- The array of `decay`. -/
def decayOf : Buf (Elt Ideal) ((c : Thread nD τ).loc main_v28_6) := fun i : S1024x512.Idx => (args m c).decay (i 0) (i 1)

theorem decay_flushed (t : Fin cfg0.N) : (dats m 0 c).flushed 17 t = ((cfg0.win 17).blk t).view.read (Elt Ideal) (decayOf m c) := by
  rw [Value.flushed17]
  funext y
  exact block_entry (args m c).decay t.val _ (fun i j r h => decay_point m c t i j r h)
    ((cfg0.win 17).xinj (grid0.coords t) y) (((cfg0.win 17).blk t).view.emb y 0) (((cfg0.win 17).blk t).view.emb y 1) _ _
    (congrFun (ix_out _).2.2.2.2.2.2.1.1 0) (congrFun (ix_out _).2.2.2.2.2.2.1.1 1) rfl rfl

theorem decay_covered (i : S1024x512.Idx) : ∃ t : Fin cfg0.N, (cfg0.win 17).flush t = true ∧ i ∈ ((cfg0.win 17).blk t).view.set := by
  have i0 : (i 0 : ℕ) < 1024 := (i 0).isLt
  have hN : (i 0 : ℕ) / 8 < cfg0.N := lt_of_lt_of_eq (by omega) (show cfg0.N = 128 from N_0).symm
  refine ⟨⟨_, hN⟩, (ix_out _).2.2.2.2.2.2.1.2, ?_⟩
  show i ∈ ((View.whole main_v28_6).slice (win0_17.rect ⟨_, hN⟩)).set
  rw [View.set_slice_whole, Rect.mem_set_unit]
  exact in_block (by decide) i _ _ (ix_out _).2.2.2.2.2.2.1.1 rfl

theorem decay_eq : (dats m 0 c).arrAt 17 cfg0.N = decayOf m c :=
  (dats m 0 c).arrAt_eq_of_cover 17 _ (fun t _ => decay_flushed m c t) decay_covered

/-- The array of `value`. -/
def valueOf : Buf (Elt Ideal) ((c : Thread nD τ).loc main_v28_7) := fun i : S65536x1024.Idx => (args m c).value (i 0) (i 1)

theorem value_flushed (t : Fin cfg0.N) : (dats m 0 c).flushed 18 t = ((cfg0.win 18).blk t).view.read (Elt Ideal) (valueOf m c) := by
  rw [Value.flushed18]
  funext y
  exact block_entry (args m c).value t.val _ (fun i j r h => value_point m c t i r h j)
    ((cfg0.win 18).xinj (grid0.coords t) y) (((cfg0.win 18).blk t).view.emb y 0) (((cfg0.win 18).blk t).view.emb y 1) _ _
    (congrFun (ix_out _).2.2.2.2.2.2.2.1.1 0) (congrFun (ix_out _).2.2.2.2.2.2.2.1.1 1) rfl rfl

theorem value_covered (i : S65536x1024.Idx) : ∃ t : Fin cfg0.N, (cfg0.win 18).flush t = true ∧ i ∈ ((cfg0.win 18).blk t).view.set := by
  have i0 : (i 0 : ℕ) < 65536 := (i 0).isLt
  have hN : (i 0 : ℕ) / 512 < cfg0.N := lt_of_lt_of_eq (by omega) (show cfg0.N = 128 from N_0).symm
  refine ⟨⟨_, hN⟩, (ix_out _).2.2.2.2.2.2.2.1.2, ?_⟩
  show i ∈ ((View.whole main_v28_7).slice (win0_18.rect ⟨_, hN⟩)).set
  rw [View.set_slice_whole, Rect.mem_set_unit]
  exact in_block (by decide) i _ _ (ix_out _).2.2.2.2.2.2.2.1.1 rfl

theorem value_eq : (dats m 0 c).arrAt 18 cfg0.N = valueOf m c :=
  (dats m 0 c).arrAt_eq_of_cover 18 _ (fun t _ => value_flushed m c t) value_covered

/-- The array of `readOut`. -/
def readOutOf : Buf (Elt Ideal) ((c : Thread nD τ).loc main_v28_8) := fun i : S65536x1024.Idx => (args m c).readOut (i 0) (i 1)

theorem readOut_flushed (t : Fin cfg0.N) : (dats m 0 c).flushed 19 t = ((cfg0.win 19).blk t).view.read (Elt Ideal) (readOutOf m c) := by
  rw [Value.flushed19]
  funext y
  exact block_entry (args m c).readOut t.val _ (fun i j r h => readOut_point m c t i r h j)
    ((cfg0.win 19).xinj (grid0.coords t) y) (((cfg0.win 19).blk t).view.emb y 0) (((cfg0.win 19).blk t).view.emb y 1) _ _
    (congrFun (ix_out _).2.2.2.2.2.2.2.2.1 0) (congrFun (ix_out _).2.2.2.2.2.2.2.2.1 1) rfl rfl

theorem readOut_covered (i : S65536x1024.Idx) : ∃ t : Fin cfg0.N, (cfg0.win 19).flush t = true ∧ i ∈ ((cfg0.win 19).blk t).view.set := by
  have i0 : (i 0 : ℕ) < 65536 := (i 0).isLt
  have hN : (i 0 : ℕ) / 512 < cfg0.N := lt_of_lt_of_eq (by omega) (show cfg0.N = 128 from N_0).symm
  refine ⟨⟨_, hN⟩, (ix_out _).2.2.2.2.2.2.2.2.2, ?_⟩
  show i ∈ ((View.whole main_v28_8).slice (win0_19.rect ⟨_, hN⟩)).set
  rw [View.set_slice_whole, Rect.mem_set_unit]
  exact in_block (by decide) i _ _ (ix_out _).2.2.2.2.2.2.2.2.1 rfl

theorem readOut_eq : (dats m 0 c).arrAt 19 cfg0.N = readOutOf m c :=
  (dats m 0 c).arrAt_eq_of_cover 19 _ (fun t _ => readOut_flushed m c t) readOut_covered

end Cert.MixIn

end
-- ==== Proof.MixClaims.lean ====
/-
  The claims about the mixers' input kernel: its nine arrays and its reference's are the same functions of the arguments.
-/
module

public import proofs.«01_k».proof.Defs
public import proofs.«01_k».proof.Proof.MixRead
public import proofs.«01_k».proof.Proof.MixArray
public import proofs.«01_k».proof.Proof.FfnClaims
public import proofs.«01_k».proof.Proof.Gen.Kernel4.Frame
public import Idealize.ShloMosaic.Lib.Quiescent

@[expose] public section

set_option maxRecDepth 8192

noncomputable section

namespace Cert.MixRef

open Idealize.ShloMosaic Idealize.ShloMosaic.TcCoe Idealize.SL.Sem
open Cert.Reference4Ideal Cert.Reference4Ideal.Gen

variable (m : (ℓ : Loc nD τ sig) → Buf (Elt Ideal) ℓ) (c : Dev nD)

/-- An argument of the reference in memory. -/
abbrev at4 (b : Ref sig .tc) : Buf (Elt Ideal) ((c.tc : Thread nD τ).loc b) := m ((c.tc : Thread nD τ).loc b)

/-- The reference's arguments. -/
def refArgs : MixIn.Args :=
  argsOf (at4 m c main_arg0) (at4 m c main_arg1) (at4 m c main_arg2) (at4 m c main_arg3) (at4 m c main_arg4) (at4 m c main_arg5) (at4 m c main_arg6) (at4 m c main_arg7) (at4 m c main_arg8) (at4 m c main_arg9)

/-- The reference for the first mixer's result, gated. -/
def mixedRef : FVec Ideal S65536x1024 .bf16 :=
  truncf .bf16 (mix (gates (projs (at4 m c main_arg0) (at4 m c main_arg1)) (at4 m c main_arg2)) (gelus (wide 0 slices_S65536x7184_S65536x1024_0_0 (projs (at4 m c main_arg0) (at4 m c main_arg1)))) (operand (at4 m c main_arg3) (at4 m c main_arg4) (at4 m c main_arg5) (at4 m c main_arg6) (projs (at4 m c main_arg0) (at4 m c main_arg1))) (at4 m c main_arg9) : FVec Ideal S65536x1024 .f32) bitsLt_bf16_f32

theorem mixedRef_apply (r : Fin 65536) (j : Fin 1024) : mixedRef m c (ix2 r j) = (refArgs m c).mixed r j :=
  mixed_at (at4 m c main_arg0) (at4 m c main_arg1) (at4 m c main_arg2) (at4 m c main_arg3) (at4 m c main_arg4) (at4 m c main_arg5) (at4 m c main_arg6) (at4 m c main_arg7) (at4 m c main_arg8) (at4 m c main_arg9) r j

/-- The reference for the second mixer's gate. -/
def gateBRef : FVec Ideal S65536x1024 .bf16 :=
  truncf .bf16 (extractStridedSlice S65536x1024 ![0, 1024] (gates (projs (at4 m c main_arg0) (at4 m c main_arg1)) (at4 m c main_arg2)) slices_S65536x2048_S65536x1024_0_1024 : FVec Ideal S65536x1024 .f32) bitsLt_bf16_f32

theorem gateBRef_apply (r : Fin 65536) (j : Fin 1024) : gateBRef m c (ix2 r j) = (refArgs m c).gateB r j :=
  gateB_at (at4 m c main_arg0) (at4 m c main_arg1) (at4 m c main_arg2) (at4 m c main_arg3) (at4 m c main_arg4) (at4 m c main_arg5) (at4 m c main_arg6) (at4 m c main_arg7) (at4 m c main_arg8) (at4 m c main_arg9) r j

/-- The reference for the queries decayed from the middle of their chunk. -/
def queryInRef : FVec Ideal S65536x512 .bf16 :=
  times (queries (projs (at4 m c main_arg0) (at4 m c main_arg1))) (subf (decays (at4 m c main_arg7) (at4 m c main_arg8) (projs (at4 m c main_arg0) (at4 m c main_arg1))) (over (middle (decays (at4 m c main_arg7) (at4 m c main_arg8) (projs (at4 m c main_arg0) (at4 m c main_arg1))))))

theorem queryInRef_apply (r : Fin 65536) (j : Fin 512) : queryInRef m c (ix2 r j) = (refArgs m c).queryIn r j :=
  queryIn_at (at4 m c main_arg0) (at4 m c main_arg1) (at4 m c main_arg2) (at4 m c main_arg3) (at4 m c main_arg4) (at4 m c main_arg5) (at4 m c main_arg6) (at4 m c main_arg7) (at4 m c main_arg8) (at4 m c main_arg9) r j

/-- The reference for the keys decayed to the middle of their chunk. -/
def keyInRef : FVec Ideal S65536x512 .bf16 :=
  times (keys (projs (at4 m c main_arg0) (at4 m c main_arg1))) (subf (over (middle (decays (at4 m c main_arg7) (at4 m c main_arg8) (projs (at4 m c main_arg0) (at4 m c main_arg1))))) (decays (at4 m c main_arg7) (at4 m c main_arg8) (projs (at4 m c main_arg0) (at4 m c main_arg1))))

theorem keyInRef_apply (r : Fin 65536) (j : Fin 512) : keyInRef m c (ix2 r j) = (refArgs m c).keyIn r j :=
  keyIn_at (at4 m c main_arg0) (at4 m c main_arg1) (at4 m c main_arg2) (at4 m c main_arg3) (at4 m c main_arg4) (at4 m c main_arg5) (at4 m c main_arg6) (at4 m c main_arg7) (at4 m c main_arg8) (at4 m c main_arg9) r j

/-- The reference for the queries decayed from the start of their chunk. -/
def queryOutRef : FVec Ideal S65536x512 .bf16 :=
  times (queries (projs (at4 m c main_arg0) (at4 m c main_arg1))) (decays (at4 m c main_arg7) (at4 m c main_arg8) (projs (at4 m c main_arg0) (at4 m c main_arg1)))

theorem queryOutRef_apply (r : Fin 65536) (j : Fin 512) : queryOutRef m c (ix2 r j) = (refArgs m c).queryOut r j :=
  queryOut_at (at4 m c main_arg0) (at4 m c main_arg1) (at4 m c main_arg2) (at4 m c main_arg3) (at4 m c main_arg4) (at4 m c main_arg5) (at4 m c main_arg6) (at4 m c main_arg7) (at4 m c main_arg8) (at4 m c main_arg9) r j

/-- The reference for the keys decayed to the end of their chunk. -/
def keyEndRef : FVec Ideal S65536x512 .bf16 :=
  times (keys (projs (at4 m c main_arg0) (at4 m c main_arg1))) (subf (over (final (decays (at4 m c main_arg7) (at4 m c main_arg8) (projs (at4 m c main_arg0) (at4 m c main_arg1))))) (decays (at4 m c main_arg7) (at4 m c main_arg8) (projs (at4 m c main_arg0) (at4 m c main_arg1))))

theorem keyEndRef_apply (r : Fin 65536) (j : Fin 512) : keyEndRef m c (ix2 r j) = (refArgs m c).keyEnd r j :=
  keyEnd_at (at4 m c main_arg0) (at4 m c main_arg1) (at4 m c main_arg2) (at4 m c main_arg3) (at4 m c main_arg4) (at4 m c main_arg5) (at4 m c main_arg6) (at4 m c main_arg7) (at4 m c main_arg8) (at4 m c main_arg9) r j

/-- The reference for the decay over each chunk. -/
def decayRef : FVec Ideal S1024x512 .f32 :=
  shapeCast S1024x512 (Host.exp (final (decays (at4 m c main_arg7) (at4 m c main_arg8) (projs (at4 m c main_arg0) (at4 m c main_arg1))))) shapeCasts_S1024x1x512_S1024x512

theorem decayRef_apply (r : Fin 1024) (j : Fin 512) : decayRef m c (ix2 r j) = (refArgs m c).decay r j :=
  decay_at (at4 m c main_arg0) (at4 m c main_arg1) (at4 m c main_arg2) (at4 m c main_arg3) (at4 m c main_arg4) (at4 m c main_arg5) (at4 m c main_arg6) (at4 m c main_arg7) (at4 m c main_arg8) (at4 m c main_arg9) r j

/-- The reference for the values. -/
def valueRef : FVec Ideal S65536x1024 .bf16 :=
  truncf .bf16 (wide 3072 slices_S65536x7184_S65536x1024_0_3072 (projs (at4 m c main_arg0) (at4 m c main_arg1)) : FVec Ideal S65536x1024 .f32) bitsLt_bf16_f32

theorem valueRef_apply (r : Fin 65536) (j : Fin 1024) : valueRef m c (ix2 r j) = (refArgs m c).value r j :=
  value_at (at4 m c main_arg0) (at4 m c main_arg1) (at4 m c main_arg2) (at4 m c main_arg3) (at4 m c main_arg4) (at4 m c main_arg5) (at4 m c main_arg6) (at4 m c main_arg7) (at4 m c main_arg8) (at4 m c main_arg9) r j

/-- The reference for the gated read-out. -/
def readOutRef : FVec Ideal S65536x1024 .bf16 :=
  truncf .bf16 (swish (wide 4096 slices_S65536x7184_S65536x1024_0_4096 (projs (at4 m c main_arg0) (at4 m c main_arg1))) : FVec Ideal S65536x1024 .f32) bitsLt_bf16_f32

theorem readOutRef_apply (r : Fin 65536) (j : Fin 1024) : readOutRef m c (ix2 r j) = (refArgs m c).readOut r j :=
  readOut_at (at4 m c main_arg0) (at4 m c main_arg1) (at4 m c main_arg2) (at4 m c main_arg3) (at4 m c main_arg4) (at4 m c main_arg5) (at4 m c main_arg6) (at4 m c main_arg7) (at4 m c main_arg8) (at4 m c main_arg9) r j

/-- The nine arrays of the reference, as named parts. -/
theorem run_parts (ρ : Dev nD → PrngReg) : θ_run defs (onTc (τ := τ) (main (F := Ideal))) ⟨m, fun _ => 0, ρ⟩ fun r => ∀ c : Dev nD,
    r.2.mem ((c.tc : Thread nD τ).loc main_v117) = mixedRef m c
    ∧ r.2.mem ((c.tc : Thread nD τ).loc main_v118) = gateBRef m c
    ∧ r.2.mem ((c.tc : Thread nD τ).loc main_v120) = queryInRef m c
    ∧ r.2.mem ((c.tc : Thread nD τ).loc main_v122) = keyInRef m c
    ∧ r.2.mem ((c.tc : Thread nD τ).loc main_v124) = queryOutRef m c
    ∧ r.2.mem ((c.tc : Thread nD τ).loc main_v126) = keyEndRef m c
    ∧ r.2.mem ((c.tc : Thread nD τ).loc main_v127) = decayRef m c
    ∧ r.2.mem ((c.tc : Thread nD τ).loc main_v128) = valueRef m c
    ∧ r.2.mem ((c.tc : Thread nD τ).loc main_v130) = readOutRef m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.MixRef

namespace Cert.MixIn

open Idealize.ShloMosaic Idealize.ShloMosaic.TcCoe Idealize.SL.Sem

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2.2.2.2.2.2.2.2.2, sem_eq_zero_of_no_sems (by decide) r.2⟩)
    (Cert.Reference4Ideal.Value.run m ρ)

theorem preserves4 : Cert.preserves_Kernel4_Kernel4Ideal :=
  IdealRules.named_const.statement Cert.Kernel4Ideal.κ "log2e_tau" .f32 0x3DB8AA3B#32 (((Real.log 2)⁻¹ * 16⁻¹ : ℝ) : EReal) rfl

theorem algebraic4 : Cert.algebraic_Kernel4Ideal_Reference4Ideal := fun m ρ m' ρ' _ ha =>
  ⟨fun c => mixedOf m c, fun c => gateBOf m c, fun c => queryInOf m c, fun c => keyInOf m c, fun c => queryOutOf m c, fun c => keyEndOf m c, fun c => decayOf m c, fun c => valueOf m c, fun c => readOutOf m c,
    (θ_run Cert.Kernel4Ideal.defs _ _).mono (fun _ h c => ⟨(h c).1.trans (mixed_eq m c),
      (h c).2.1.trans (gateB_eq m c),
      (h c).2.2.1.trans (queryIn_eq m c),
      (h c).2.2.2.1.trans (keyIn_eq m c),
      (h c).2.2.2.2.1.trans (queryOut_eq m c),
      (h c).2.2.2.2.2.1.trans (keyEnd_eq m c),
      (h c).2.2.2.2.2.2.1.trans (decay_eq m c),
      (h c).2.2.2.2.2.2.2.1.trans (value_eq m c),
      (h c).2.2.2.2.2.2.2.2.1.trans (readOut_eq m c), (h c).2.2.2.2.2.2.2.2.2⟩)
      (Cert.Kernel4Ideal.Value.run_blocks m ρ),
    (θ_run Cert.Reference4Ideal.defs _ _).mono (fun _ h c => by
      obtain ⟨h0, h1, h2, h3, h4, h5, h6, h7, h8, h9, -⟩ := ha c
      have e : MixRef.refArgs m' c = args m c := by
        unfold MixRef.refArgs MixRef.at4
        rw [h0, h1, h2, h3, h4, h5, h6, h7, h8, h9]
        rfl
      exact ⟨(h c).1.trans (Ffn.ext_rows (n0 := 65536) (n1 := 1024) _ _ fun r j => (MixRef.mixedRef_apply m' c r j).trans (congrArg (fun a => Args.mixed a r j) e)),
        (h c).2.1.trans (Ffn.ext_rows (n0 := 65536) (n1 := 1024) _ _ fun r j => (MixRef.gateBRef_apply m' c r j).trans (congrArg (fun a => Args.gateB a r j) e)),
        (h c).2.2.1.trans (Ffn.ext_rows (n0 := 65536) (n1 := 512) _ _ fun r j => (MixRef.queryInRef_apply m' c r j).trans (congrArg (fun a => Args.queryIn a r j) e)),
        (h c).2.2.2.1.trans (Ffn.ext_rows (n0 := 65536) (n1 := 512) _ _ fun r j => (MixRef.keyInRef_apply m' c r j).trans (congrArg (fun a => Args.keyIn a r j) e)),
        (h c).2.2.2.2.1.trans (Ffn.ext_rows (n0 := 65536) (n1 := 512) _ _ fun r j => (MixRef.queryOutRef_apply m' c r j).trans (congrArg (fun a => Args.queryOut a r j) e)),
        (h c).2.2.2.2.2.1.trans (Ffn.ext_rows (n0 := 65536) (n1 := 512) _ _ fun r j => (MixRef.keyEndRef_apply m' c r j).trans (congrArg (fun a => Args.keyEnd a r j) e)),
        (h c).2.2.2.2.2.2.1.trans (Ffn.ext_rows (n0 := 1024) (n1 := 512) _ _ fun r j => (MixRef.decayRef_apply m' c r j).trans (congrArg (fun a => Args.decay a r j) e)),
        (h c).2.2.2.2.2.2.2.1.trans (Ffn.ext_rows (n0 := 65536) (n1 := 1024) _ _ fun r j => (MixRef.valueRef_apply m' c r j).trans (congrArg (fun a => Args.value a r j) e)),
        (h c).2.2.2.2.2.2.2.2.1.trans (Ffn.ext_rows (n0 := 65536) (n1 := 1024) _ _ fun r j => (MixRef.readOutRef_apply m' c r j).trans (congrArg (fun a => Args.readOut a r j) e)),
        (h c).2.2.2.2.2.2.2.2.2⟩)
      (MixRef.run_parts m' ρ')⟩

end Cert.MixIn

end
-- ==== Proof.lean ====
module

public import proofs.«01_k».proof.Defs
public import proofs.«01_k».proof.Proof.GlaClaims
public import proofs.«01_k».proof.Proof.FfnClaims
public import proofs.«01_k».proof.Proof.MixClaims

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Gla.preFacts, Cert.Gla.frame_kernel, Cert.Gla.frame_ideal, Cert.Gla.frame_ideal_finite,
    Cert.Gla.frame_reference, Cert.Gla.frame_reference_finite, Cert.Ffn.frame_kernel2, Cert.Ffn.frame_ideal2,
    Cert.Ffn.frame_reference2, Cert.Ffn.frame_kernel3, Cert.Ffn.frame_ideal3, Cert.Ffn.frame_reference3, Cert.MixIn.frame_kernel4,
    Cert.MixIn.frame_ideal4, Cert.MixIn.frame_reference4, trivial, Cert.Gla.algebraic, trivial, Cert.Ffn.algebraic2, trivial,
    Cert.Ffn.algebraic3, Cert.MixIn.preserves4, Cert.MixIn.algebraic4⟩

end Cert.Proof

end
